-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_met [hPre_in_range_and_met : Cert.Pre_in_range_and_met.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_met.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_met [hPre_in_range_and_met : Cert.Pre_in_range_and_met.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_met.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_met [hKernelIdeal : Cert.KernelIdeal.Facts] [hPre_in_range_and_met : Cert.Pre_in_range_and_met.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_met m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_met [hReferenceIdeal : Cert.ReferenceIdeal.Facts] [hPre_in_range_and_met : Cert.Pre_in_range_and_met.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_met m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_and_met [hKernelIdeal : Cert.KernelIdeal.Facts] [hReferenceIdeal : Cert.ReferenceIdeal.Facts] [hPre_in_range_and_met : Cert.Pre_in_range_and_met.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_met m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_met : Cert.Pre_in_range_and_met.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_met (hKernelIdeal := hKernelIdeal) (hPre_in_range_and_met := hPre_in_range_and_met)
    ∧ quiescent_ReferenceIdeal (hReferenceIdeal := hReferenceIdeal)
    ∧ quiescent_ReferenceIdeal_pre_in_range_and_met (hReferenceIdeal := hReferenceIdeal) (hPre_in_range_and_met := hPre_in_range_and_met)
    ∧ preserves_Kernel_KernelIdeal
    ∧ algebraic_KernelIdeal_ReferenceIdeal_pre_in_range_and_met (hKernelIdeal := hKernelIdeal) (hReferenceIdeal := hReferenceIdeal) (hPre_in_range_and_met := hPre_in_range_and_met)
-- ==== Pre_in_range.lean ====
abbrev S4x96x384x384 : Shape := ⟨4, ![4, 96, 384, 384]⟩
abbrev S4x1 : Shape := ⟨2, ![4, 1]⟩
abbrev S4x1x384x384 : Shape := ⟨4, ![4, 1, 384, 384]⟩
abbrev S4x256x3 : Shape := ⟨3, ![4, 256, 3]⟩
abbrev S_ : Shape := ⟨0, ![]⟩

class Facts : Prop where
  bcast_S_S4x1x384x384 : S_.BroadcastsInDim S4x1x384x384 (![] : Fin 0 → Fin S4x1x384x384.rank)
  reducesTo_S4x1x384x384_S_d0_1_2_3 : S4x1x384x384.ReducesTo [0, 1, 2, 3] S_
  h_S_ : 0 < S_.numel
  bcast_S_S4x256x3 : S_.BroadcastsInDim S4x256x3 (![] : Fin 0 → Fin S4x256x3.rank)
  reducesTo_S4x256x3_S_d0_1_2 : S4x256x3.ReducesTo [0, 1, 2] S_

variable [Facts]

def fn {F : FTy → Type} [FloatOps F] (main_arg0 : FVec F S4x96x384x384 .f32) (main_arg1 : IVec S4x1 32) (main_arg2 : IVec S4x1x384x384 32) (main_arg3 : IVec S4x256x3 32) : IVec S_ 1 :=
  let main_c : IVec S_ 32 := constantI S_ 32 0#32
  let main_v0 : IVec S4x1x384x384 32 := broadcastInDim S4x1x384x384 ![] bcast_S_S4x1x384x384 main_c
  let main_v1 : IVec S4x1x384x384 1 := cmpi .sge main_arg2 main_v0
  let main_c_0 : IVec S_ 32 := constantI S_ 32 1024#32
  let main_v2 : IVec S4x1x384x384 32 := broadcastInDim S4x1x384x384 ![] bcast_S_S4x1x384x384 main_c_0
  let main_v3 : IVec S4x1x384x384 1 := cmpi .slt main_arg2 main_v2
  let main_v4 : IVec S4x1x384x384 1 := andi main_v1 main_v3
  let main_c_1 : IVec S_ 1 := constantI S_ 1 1#1
  let main_v5 : IVec S_ 1 := (fun x v => Host.reduce IntOp.andi x v reducesTo_S4x1x384x384_S_d0_1_2_3 h_S_) main_v4 main_c_1
  let main_c_2 : IVec S_ 32 := constantI S_ 32 0#32
  let main_v6 : IVec S4x256x3 32 := broadcastInDim S4x256x3 ![] bcast_S_S4x256x3 main_c_2
  let main_v7 : IVec S4x256x3 1 := cmpi .sge main_arg3 main_v6
  let main_c_3 : IVec S_ 32 := constantI S_ 32 1024#32
  let main_v8 : IVec S4x256x3 32 := broadcastInDim S4x256x3 ![] bcast_S_S4x256x3 main_c_3
  let main_v9 : IVec S4x256x3 1 := cmpi .slt main_arg3 main_v8
  let main_v10 : IVec S4x256x3 1 := andi main_v7 main_v9
  let main_c_4 : IVec S_ 1 := constantI S_ 1 1#1
  let main_v11 : IVec S_ 1 := (fun x v => Host.reduce IntOp.andi x v reducesTo_S4x256x3_S_d0_1_2 h_S_) main_v10 main_c_4
  let main_v12 : IVec S_ 1 := andi main_v5 main_v11
  main_v12
-- ==== Pre_in_range_and_met.lean ====
abbrev S4x96x384x384 : Shape := ⟨4, ![4, 96, 384, 384]⟩
abbrev S4x1 : Shape := ⟨2, ![4, 1]⟩
abbrev S4x1x384x384 : Shape := ⟨4, ![4, 1, 384, 384]⟩
abbrev S4x256x3 : Shape := ⟨3, ![4, 256, 3]⟩
abbrev S4x1x147456 : Shape := ⟨3, ![4, 1, 147456]⟩
abbrev S4x256x2 : Shape := ⟨3, ![4, 256, 2]⟩
abbrev S4x512x1 : Shape := ⟨3, ![4, 512, 1]⟩
abbrev S4x512x147456 : Shape := ⟨3, ![4, 512, 147456]⟩
abbrev S_ : Shape := ⟨0, ![]⟩
abbrev S4x512 : Shape := ⟨2, ![4, 512]⟩

class Facts : Prop where
  shapeCasts_S4x1x384x384_S4x1x147456 : S4x1x384x384.ShapeCasts S4x1x147456
  slices_S4x256x3_S4x256x2_0_0_0 : S4x256x3.Slices ![0, 0, 0] S4x256x2
  shapeCasts_S4x256x2_S4x512x1 : S4x256x2.ShapeCasts S4x512x1
  bcast_S4x512x1_S4x512x147456_0_1_2 : S4x512x1.BroadcastsInDim S4x512x147456 (![0, 1, 2] : Fin 3 → Fin S4x512x147456.rank)
  bcast_S4x1x147456_S4x512x147456_0_1_2 : S4x1x147456.BroadcastsInDim S4x512x147456 (![0, 1, 2] : Fin 3 → Fin S4x512x147456.rank)
  reducesTo_S4x512x147456_S4x512_d2 : S4x512x147456.ReducesTo [2] S4x512
  h_S_ : 0 < S_.numel
  bcast_S_S4x1x384x384 : S_.BroadcastsInDim S4x1x384x384 (![] : Fin 0 → Fin S4x1x384x384.rank)
  reducesTo_S4x1x384x384_S_d0_1_2_3 : S4x1x384x384.ReducesTo [0, 1, 2, 3] S_
  bcast_S_S4x256x3 : S_.BroadcastsInDim S4x256x3 (![] : Fin 0 → Fin S4x256x3.rank)
  reducesTo_S4x256x3_S_d0_1_2 : S4x256x3.ReducesTo [0, 1, 2] S_
  reducesTo_S4x512_S_d0_1 : S4x512.ReducesTo [0, 1] S_

variable [Facts]

def fn_part1 {F : FTy → Type} [FloatOps F] (main_v6 : IVec S4x512 1) (main_v12 : IVec S_ 1) (main_v17 : IVec S4x256x3 1) : IVec S_ 1 :=
  let main_c_5 : IVec S_ 1 := constantI S_ 1 1#1
  let main_v18 : IVec S_ 1 := (fun x v => Host.reduce IntOp.andi x v reducesTo_S4x256x3_S_d0_1_2 h_S_) main_v17 main_c_5
  let main_v19 : IVec S_ 1 := andi main_v12 main_v18
  let main_c_6 : IVec S_ 1 := constantI S_ 1 1#1
  let main_v20 : IVec S_ 1 := (fun x v => Host.reduce IntOp.andi x v reducesTo_S4x512_S_d0_1 h_S_) main_v6 main_c_6
  let main_v21 : IVec S_ 1 := andi main_v19 main_v20
  main_v21

def fn {F : FTy → Type} [FloatOps F] (main_arg0 : FVec F S4x96x384x384 .f32) (main_arg1 : IVec S4x1 32) (main_arg2 : IVec S4x1x384x384 32) (main_arg3 : IVec S4x256x3 32) : IVec S_ 1 :=
  let main_v0 : IVec S4x1x147456 32 := shapeCast S4x1x147456 main_arg2 shapeCasts_S4x1x384x384_S4x1x147456
  let main_v1 : IVec S4x256x2 32 := (extractStridedSlice S4x256x2 ![0, 0, 0] · slices_S4x256x3_S4x256x2_0_0_0) main_arg3
  let main_v2 : IVec S4x512x1 32 := shapeCast S4x512x1 main_v1 shapeCasts_S4x256x2_S4x512x1
  let main_v3 : IVec S4x512x147456 32 := broadcastInDim S4x512x147456 ![0, 1, 2] bcast_S4x512x1_S4x512x147456_0_1_2 main_v2
  let main_v4 : IVec S4x512x147456 32 := broadcastInDim S4x512x147456 ![0, 1, 2] bcast_S4x1x147456_S4x512x147456_0_1_2 main_v0
  let main_v5 : IVec S4x512x147456 1 := cmpi .eq main_v3 main_v4
  let main_c : IVec S_ 1 := constantI S_ 1 0#1
  let main_v6 : IVec S4x512 1 := (fun x v => Host.reduce IntOp.ori x v reducesTo_S4x512x147456_S4x512_d2 h_S_) main_v5 main_c
  let main_c_0 : IVec S_ 32 := constantI S_ 32 0#32
  let main_v7 : IVec S4x1x384x384 32 := broadcastInDim S4x1x384x384 ![] bcast_S_S4x1x384x384 main_c_0
  let main_v8 : IVec S4x1x384x384 1 := cmpi .sge main_arg2 main_v7
  let main_c_1 : IVec S_ 32 := constantI S_ 32 1024#32
  let main_v9 : IVec S4x1x384x384 32 := broadcastInDim S4x1x384x384 ![] bcast_S_S4x1x384x384 main_c_1
  let main_v10 : IVec S4x1x384x384 1 := cmpi .slt main_arg2 main_v9
  let main_v11 : IVec S4x1x384x384 1 := andi main_v8 main_v10
  let main_c_2 : IVec S_ 1 := constantI S_ 1 1#1
  let main_v12 : IVec S_ 1 := (fun x v => Host.reduce IntOp.andi x v reducesTo_S4x1x384x384_S_d0_1_2_3 h_S_) main_v11 main_c_2
  let main_c_3 : IVec S_ 32 := constantI S_ 32 0#32
  let main_v13 : IVec S4x256x3 32 := broadcastInDim S4x256x3 ![] bcast_S_S4x256x3 main_c_3
  let main_v14 : IVec S4x256x3 1 := cmpi .sge main_arg3 main_v13
  let main_c_4 : IVec S_ 32 := constantI S_ 32 1024#32
  let main_v15 : IVec S4x256x3 32 := broadcastInDim S4x256x3 ![] bcast_S_S4x256x3 main_c_4
  let main_v16 : IVec S4x256x3 1 := cmpi .slt main_arg3 main_v15
  let main_v17 : IVec S4x256x3 1 := andi main_v14 main_v16
  fn_part1 (F := F) main_v6 main_v12 main_v17
-- ==== Kernel.lean ====
abbrev S4x96x384x384 : Shape := ⟨4, ![4, 96, 384, 384]⟩
abbrev S4x1 : Shape := ⟨2, ![4, 1]⟩
abbrev S4x1x384x384 : Shape := ⟨4, ![4, 1, 384, 384]⟩
abbrev S4x256x3 : Shape := ⟨3, ![4, 256, 3]⟩
abbrev S4x256x1 : Shape := ⟨3, ![4, 256, 1]⟩
abbrev S4x256 : Shape := ⟨2, ![4, 256]⟩
abbrev S1024 : Shape := ⟨1, ![1024]⟩
abbrev S98304 : Shape := ⟨1, ![98304]⟩
abbrev S13312 : Shape := ⟨1, ![13312]⟩
abbrev S8x384 : Shape := ⟨2, ![8, 384]⟩
abbrev S12x8x384 : Shape := ⟨3, ![12, 8, 384]⟩
abbrev S256 : Shape := ⟨1, ![256]⟩
abbrev S3072 : Shape := ⟨1, ![3072]⟩
abbrev S_ : Shape := ⟨0, ![]⟩
abbrev S16 : Shape := ⟨1, ![16]⟩
abbrev S1x1x8x384 : Shape := ⟨4, ![1, 1, 8, 384]⟩
abbrev S1x12x8x384 : Shape := ⟨4, ![1, 12, 8, 384]⟩
abbrev S1x16 : Shape := ⟨2, ![1, 16]⟩
abbrev S1x1x16 : Shape := ⟨3, ![1, 1, 16]⟩
abbrev S4x96x256 : Shape := ⟨3, ![4, 96, 256]⟩
abbrev S4x256x96 : Shape := ⟨3, ![4, 256, 96]⟩

abbrev nBuf : Table → Nat
  | .hbm => 19
  | .local .scVector .vmem => 9
  | _ => 0

abbrev bufTy : (tb : Table) → Fin (nBuf tb) → BufTy
  | .hbm, ⟨0, _⟩ => ⟨S4x96x384x384, .f32⟩
  | .hbm, ⟨1, _⟩ => ⟨S4x1, .i32⟩
  | .hbm, ⟨2, _⟩ => ⟨S4x1x384x384, .i32⟩
  | .hbm, ⟨3, _⟩ => ⟨S4x256x3, .i32⟩
  | .hbm, ⟨4, _⟩ => ⟨S4x256x1, .i32⟩
  | .hbm, ⟨5, _⟩ => ⟨S4x256, .i32⟩
  | .hbm, ⟨6, _⟩ => ⟨S1024, .i32⟩
  | .hbm, ⟨7, _⟩ => ⟨S4x256x1, .i32⟩
  | .hbm, ⟨8, _⟩ => ⟨S4x256, .i32⟩
  | .hbm, ⟨9, _⟩ => ⟨S1024, .i32⟩
  | .hbm, ⟨10, _⟩ => ⟨S4x256x1, .i32⟩
  | .hbm, ⟨11, _⟩ => ⟨S4x256, .i32⟩
  | .hbm, ⟨12, _⟩ => ⟨S4x256, .f32⟩
  | .hbm, ⟨13, _⟩ => ⟨S98304, .f32⟩
  | .hbm, ⟨14, _⟩ => ⟨S98304, .f32⟩
  | .hbm, ⟨15, _⟩ => ⟨S4x96x256, .f32⟩
  | .hbm, ⟨16, _⟩ => ⟨S4x256x96, .f32⟩
  | .hbm, ⟨17, _⟩ => ⟨S4x96x256, .f32⟩
  | .hbm, ⟨18, _⟩ => ⟨S4x256x96, .f32⟩
  | .local .scVector .vmem, ⟨0, _⟩ => ⟨S13312, .f32⟩
  | .local .scVector .vmem, ⟨1, _⟩ => ⟨S8x384, .i32⟩
  | .local .scVector .vmem, ⟨2, _⟩ => ⟨S8x384, .i32⟩
  | .local .scVector .vmem, ⟨3, _⟩ => ⟨S12x8x384, .f32⟩
  | .local .scVector .vmem, ⟨4, _⟩ => ⟨S12x8x384, .f32⟩
  | .local .scVector .vmem, ⟨5, _⟩ => ⟨S256, .i32⟩
  | .local .scVector .vmem, ⟨6, _⟩ => ⟨S256, .i32⟩
  | .local .scVector .vmem, ⟨7, _⟩ => ⟨S3072, .f32⟩
  | .local .scVector .vmem, ⟨8, _⟩ => ⟨S3072, .f32⟩
  | _, _ => ⟨S4x96x384x384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_arg0_scv : Ref sig .scVector := ⟨.hbm, 0, rfl⟩
abbrev main_arg2_scv : Ref sig .scVector := ⟨.hbm, 2, rfl⟩
abbrev main_v2_scv : Ref sig .scVector := ⟨.hbm, 6, rfl⟩
abbrev main_v5_scv : Ref sig .scVector := ⟨.hbm, 9, rfl⟩
abbrev main_v9_0_scv : Ref sig .scVector := ⟨.hbm, 13, rfl⟩
abbrev main_v9_1_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_10 : BitVec 32 := 0#32
  let c832_i32 : BitVec 32 := 832#32
  let v31 : BitVec 32 := Scalar.addi c0_i32_10 c832_i32
  let c1_i32_11 : BitVec 32 := 1#32
  ⟨c0_i32_10, v31, c1_i32_11⟩
def k0_off1 (k0_t1 : Fin k0_t1_loop.trips) : Fin 1 → Nat :=
  let c0_i32_35 : BitVec 32 := 0#32
  let c0_i32_10 : BitVec 32 := 0#32
  let c1_i32_11 : BitVec 32 := 1#32
  let arg19 : BitVec 32 := Scf.iv c0_i32_10 c1_i32_11 k0_t1
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v52 : Index := Scalar.indexCast v51
  ![v52.toNat]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_14 : BitVec 32 := 0#32
  let c0_i32_15 : BitVec 32 := 0#32
  let c0_i32_16 : BitVec 32 := 0#32
  ![v11.toNat, 0, 0, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c12_i32 : BitVec 32 := 12#32
  let v29 : BitVec 32 := Scalar.muli v28 c12_i32
  let c0_i32_19 : BitVec 32 := 0#32
  let c0_i32_20 : BitVec 32 := 0#32
  ![v11.toNat, v29.toNat, 0, 0]
@[reducible] def k0_t2_loop : Scf.Loop 32 :=
  let c0_i32_23 : BitVec 32 := 0#32
  let c24_i32 : BitVec 32 := 24#32
  let v41 : BitVec 32 := Scalar.addi c0_i32_23 c24_i32
  let c1_i32_24 : BitVec 32 := 1#32
  ⟨c0_i32_23, v41, c1_i32_24⟩
def k0_off4 (i : grid0.Coords) (k0_t2 : Fin k0_t2_loop.trips) (c0_i32_36 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_37 : BitVec 32 := 0#32
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let v51 : BitVec 32 := Scalar.addi v50 c0_i32_36
  let c8_i32 : BitVec 32 := 8#32
  let v52 : BitVec 32 := Scalar.muli v51 c8_i32
  let c0_i32_38 : BitVec 32 := 0#32
  ![v11.toNat, 0, v52.toNat, 0]
def k0_off5 (i : grid0.Coords) (k0_t2 : Fin k0_t2_loop.trips) (c0_i32_36 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c12_i32 : BitVec 32 := 12#32
  let v29 : BitVec 32 := Scalar.muli v28 c12_i32
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let v51 : BitVec 32 := Scalar.addi v50 c0_i32_36
  let c8_i32 : BitVec 32 := 8#32
  let v52 : BitVec 32 := Scalar.muli v51 c8_i32
  let c0_i32_40 : BitVec 32 := 0#32
  ![v11.toNat, v29.toNat, v52.toNat, 0]
def k0_cond1 (k0_t2 : Fin k0_t2_loop.trips) : BitVec 1 :=
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let c0_i32_36 : BitVec 32 := 0#32
  let v51 : BitVec 32 := Scalar.addi v50 c0_i32_36
  let c1_i32_42 : BitVec 32 := 1#32
  let v61 : BitVec 32 := Scalar.addi v51 c1_i32_42
  let c48_i32 : BitVec 32 := 48#32
  let v62 : BitVec 1 := Scalar.cmpi .slt v61 c48_i32
  let v63 : BitVec 32 := Scalar.extui v62
  let c0_i32_43 : BitVec 32 := 0#32
  let v64 : BitVec 1 := Scalar.cmpi .ne v63 c0_i32_43
  v64

def k0_off6 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_64 : BitVec 32 := 0#32
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let c0_i32_36 : BitVec 32 := 0#32
  let v51 : BitVec 32 := Scalar.addi v50 c0_i32_36
  let c1_i32_62 : BitVec 32 := 1#32
  let v81 : BitVec 32 := Scalar.addi v51 c1_i32_62
  let c8_i32_63 : BitVec 32 := 8#32
  let v82 : BitVec 32 := Scalar.muli v81 c8_i32_63
  let c0_i32_65 : BitVec 32 := 0#32
  ![v11.toNat, 0, v82.toNat, 0]
def k0_off7 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c12_i32 : BitVec 32 := 12#32
  let v29 : BitVec 32 := Scalar.muli v28 c12_i32
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let c0_i32_36 : BitVec 32 := 0#32
  let v51 : BitVec 32 := Scalar.addi v50 c0_i32_36
  let c1_i32_62 : BitVec 32 := 1#32
  let v81 : BitVec 32 := Scalar.addi v51 c1_i32_62
  let c8_i32_63 : BitVec 32 := 8#32
  let v82 : BitVec 32 := Scalar.muli v81 c8_i32_63
  let c0_i32_67 : BitVec 32 := 0#32
  ![v11.toNat, v29.toNat, v82.toNat, 0]
@[reducible] def k0_t3_loop : Scf.Loop 32 :=
  let c0_i32_44 : BitVec 32 := 0#32
  let c8_i32_45 : BitVec 32 := 8#32
  let v65 : BitVec 32 := Scalar.addi c0_i32_44 c8_i32_45
  let c1_i32_46 : BitVec 32 := 1#32
  ⟨c0_i32_44, v65, c1_i32_46⟩
def k0_off8 (k0_t3 : Fin k0_t3_loop.trips) : Fin 2 → Nat :=
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v83 : Index := Scalar.indexCast v82
  let c0 : Index := 0#32
  ![v83.toNat, 0]
def k0_off9 (k0_t3 : Fin k0_t3_loop.trips) : Fin 3 → Nat :=
  let c0_i32_64 : BitVec 32 := 0#32
  let v85 : Index := Scalar.indexCast c0_i32_64
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v86 : Index := Scalar.indexCast v82
  let c0_65 : Index := 0#32
  ![0, v86.toNat, 0]
def k0_off10 (k0_t3 : Fin k0_t3_loop.trips) : Fin 3 → Nat :=
  let c1_i32_66 : BitVec 32 := 1#32
  let v88 : Index := Scalar.indexCast c1_i32_66
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v89 : Index := Scalar.indexCast v82
  let c0_67 : Index := 0#32
  ![1, v89.toNat, 0]
def k0_off11 (k0_t3 : Fin k0_t3_loop.trips) : Fin 3 → Nat :=
  let c2_i32_68 : BitVec 32 := 2#32
  let v91 : Index := Scalar.indexCast c2_i32_68
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v92 : Index := Scalar.indexCast v82
  let c0_69 : Index := 0#32
  ![2, v92.toNat, 0]
def k0_off12 (k0_t3 : Fin k0_t3_loop.trips) : Fin 3 → Nat :=
  let c3_i32 : BitVec 32 := 3#32
  let v94 : Index := Scalar.indexCast c3_i32
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v95 : Index := Scalar.indexCast v82
  let c0_70 : Index := 0#32
  ![3, v95.toNat, 0]
def k0_off13 (k0_t3 : Fin k0_t3_loop.trips) : Fin 3 → Nat :=
  let c4_i32_71 : BitVec 32 := 4#32
  let v97 : Index := Scalar.indexCast c4_i32_71
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v98 : Index := Scalar.indexCast v82
  let c0_72 : Index := 0#32
  ![4, v98.toNat, 0]
def k0_off14 (k0_t3 : Fin k0_t3_loop.trips) : Fin 3 → Nat :=
  let c5_i32 : BitVec 32 := 5#32
  let v100 : Index := Scalar.indexCast c5_i32
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v101 : Index := Scalar.indexCast v82
  let c0_73 : Index := 0#32
  ![5, v101.toNat, 0]
def k0_off15 (k0_t3 : Fin k0_t3_loop.trips) : Fin 3 → Nat :=
  let c6_i32 : BitVec 32 := 6#32
  let v103 : Index := Scalar.indexCast c6_i32
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v104 : Index := Scalar.indexCast v82
  let c0_74 : Index := 0#32
  ![6, v104.toNat, 0]
def k0_off16 (k0_t3 : Fin k0_t3_loop.trips) : Fin 3 → Nat :=
  let c7_i32 : BitVec 32 := 7#32
  let v106 : Index := Scalar.indexCast c7_i32
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v107 : Index := Scalar.indexCast v82
  let c0_75 : Index := 0#32
  ![7, v107.toNat, 0]
def k0_off17 (k0_t3 : Fin k0_t3_loop.trips) : Fin 3 → Nat :=
  let c8_i32_76 : BitVec 32 := 8#32
  let v109 : Index := Scalar.indexCast c8_i32_76
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v110 : Index := Scalar.indexCast v82
  let c0_77 : Index := 0#32
  ![8, v110.toNat, 0]
def k0_off18 (k0_t3 : Fin k0_t3_loop.trips) : Fin 3 → Nat :=
  let c9_i32 : BitVec 32 := 9#32
  let v112 : Index := Scalar.indexCast c9_i32
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v113 : Index := Scalar.indexCast v82
  let c0_78 : Index := 0#32
  ![9, v113.toNat, 0]
def k0_off19 (k0_t3 : Fin k0_t3_loop.trips) : Fin 3 → Nat :=
  let c10_i32 : BitVec 32 := 10#32
  let v115 : Index := Scalar.indexCast c10_i32
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v116 : Index := Scalar.indexCast v82
  let c0_79 : Index := 0#32
  ![10, v116.toNat, 0]
def k0_off20 (k0_t3 : Fin k0_t3_loop.trips) : Fin 3 → Nat :=
  let c11_i32 : BitVec 32 := 11#32
  let v118 : Index := Scalar.indexCast c11_i32
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v119 : Index := Scalar.indexCast v82
  let c0_80 : Index := 0#32
  ![11, v119.toNat, 0]
@[reducible] def k0_t4_loop : Scf.Loop 32 :=
  let c1_i32_81 : BitVec 32 := 1#32
  let c23_i32 : BitVec 32 := 23#32
  let v121 : BitVec 32 := Scalar.addi c1_i32_81 c23_i32
  let c1_i32_82 : BitVec 32 := 1#32
  ⟨c1_i32_81, v121, c1_i32_82⟩
def k0_off21 (k0_t3 : Fin k0_t3_loop.trips) (k0_t4 : Fin k0_t4_loop.trips) : Fin 2 → Nat :=
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v150 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v151 : Index := Scalar.indexCast v149
  ![v150.toNat, v151.toNat]
def k0_off22 (k0_t3 : Fin k0_t3_loop.trips) (k0_t4 : Fin k0_t4_loop.trips) : Fin 3 → Nat :=
  let c0_i32_86 : BitVec 32 := 0#32
  let v153 : Index := Scalar.indexCast c0_i32_86
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v154 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v155 : Index := Scalar.indexCast v149
  ![0, v154.toNat, v155.toNat]
def k0_off23 (k0_t3 : Fin k0_t3_loop.trips) (k0_t4 : Fin k0_t4_loop.trips) : Fin 3 → Nat :=
  let c1_i32_87 : BitVec 32 := 1#32
  let v157 : Index := Scalar.indexCast c1_i32_87
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v158 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v159 : Index := Scalar.indexCast v149
  ![1, v158.toNat, v159.toNat]
def k0_off24 (k0_t3 : Fin k0_t3_loop.trips) (k0_t4 : Fin k0_t4_loop.trips) : Fin 3 → Nat :=
  let c2_i32_88 : BitVec 32 := 2#32
  let v161 : Index := Scalar.indexCast c2_i32_88
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v162 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v163 : Index := Scalar.indexCast v149
  ![2, v162.toNat, v163.toNat]
def k0_off25 (k0_t3 : Fin k0_t3_loop.trips) (k0_t4 : Fin k0_t4_loop.trips) : Fin 3 → Nat :=
  let c3_i32_89 : BitVec 32 := 3#32
  let v165 : Index := Scalar.indexCast c3_i32_89
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v166 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v167 : Index := Scalar.indexCast v149
  ![3, v166.toNat, v167.toNat]
def k0_off26 (k0_t3 : Fin k0_t3_loop.trips) (k0_t4 : Fin k0_t4_loop.trips) : Fin 3 → Nat :=
  let c4_i32_90 : BitVec 32 := 4#32
  let v169 : Index := Scalar.indexCast c4_i32_90
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v170 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v171 : Index := Scalar.indexCast v149
  ![4, v170.toNat, v171.toNat]
def k0_off27 (k0_t3 : Fin k0_t3_loop.trips) (k0_t4 : Fin k0_t4_loop.trips) : Fin 3 → Nat :=
  let c5_i32_91 : BitVec 32 := 5#32
  let v173 : Index := Scalar.indexCast c5_i32_91
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v174 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v175 : Index := Scalar.indexCast v149
  ![5, v174.toNat, v175.toNat]
def k0_off28 (k0_t3 : Fin k0_t3_loop.trips) (k0_t4 : Fin k0_t4_loop.trips) : Fin 3 → Nat :=
  let c6_i32_92 : BitVec 32 := 6#32
  let v177 : Index := Scalar.indexCast c6_i32_92
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v178 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v179 : Index := Scalar.indexCast v149
  ![6, v178.toNat, v179.toNat]
def k0_off29 (k0_t3 : Fin k0_t3_loop.trips) (k0_t4 : Fin k0_t4_loop.trips) : Fin 3 → Nat :=
  let c7_i32_93 : BitVec 32 := 7#32
  let v181 : Index := Scalar.indexCast c7_i32_93
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v182 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v183 : Index := Scalar.indexCast v149
  ![7, v182.toNat, v183.toNat]
def k0_off30 (k0_t3 : Fin k0_t3_loop.trips) (k0_t4 : Fin k0_t4_loop.trips) : Fin 3 → Nat :=
  let c8_i32_94 : BitVec 32 := 8#32
  let v185 : Index := Scalar.indexCast c8_i32_94
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v186 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v187 : Index := Scalar.indexCast v149
  ![8, v186.toNat, v187.toNat]
def k0_off31 (k0_t3 : Fin k0_t3_loop.trips) (k0_t4 : Fin k0_t4_loop.trips) : Fin 3 → Nat :=
  let c9_i32_95 : BitVec 32 := 9#32
  let v189 : Index := Scalar.indexCast c9_i32_95
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v190 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v191 : Index := Scalar.indexCast v149
  ![9, v190.toNat, v191.toNat]
def k0_off32 (k0_t3 : Fin k0_t3_loop.trips) (k0_t4 : Fin k0_t4_loop.trips) : Fin 3 → Nat :=
  let c10_i32_96 : BitVec 32 := 10#32
  let v193 : Index := Scalar.indexCast c10_i32_96
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v194 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v195 : Index := Scalar.indexCast v149
  ![10, v194.toNat, v195.toNat]
def k0_off33 (k0_t3 : Fin k0_t3_loop.trips) (k0_t4 : Fin k0_t4_loop.trips) : Fin 3 → Nat :=
  let c11_i32_97 : BitVec 32 := 11#32
  let v197 : Index := Scalar.indexCast c11_i32_97
  let c0_i32_63 : BitVec 32 := 0#32
  let c0_i32_44 : BitVec 32 := 0#32
  let c1_i32_46 : BitVec 32 := 1#32
  let arg20 : BitVec 32 := Scf.iv c0_i32_44 c1_i32_46 k0_t3
  let c1_i32_62 : BitVec 32 := 1#32
  let v81 : BitVec 32 := Scalar.muli arg20 c1_i32_62
  let v82 : BitVec 32 := Scalar.addi c0_i32_63 v81
  let v198 : Index := Scalar.indexCast v82
  let c1_i32_81 : BitVec 32 := 1#32
  let c1_i32_82 : BitVec 32 := 1#32
  let arg21 : BitVec 32 := Scf.iv c1_i32_81 c1_i32_82 k0_t4
  let c16_i32_85 : BitVec 32 := 16#32
  let v149 : BitVec 32 := Scalar.muli arg21 c16_i32_85
  let v199 : Index := Scalar.indexCast v149
  ![11, v198.toNat, v199.toNat]

def k0_chk1 (v202 : IVec S16 32) : Prop :=
  (∀ a x, ((![v202] : Fin 1 → IVec S16 32) a x).toNat < S13312.size a)
theorem k0_idx1_inb : ∀ (v202 : IVec S16 32) (k0_hw1 : k0_chk1 v202), ∀ a x, ((![v202] : Fin 1 → IVec S16 32) a x).toNat < S13312.size a := fun v202 k0_hw1 => k0_hw1

def k0_chk2 (v204 : IVec S16 32) : Prop :=
  (∀ a x, ((![v204] : Fin 1 → IVec S16 32) a x).toNat < S13312.size a)
theorem k0_idx2_inb : ∀ (v204 : IVec S16 32) (k0_hw2 : k0_chk2 v204), ∀ a x, ((![v204] : Fin 1 → IVec S16 32) a x).toNat < S13312.size a := fun v204 k0_hw2 => k0_hw2

def k0_chk3 (v206 : IVec S16 32) : Prop :=
  (∀ a x, ((![v206] : Fin 1 → IVec S16 32) a x).toNat < S13312.size a)
theorem k0_idx3_inb : ∀ (v206 : IVec S16 32) (k0_hw3 : k0_chk3 v206), ∀ a x, ((![v206] : Fin 1 → IVec S16 32) a x).toNat < S13312.size a := fun v206 k0_hw3 => k0_hw3

def k0_chk4 (v208 : IVec S16 32) : Prop :=
  (∀ a x, ((![v208] : Fin 1 → IVec S16 32) a x).toNat < S13312.size a)
theorem k0_idx4_inb : ∀ (v208 : IVec S16 32) (k0_hw4 : k0_chk4 v208), ∀ a x, ((![v208] : Fin 1 → IVec S16 32) a x).toNat < S13312.size a := fun v208 k0_hw4 => k0_hw4

def k0_chk5 (v210 : IVec S16 32) : Prop :=
  (∀ a x, ((![v210] : Fin 1 → IVec S16 32) a x).toNat < S13312.size a)
theorem k0_idx5_inb : ∀ (v210 : IVec S16 32) (k0_hw5 : k0_chk5 v210), ∀ a x, ((![v210] : Fin 1 → IVec S16 32) a x).toNat < S13312.size a := fun v210 k0_hw5 => k0_hw5

def k0_chk6 (v212 : IVec S16 32) : Prop :=
  (∀ a x, ((![v212] : Fin 1 → IVec S16 32) a x).toNat < S13312.size a)
theorem k0_idx6_inb : ∀ (v212 : IVec S16 32) (k0_hw6 : k0_chk6 v212), ∀ a x, ((![v212] : Fin 1 → IVec S16 32) a x).toNat < S13312.size a := fun v212 k0_hw6 => k0_hw6

def k0_chk7 (v214 : IVec S16 32) : Prop :=
  (∀ a x, ((![v214] : Fin 1 → IVec S16 32) a x).toNat < S13312.size a)
theorem k0_idx7_inb : ∀ (v214 : IVec S16 32) (k0_hw7 : k0_chk7 v214), ∀ a x, ((![v214] : Fin 1 → IVec S16 32) a x).toNat < S13312.size a := fun v214 k0_hw7 => k0_hw7

def k0_chk8 (v216 : IVec S16 32) : Prop :=
  (∀ a x, ((![v216] : Fin 1 → IVec S16 32) a x).toNat < S13312.size a)
theorem k0_idx8_inb : ∀ (v216 : IVec S16 32) (k0_hw8 : k0_chk8 v216), ∀ a x, ((![v216] : Fin 1 → IVec S16 32) a x).toNat < S13312.size a := fun v216 k0_hw8 => k0_hw8

def k0_chk9 (v218 : IVec S16 32) : Prop :=
  (∀ a x, ((![v218] : Fin 1 → IVec S16 32) a x).toNat < S13312.size a)
theorem k0_idx9_inb : ∀ (v218 : IVec S16 32) (k0_hw9 : k0_chk9 v218), ∀ a x, ((![v218] : Fin 1 → IVec S16 32) a x).toNat < S13312.size a := fun v218 k0_hw9 => k0_hw9

def k0_chk10 (v220 : IVec S16 32) : Prop :=
  (∀ a x, ((![v220] : Fin 1 → IVec S16 32) a x).toNat < S13312.size a)
theorem k0_idx10_inb : ∀ (v220 : IVec S16 32) (k0_hw10 : k0_chk10 v220), ∀ a x, ((![v220] : Fin 1 → IVec S16 32) a x).toNat < S13312.size a := fun v220 k0_hw10 => k0_hw10

def k0_chk11 (v222 : IVec S16 32) : Prop :=
  (∀ a x, ((![v222] : Fin 1 → IVec S16 32) a x).toNat < S13312.size a)
theorem k0_idx11_inb : ∀ (v222 : IVec S16 32) (k0_hw11 : k0_chk11 v222), ∀ a x, ((![v222] : Fin 1 → IVec S16 32) a x).toNat < S13312.size a := fun v222 k0_hw11 => k0_hw11

def k0_chk12 (v224 : IVec S16 32) : Prop :=
  (∀ a x, ((![v224] : Fin 1 → IVec S16 32) a x).toNat < S13312.size a)
theorem k0_idx12_inb : ∀ (v224 : IVec S16 32) (k0_hw12 : k0_chk12 v224), ∀ a x, ((![v224] : Fin 1 → IVec S16 32) a x).toNat < S13312.size a := fun v224 k0_hw12 => k0_hw12

def k0_chk13 (v226 : IVec S16 32) : Prop :=
  (∀ a x, ((![v226] : Fin 1 → IVec S16 32) a x).toNat < S13312.size a)
theorem k0_idx13_inb : ∀ (v226 : IVec S16 32) (k0_hw13 : k0_chk13 v226), ∀ a x, ((![v226] : Fin 1 → IVec S16 32) a x).toNat < S13312.size a := fun v226 k0_hw13 => k0_hw13

def k0_chk14 (v124 : IVec S16 32) : Prop :=
  (∀ a x, ((![v124] : Fin 1 → IVec S16 32) a x).toNat < S13312.size a)
theorem k0_idx14_inb : ∀ (v124 : IVec S16 32) (k0_hw14 : k0_chk14 v124), ∀ a x, ((![v124] : Fin 1 → IVec S16 32) a x).toNat < S13312.size a := fun v124 k0_hw14 => k0_hw14

def k0_chk15 (v126 : IVec S16 32) : Prop :=
  (∀ a x, ((![v126] : Fin 1 → IVec S16 32) a x).toNat < S13312.size a)
theorem k0_idx15_inb : ∀ (v126 : IVec S16 32) (k0_hw15 : k0_chk15 v126), ∀ a x, ((![v126] : Fin 1 → IVec S16 32) a x).toNat < S13312.size a := fun v126 k0_hw15 => k0_hw15

def k0_chk16 (v128 : IVec S16 32) : Prop :=
  (∀ a x, ((![v128] : Fin 1 → IVec S16 32) a x).toNat < S13312.size a)
theorem k0_idx16_inb : ∀ (v128 : IVec S16 32) (k0_hw16 : k0_chk16 v128), ∀ a x, ((![v128] : Fin 1 → IVec S16 32) a x).toNat < S13312.size a := fun v128 k0_hw16 => k0_hw16

def k0_chk17 (v130 : IVec S16 32) : Prop :=
  (∀ a x, ((![v130] : Fin 1 → IVec S16 32) a x).toNat < S13312.size a)
theorem k0_idx17_inb : ∀ (v130 : IVec S16 32) (k0_hw17 : k0_chk17 v130), ∀ a x, ((![v130] : Fin 1 → IVec S16 32) a x).toNat < S13312.size a := fun v130 k0_hw17 => k0_hw17

def k0_chk18 (v132 : IVec S16 32) : Prop :=
  (∀ a x, ((![v132] : Fin 1 → IVec S16 32) a x).toNat < S13312.size a)
theorem k0_idx18_inb : ∀ (v132 : IVec S16 32) (k0_hw18 : k0_chk18 v132), ∀ a x, ((![v132] : Fin 1 → IVec S16 32) a x).toNat < S13312.size a := fun v132 k0_hw18 => k0_hw18

def k0_chk19 (v134 : IVec S16 32) : Prop :=
  (∀ a x, ((![v134] : Fin 1 → IVec S16 32) a x).toNat < S13312.size a)
theorem k0_idx19_inb : ∀ (v134 : IVec S16 32) (k0_hw19 : k0_chk19 v134), ∀ a x, ((![v134] : Fin 1 → IVec S16 32) a x).toNat < S13312.size a := fun v134 k0_hw19 => k0_hw19

def k0_chk20 (v136 : IVec S16 32) : Prop :=
  (∀ a x, ((![v136] : Fin 1 → IVec S16 32) a x).toNat < S13312.size a)
theorem k0_idx20_inb : ∀ (v136 : IVec S16 32) (k0_hw20 : k0_chk20 v136), ∀ a x, ((![v136] : Fin 1 → IVec S16 32) a x).toNat < S13312.size a := fun v136 k0_hw20 => k0_hw20

def k0_chk21 (v138 : IVec S16 32) : Prop :=
  (∀ a x, ((![v138] : Fin 1 → IVec S16 32) a x).toNat < S13312.size a)
theorem k0_idx21_inb : ∀ (v138 : IVec S16 32) (k0_hw21 : k0_chk21 v138), ∀ a x, ((![v138] : Fin 1 → IVec S16 32) a x).toNat < S13312.size a := fun v138 k0_hw21 => k0_hw21

def k0_chk22 (v140 : IVec S16 32) : Prop :=
  (∀ a x, ((![v140] : Fin 1 → IVec S16 32) a x).toNat < S13312.size a)
theorem k0_idx22_inb : ∀ (v140 : IVec S16 32) (k0_hw22 : k0_chk22 v140), ∀ a x, ((![v140] : Fin 1 → IVec S16 32) a x).toNat < S13312.size a := fun v140 k0_hw22 => k0_hw22

def k0_chk23 (v142 : IVec S16 32) : Prop :=
  (∀ a x, ((![v142] : Fin 1 → IVec S16 32) a x).toNat < S13312.size a)
theorem k0_idx23_inb : ∀ (v142 : IVec S16 32) (k0_hw23 : k0_chk23 v142), ∀ a x, ((![v142] : Fin 1 → IVec S16 32) a x).toNat < S13312.size a := fun v142 k0_hw23 => k0_hw23

def k0_chk24 (v144 : IVec S16 32) : Prop :=
  (∀ a x, ((![v144] : Fin 1 → IVec S16 32) a x).toNat < S13312.size a)
theorem k0_idx24_inb : ∀ (v144 : IVec S16 32) (k0_hw24 : k0_chk24 v144), ∀ a x, ((![v144] : Fin 1 → IVec S16 32) a x).toNat < S13312.size a := fun v144 k0_hw24 => k0_hw24

def k0_chk25 (v146 : IVec S16 32) : Prop :=
  (∀ a x, ((![v146] : Fin 1 → IVec S16 32) a x).toNat < S13312.size a)
theorem k0_idx25_inb : ∀ (v146 : IVec S16 32) (k0_hw25 : k0_chk25 v146), ∀ a x, ((![v146] : Fin 1 → IVec S16 32) a x).toNat < S13312.size a := fun v146 k0_hw25 => k0_hw25

def k0_chk26 (v148 : IVec S16 32) : Prop :=
  (∀ a x, ((![v148] : Fin 1 → IVec S16 32) a x).toNat < S13312.size a)
theorem k0_idx26_inb : ∀ (v148 : IVec S16 32) (k0_hw26 : k0_chk26 v148), ∀ a x, ((![v148] : Fin 1 → IVec S16 32) a x).toNat < S13312.size a := fun v148 k0_hw26 => k0_hw26
def k0_cond2 (k0_t2 : Fin k0_t2_loop.trips) : BitVec 1 :=
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let c1_i32_48 : BitVec 32 := 1#32
  let v66 : BitVec 32 := Scalar.addi v50 c1_i32_48
  let c1_i32_55 : BitVec 32 := 1#32
  let v76 : BitVec 32 := Scalar.addi v66 c1_i32_55
  let c48_i32_56 : BitVec 32 := 48#32
  let v77 : BitVec 1 := Scalar.cmpi .slt v76 c48_i32_56
  let v78 : BitVec 32 := Scalar.extui v77
  let c0_i32_57 : BitVec 32 := 0#32
  let v79 : BitVec 1 := Scalar.cmpi .ne v78 c0_i32_57
  v79

def k0_off34 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_64 : BitVec 32 := 0#32
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let c1_i32_48 : BitVec 32 := 1#32
  let v66 : BitVec 32 := Scalar.addi v50 c1_i32_48
  let c1_i32_62 : BitVec 32 := 1#32
  let v81 : BitVec 32 := Scalar.addi v66 c1_i32_62
  let c8_i32_63 : BitVec 32 := 8#32
  let v82 : BitVec 32 := Scalar.muli v81 c8_i32_63
  let c0_i32_65 : BitVec 32 := 0#32
  ![v11.toNat, 0, v82.toNat, 0]
def k0_off35 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c12_i32 : BitVec 32 := 12#32
  let v29 : BitVec 32 := Scalar.muli v28 c12_i32
  let c0_i32_35 : BitVec 32 := 0#32
  let c0_i32_23 : BitVec 32 := 0#32
  let c1_i32_24 : BitVec 32 := 1#32
  let arg19 : BitVec 32 := Scf.iv c0_i32_23 c1_i32_24 k0_t2
  let c2_i32_34 : BitVec 32 := 2#32
  let v49 : BitVec 32 := Scalar.muli arg19 c2_i32_34
  let v50 : BitVec 32 := Scalar.addi c0_i32_35 v49
  let c1_i32_48 : BitVec 32 := 1#32
  let v66 : BitVec 32 := Scalar.addi v50 c1_i32_48
  let c1_i32_62 : BitVec 32 := 1#32
  let v81 : BitVec 32 := Scalar.addi v66 c1_i32_62
  let c8_i32_63 : BitVec 32 := 8#32
  let v82 : BitVec 32 := Scalar.muli v81 c8_i32_63
  let c0_i32_67 : BitVec 32 := 0#32
  ![v11.toNat, v29.toNat, v82.toNat, 0]
@[reducible] def k0_t5_loop : Scf.Loop 32 :=
  let c0_i32_58 : BitVec 32 := 0#32
  let c8_i32_59 : BitVec 32 := 8#32
  let v80 : BitVec 32 := Scalar.addi c0_i32_58 c8_i32_59
  let c1_i32_60 : BitVec 32 := 1#32
  ⟨c0_i32_58, v80, c1_i32_60⟩
def k0_off36 (k0_t5 : Fin k0_t5_loop.trips) : Fin 2 → Nat :=
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v83 : Index := Scalar.indexCast v82
  let c0 : Index := 0#32
  ![v83.toNat, 0]
def k0_off37 (k0_t5 : Fin k0_t5_loop.trips) : Fin 3 → Nat :=
  let c0_i32_64 : BitVec 32 := 0#32
  let v85 : Index := Scalar.indexCast c0_i32_64
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v86 : Index := Scalar.indexCast v82
  let c0_65 : Index := 0#32
  ![0, v86.toNat, 0]
def k0_off38 (k0_t5 : Fin k0_t5_loop.trips) : Fin 3 → Nat :=
  let c1_i32_66 : BitVec 32 := 1#32
  let v88 : Index := Scalar.indexCast c1_i32_66
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v89 : Index := Scalar.indexCast v82
  let c0_67 : Index := 0#32
  ![1, v89.toNat, 0]
def k0_off39 (k0_t5 : Fin k0_t5_loop.trips) : Fin 3 → Nat :=
  let c2_i32_68 : BitVec 32 := 2#32
  let v91 : Index := Scalar.indexCast c2_i32_68
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v92 : Index := Scalar.indexCast v82
  let c0_69 : Index := 0#32
  ![2, v92.toNat, 0]
def k0_off40 (k0_t5 : Fin k0_t5_loop.trips) : Fin 3 → Nat :=
  let c3_i32 : BitVec 32 := 3#32
  let v94 : Index := Scalar.indexCast c3_i32
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v95 : Index := Scalar.indexCast v82
  let c0_70 : Index := 0#32
  ![3, v95.toNat, 0]
def k0_off41 (k0_t5 : Fin k0_t5_loop.trips) : Fin 3 → Nat :=
  let c4_i32_71 : BitVec 32 := 4#32
  let v97 : Index := Scalar.indexCast c4_i32_71
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v98 : Index := Scalar.indexCast v82
  let c0_72 : Index := 0#32
  ![4, v98.toNat, 0]
def k0_off42 (k0_t5 : Fin k0_t5_loop.trips) : Fin 3 → Nat :=
  let c5_i32 : BitVec 32 := 5#32
  let v100 : Index := Scalar.indexCast c5_i32
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v101 : Index := Scalar.indexCast v82
  let c0_73 : Index := 0#32
  ![5, v101.toNat, 0]
def k0_off43 (k0_t5 : Fin k0_t5_loop.trips) : Fin 3 → Nat :=
  let c6_i32 : BitVec 32 := 6#32
  let v103 : Index := Scalar.indexCast c6_i32
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v104 : Index := Scalar.indexCast v82
  let c0_74 : Index := 0#32
  ![6, v104.toNat, 0]
def k0_off44 (k0_t5 : Fin k0_t5_loop.trips) : Fin 3 → Nat :=
  let c7_i32 : BitVec 32 := 7#32
  let v106 : Index := Scalar.indexCast c7_i32
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v107 : Index := Scalar.indexCast v82
  let c0_75 : Index := 0#32
  ![7, v107.toNat, 0]
def k0_off45 (k0_t5 : Fin k0_t5_loop.trips) : Fin 3 → Nat :=
  let c8_i32_76 : BitVec 32 := 8#32
  let v109 : Index := Scalar.indexCast c8_i32_76
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v110 : Index := Scalar.indexCast v82
  let c0_77 : Index := 0#32
  ![8, v110.toNat, 0]
def k0_off46 (k0_t5 : Fin k0_t5_loop.trips) : Fin 3 → Nat :=
  let c9_i32 : BitVec 32 := 9#32
  let v112 : Index := Scalar.indexCast c9_i32
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v113 : Index := Scalar.indexCast v82
  let c0_78 : Index := 0#32
  ![9, v113.toNat, 0]
def k0_off47 (k0_t5 : Fin k0_t5_loop.trips) : Fin 3 → Nat :=
  let c10_i32 : BitVec 32 := 10#32
  let v115 : Index := Scalar.indexCast c10_i32
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v116 : Index := Scalar.indexCast v82
  let c0_79 : Index := 0#32
  ![10, v116.toNat, 0]
def k0_off48 (k0_t5 : Fin k0_t5_loop.trips) : Fin 3 → Nat :=
  let c11_i32 : BitVec 32 := 11#32
  let v118 : Index := Scalar.indexCast c11_i32
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v119 : Index := Scalar.indexCast v82
  let c0_80 : Index := 0#32
  ![11, v119.toNat, 0]
@[reducible] def k0_t6_loop : Scf.Loop 32 :=
  let c1_i32_81 : BitVec 32 := 1#32
  let c23_i32 : BitVec 32 := 23#32
  let v121 : BitVec 32 := Scalar.addi c1_i32_81 c23_i32
  let c1_i32_82 : BitVec 32 := 1#32
  ⟨c1_i32_81, v121, c1_i32_82⟩
def k0_off49 (k0_t5 : Fin k0_t5_loop.trips) (k0_t6 : Fin k0_t6_loop.trips) : Fin 2 → Nat :=
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v150 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v151 : Index := Scalar.indexCast v149
  ![v150.toNat, v151.toNat]
def k0_off50 (k0_t5 : Fin k0_t5_loop.trips) (k0_t6 : Fin k0_t6_loop.trips) : Fin 3 → Nat :=
  let c0_i32_86 : BitVec 32 := 0#32
  let v153 : Index := Scalar.indexCast c0_i32_86
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v154 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v155 : Index := Scalar.indexCast v149
  ![0, v154.toNat, v155.toNat]
def k0_off51 (k0_t5 : Fin k0_t5_loop.trips) (k0_t6 : Fin k0_t6_loop.trips) : Fin 3 → Nat :=
  let c1_i32_87 : BitVec 32 := 1#32
  let v157 : Index := Scalar.indexCast c1_i32_87
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v158 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v159 : Index := Scalar.indexCast v149
  ![1, v158.toNat, v159.toNat]
def k0_off52 (k0_t5 : Fin k0_t5_loop.trips) (k0_t6 : Fin k0_t6_loop.trips) : Fin 3 → Nat :=
  let c2_i32_88 : BitVec 32 := 2#32
  let v161 : Index := Scalar.indexCast c2_i32_88
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v162 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v163 : Index := Scalar.indexCast v149
  ![2, v162.toNat, v163.toNat]
def k0_off53 (k0_t5 : Fin k0_t5_loop.trips) (k0_t6 : Fin k0_t6_loop.trips) : Fin 3 → Nat :=
  let c3_i32_89 : BitVec 32 := 3#32
  let v165 : Index := Scalar.indexCast c3_i32_89
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v166 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v167 : Index := Scalar.indexCast v149
  ![3, v166.toNat, v167.toNat]
def k0_off54 (k0_t5 : Fin k0_t5_loop.trips) (k0_t6 : Fin k0_t6_loop.trips) : Fin 3 → Nat :=
  let c4_i32_90 : BitVec 32 := 4#32
  let v169 : Index := Scalar.indexCast c4_i32_90
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v170 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v171 : Index := Scalar.indexCast v149
  ![4, v170.toNat, v171.toNat]
def k0_off55 (k0_t5 : Fin k0_t5_loop.trips) (k0_t6 : Fin k0_t6_loop.trips) : Fin 3 → Nat :=
  let c5_i32_91 : BitVec 32 := 5#32
  let v173 : Index := Scalar.indexCast c5_i32_91
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v174 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v175 : Index := Scalar.indexCast v149
  ![5, v174.toNat, v175.toNat]
def k0_off56 (k0_t5 : Fin k0_t5_loop.trips) (k0_t6 : Fin k0_t6_loop.trips) : Fin 3 → Nat :=
  let c6_i32_92 : BitVec 32 := 6#32
  let v177 : Index := Scalar.indexCast c6_i32_92
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v178 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v179 : Index := Scalar.indexCast v149
  ![6, v178.toNat, v179.toNat]
def k0_off57 (k0_t5 : Fin k0_t5_loop.trips) (k0_t6 : Fin k0_t6_loop.trips) : Fin 3 → Nat :=
  let c7_i32_93 : BitVec 32 := 7#32
  let v181 : Index := Scalar.indexCast c7_i32_93
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v182 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v183 : Index := Scalar.indexCast v149
  ![7, v182.toNat, v183.toNat]
def k0_off58 (k0_t5 : Fin k0_t5_loop.trips) (k0_t6 : Fin k0_t6_loop.trips) : Fin 3 → Nat :=
  let c8_i32_94 : BitVec 32 := 8#32
  let v185 : Index := Scalar.indexCast c8_i32_94
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v186 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v187 : Index := Scalar.indexCast v149
  ![8, v186.toNat, v187.toNat]
def k0_off59 (k0_t5 : Fin k0_t5_loop.trips) (k0_t6 : Fin k0_t6_loop.trips) : Fin 3 → Nat :=
  let c9_i32_95 : BitVec 32 := 9#32
  let v189 : Index := Scalar.indexCast c9_i32_95
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v190 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v191 : Index := Scalar.indexCast v149
  ![9, v190.toNat, v191.toNat]
def k0_off60 (k0_t5 : Fin k0_t5_loop.trips) (k0_t6 : Fin k0_t6_loop.trips) : Fin 3 → Nat :=
  let c10_i32_96 : BitVec 32 := 10#32
  let v193 : Index := Scalar.indexCast c10_i32_96
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v194 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v195 : Index := Scalar.indexCast v149
  ![10, v194.toNat, v195.toNat]
def k0_off61 (k0_t5 : Fin k0_t5_loop.trips) (k0_t6 : Fin k0_t6_loop.trips) : Fin 3 → Nat :=
  let c11_i32_97 : BitVec 32 := 11#32
  let v197 : Index := Scalar.indexCast c11_i32_97
  let c0_i32_63 : BitVec 32 := 0#32
  let c0_i32_58 : BitVec 32 := 0#32
  let c1_i32_60 : BitVec 32 := 1#32
  let arg20 : BitVec 32 := Scf.iv c0_i32_58 c1_i32_60 k0_t5
  let c1_i32_62 : BitVec 32 := 1#32
  let v81 : BitVec 32 := Scalar.muli arg20 c1_i32_62
  let v82 : BitVec 32 := Scalar.addi c0_i32_63 v81
  let v198 : Index := Scalar.indexCast v82
  let c1_i32_81 : BitVec 32 := 1#32
  let c1_i32_82 : BitVec 32 := 1#32
  let arg21 : BitVec 32 := Scf.iv c1_i32_81 c1_i32_82 k0_t6
  let c16_i32_85 : BitVec 32 := 16#32
  let v149 : BitVec 32 := Scalar.muli arg21 c16_i32_85
  let v199 : Index := Scalar.indexCast v149
  ![11, v198.toNat, v199.toNat]

def k0_chk27 (v202 : IVec S16 32) : Prop :=
  (∀ a x, ((![v202] : Fin 1 → IVec S16 32) a x).toNat < S13312.size a)
theorem k0_idx27_inb : ∀ (v202 : IVec S16 32) (k0_hw27 : k0_chk27 v202), ∀ a x, ((![v202] : Fin 1 → IVec S16 32) a x).toNat < S13312.size a := fun v202 k0_hw27 => k0_hw27

def k0_chk28 (v204 : IVec S16 32) : Prop :=
  (∀ a x, ((![v204] : Fin 1 → IVec S16 32) a x).toNat < S13312.size a)
theorem k0_idx28_inb : ∀ (v204 : IVec S16 32) (k0_hw28 : k0_chk28 v204), ∀ a x, ((![v204] : Fin 1 → IVec S16 32) a x).toNat < S13312.size a := fun v204 k0_hw28 => k0_hw28

def k0_chk29 (v206 : IVec S16 32) : Prop :=
  (∀ a x, ((![v206] : Fin 1 → IVec S16 32) a x).toNat < S13312.size a)
theorem k0_idx29_inb : ∀ (v206 : IVec S16 32) (k0_hw29 : k0_chk29 v206), ∀ a x, ((![v206] : Fin 1 → IVec S16 32) a x).toNat < S13312.size a := fun v206 k0_hw29 => k0_hw29

def k0_chk30 (v208 : IVec S16 32) : Prop :=
  (∀ a x, ((![v208] : Fin 1 → IVec S16 32) a x).toNat < S13312.size a)
theorem k0_idx30_inb : ∀ (v208 : IVec S16 32) (k0_hw30 : k0_chk30 v208), ∀ a x, ((![v208] : Fin 1 → IVec S16 32) a x).toNat < S13312.size a := fun v208 k0_hw30 => k0_hw30

def k0_chk31 (v210 : IVec S16 32) : Prop :=
  (∀ a x, ((![v210] : Fin 1 → IVec S16 32) a x).toNat < S13312.size a)
theorem k0_idx31_inb : ∀ (v210 : IVec S16 32) (k0_hw31 : k0_chk31 v210), ∀ a x, ((![v210] : Fin 1 → IVec S16 32) a x).toNat < S13312.size a := fun v210 k0_hw31 => k0_hw31

def k0_chk32 (v212 : IVec S16 32) : Prop :=
  (∀ a x, ((![v212] : Fin 1 → IVec S16 32) a x).toNat < S13312.size a)
theorem k0_idx32_inb : ∀ (v212 : IVec S16 32) (k0_hw32 : k0_chk32 v212), ∀ a x, ((![v212] : Fin 1 → IVec S16 32) a x).toNat < S13312.size a := fun v212 k0_hw32 => k0_hw32

def k0_chk33 (v214 : IVec S16 32) : Prop :=
  (∀ a x, ((![v214] : Fin 1 → IVec S16 32) a x).toNat < S13312.size a)
theorem k0_idx33_inb : ∀ (v214 : IVec S16 32) (k0_hw33 : k0_chk33 v214), ∀ a x, ((![v214] : Fin 1 → IVec S16 32) a x).toNat < S13312.size a := fun v214 k0_hw33 => k0_hw33

def k0_chk34 (v216 : IVec S16 32) : Prop :=
  (∀ a x, ((![v216] : Fin 1 → IVec S16 32) a x).toNat < S13312.size a)
theorem k0_idx34_inb : ∀ (v216 : IVec S16 32) (k0_hw34 : k0_chk34 v216), ∀ a x, ((![v216] : Fin 1 → IVec S16 32) a x).toNat < S13312.size a := fun v216 k0_hw34 => k0_hw34

def k0_chk35 (v218 : IVec S16 32) : Prop :=
  (∀ a x, ((![v218] : Fin 1 → IVec S16 32) a x).toNat < S13312.size a)
theorem k0_idx35_inb : ∀ (v218 : IVec S16 32) (k0_hw35 : k0_chk35 v218), ∀ a x, ((![v218] : Fin 1 → IVec S16 32) a x).toNat < S13312.size a := fun v218 k0_hw35 => k0_hw35

def k0_chk36 (v220 : IVec S16 32) : Prop :=
  (∀ a x, ((![v220] : Fin 1 → IVec S16 32) a x).toNat < S13312.size a)
theorem k0_idx36_inb : ∀ (v220 : IVec S16 32) (k0_hw36 : k0_chk36 v220), ∀ a x, ((![v220] : Fin 1 → IVec S16 32) a x).toNat < S13312.size a := fun v220 k0_hw36 => k0_hw36

def k0_chk37 (v222 : IVec S16 32) : Prop :=
  (∀ a x, ((![v222] : Fin 1 → IVec S16 32) a x).toNat < S13312.size a)
theorem k0_idx37_inb : ∀ (v222 : IVec S16 32) (k0_hw37 : k0_chk37 v222), ∀ a x, ((![v222] : Fin 1 → IVec S16 32) a x).toNat < S13312.size a := fun v222 k0_hw37 => k0_hw37

def k0_chk38 (v224 : IVec S16 32) : Prop :=
  (∀ a x, ((![v224] : Fin 1 → IVec S16 32) a x).toNat < S13312.size a)
theorem k0_idx38_inb : ∀ (v224 : IVec S16 32) (k0_hw38 : k0_chk38 v224), ∀ a x, ((![v224] : Fin 1 → IVec S16 32) a x).toNat < S13312.size a := fun v224 k0_hw38 => k0_hw38

def k0_chk39 (v226 : IVec S16 32) : Prop :=
  (∀ a x, ((![v226] : Fin 1 → IVec S16 32) a x).toNat < S13312.size a)
theorem k0_idx39_inb : ∀ (v226 : IVec S16 32) (k0_hw39 : k0_chk39 v226), ∀ a x, ((![v226] : Fin 1 → IVec S16 32) a x).toNat < S13312.size a := fun v226 k0_hw39 => k0_hw39

def k0_chk40 (v124 : IVec S16 32) : Prop :=
  (∀ a x, ((![v124] : Fin 1 → IVec S16 32) a x).toNat < S13312.size a)
theorem k0_idx40_inb : ∀ (v124 : IVec S16 32) (k0_hw40 : k0_chk40 v124), ∀ a x, ((![v124] : Fin 1 → IVec S16 32) a x).toNat < S13312.size a := fun v124 k0_hw40 => k0_hw40

def k0_chk41 (v126 : IVec S16 32) : Prop :=
  (∀ a x, ((![v126] : Fin 1 → IVec S16 32) a x).toNat < S13312.size a)
theorem k0_idx41_inb : ∀ (v126 : IVec S16 32) (k0_hw41 : k0_chk41 v126), ∀ a x, ((![v126] : Fin 1 → IVec S16 32) a x).toNat < S13312.size a := fun v126 k0_hw41 => k0_hw41

def k0_chk42 (v128 : IVec S16 32) : Prop :=
  (∀ a x, ((![v128] : Fin 1 → IVec S16 32) a x).toNat < S13312.size a)
theorem k0_idx42_inb : ∀ (v128 : IVec S16 32) (k0_hw42 : k0_chk42 v128), ∀ a x, ((![v128] : Fin 1 → IVec S16 32) a x).toNat < S13312.size a := fun v128 k0_hw42 => k0_hw42

def k0_chk43 (v130 : IVec S16 32) : Prop :=
  (∀ a x, ((![v130] : Fin 1 → IVec S16 32) a x).toNat < S13312.size a)
theorem k0_idx43_inb : ∀ (v130 : IVec S16 32) (k0_hw43 : k0_chk43 v130), ∀ a x, ((![v130] : Fin 1 → IVec S16 32) a x).toNat < S13312.size a := fun v130 k0_hw43 => k0_hw43

def k0_chk44 (v132 : IVec S16 32) : Prop :=
  (∀ a x, ((![v132] : Fin 1 → IVec S16 32) a x).toNat < S13312.size a)
theorem k0_idx44_inb : ∀ (v132 : IVec S16 32) (k0_hw44 : k0_chk44 v132), ∀ a x, ((![v132] : Fin 1 → IVec S16 32) a x).toNat < S13312.size a := fun v132 k0_hw44 => k0_hw44

def k0_chk45 (v134 : IVec S16 32) : Prop :=
  (∀ a x, ((![v134] : Fin 1 → IVec S16 32) a x).toNat < S13312.size a)
theorem k0_idx45_inb : ∀ (v134 : IVec S16 32) (k0_hw45 : k0_chk45 v134), ∀ a x, ((![v134] : Fin 1 → IVec S16 32) a x).toNat < S13312.size a := fun v134 k0_hw45 => k0_hw45

def k0_chk46 (v136 : IVec S16 32) : Prop :=
  (∀ a x, ((![v136] : Fin 1 → IVec S16 32) a x).toNat < S13312.size a)
theorem k0_idx46_inb : ∀ (v136 : IVec S16 32) (k0_hw46 : k0_chk46 v136), ∀ a x, ((![v136] : Fin 1 → IVec S16 32) a x).toNat < S13312.size a := fun v136 k0_hw46 => k0_hw46

def k0_chk47 (v138 : IVec S16 32) : Prop :=
  (∀ a x, ((![v138] : Fin 1 → IVec S16 32) a x).toNat < S13312.size a)
theorem k0_idx47_inb : ∀ (v138 : IVec S16 32) (k0_hw47 : k0_chk47 v138), ∀ a x, ((![v138] : Fin 1 → IVec S16 32) a x).toNat < S13312.size a := fun v138 k0_hw47 => k0_hw47

def k0_chk48 (v140 : IVec S16 32) : Prop :=
  (∀ a x, ((![v140] : Fin 1 → IVec S16 32) a x).toNat < S13312.size a)
theorem k0_idx48_inb : ∀ (v140 : IVec S16 32) (k0_hw48 : k0_chk48 v140), ∀ a x, ((![v140] : Fin 1 → IVec S16 32) a x).toNat < S13312.size a := fun v140 k0_hw48 => k0_hw48

def k0_chk49 (v142 : IVec S16 32) : Prop :=
  (∀ a x, ((![v142] : Fin 1 → IVec S16 32) a x).toNat < S13312.size a)
theorem k0_idx49_inb : ∀ (v142 : IVec S16 32) (k0_hw49 : k0_chk49 v142), ∀ a x, ((![v142] : Fin 1 → IVec S16 32) a x).toNat < S13312.size a := fun v142 k0_hw49 => k0_hw49

def k0_chk50 (v144 : IVec S16 32) : Prop :=
  (∀ a x, ((![v144] : Fin 1 → IVec S16 32) a x).toNat < S13312.size a)
theorem k0_idx50_inb : ∀ (v144 : IVec S16 32) (k0_hw50 : k0_chk50 v144), ∀ a x, ((![v144] : Fin 1 → IVec S16 32) a x).toNat < S13312.size a := fun v144 k0_hw50 => k0_hw50

def k0_chk51 (v146 : IVec S16 32) : Prop :=
  (∀ a x, ((![v146] : Fin 1 → IVec S16 32) a x).toNat < S13312.size a)
theorem k0_idx51_inb : ∀ (v146 : IVec S16 32) (k0_hw51 : k0_chk51 v146), ∀ a x, ((![v146] : Fin 1 → IVec S16 32) a x).toNat < S13312.size a := fun v146 k0_hw51 => k0_hw51

def k0_chk52 (v148 : IVec S16 32) : Prop :=
  (∀ a x, ((![v148] : Fin 1 → IVec S16 32) a x).toNat < S13312.size a)
theorem k0_idx52_inb : ∀ (v148 : IVec S16 32) (k0_hw52 : k0_chk52 v148), ∀ a x, ((![v148] : Fin 1 → IVec S16 32) a x).toNat < S13312.size a := fun v148 k0_hw52 => k0_hw52
@[reducible] def k0_t7_loop : Scf.Loop 32 :=
  let c0_i32_26 : BitVec 32 := 0#32
  let c64_i32 : BitVec 32 := 64#32
  let v42 : BitVec 32 := Scalar.addi c0_i32_26 c64_i32
  let c1_i32_27 : BitVec 32 := 1#32
  ⟨c0_i32_26, v42, c1_i32_27⟩
def k0_off62 (k0_t7 : Fin k0_t7_loop.trips) (c12288_i32 : BitVec 32) : Fin 1 → Nat :=
  let c0_i32_35 : BitVec 32 := 0#32
  let c0_i32_26 : BitVec 32 := 0#32
  let c1_i32_27 : BitVec 32 := 1#32
  let arg19 : BitVec 32 := Scf.iv c0_i32_26 c1_i32_27 k0_t7
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v52 : BitVec 32 := Scalar.addi c12288_i32 v51
  let v53 : Index := Scalar.indexCast v52
  ![v53.toNat]
def k0_off63 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c256_i32 : BitVec 32 := 256#32
  let v43 : BitVec 32 := Scalar.muli v11 c256_i32
  ![v43.toNat]
@[reducible] def k0_t8_loop : Scf.Loop 32 :=
  let c0_i32_30 : BitVec 32 := 0#32
  let c16_i32 : BitVec 32 := 16#32
  let v45 : BitVec 32 := Scalar.addi c0_i32_30 c16_i32
  let c1_i32_31 : BitVec 32 := 1#32
  ⟨c0_i32_30, v45, c1_i32_31⟩
def k0_off64 (k0_t8 : Fin k0_t8_loop.trips) : Fin 1 → Nat :=
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v52 : Index := Scalar.indexCast v51
  ![v52.toNat]

def k0_chk53 (v57 : IVec S16 32) : Prop :=
  (∀ a x, ((![v57] : Fin 1 → IVec S16 32) a x).toNat < S13312.size a)
theorem k0_idx53_inb : ∀ (v57 : IVec S16 32) (k0_hw53 : k0_chk53 v57), ∀ a x, ((![v57] : Fin 1 → IVec S16 32) a x).toNat < S13312.size a := fun v57 k0_hw53 => k0_hw53
def k0_off65 (k0_t8 : Fin k0_t8_loop.trips) : Fin 1 → Nat :=
  let c0_i32_38 : BitVec 32 := 0#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v59 : BitVec 32 := Scalar.addi c0_i32_38 v51
  let v60 : Index := Scalar.indexCast v59
  ![v60.toNat]

def k0_chk54 (v63 : IVec S16 32) : Prop :=
  (∀ a x, ((![v63] : Fin 1 → IVec S16 32) a x).toNat < S13312.size a)
theorem k0_idx54_inb : ∀ (v63 : IVec S16 32) (k0_hw54 : k0_chk54 v63), ∀ a x, ((![v63] : Fin 1 → IVec S16 32) a x).toNat < S13312.size a := fun v63 k0_hw54 => k0_hw54
def k0_off66 (k0_t8 : Fin k0_t8_loop.trips) : Fin 1 → Nat :=
  let c0_i32_40 : BitVec 32 := 0#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v65 : BitVec 32 := Scalar.addi c0_i32_40 v51
  let v66 : Index := Scalar.indexCast v65
  ![v66.toNat]

def k0_chk55 (v69 : IVec S16 32) : Prop :=
  (∀ a x, ((![v69] : Fin 1 → IVec S16 32) a x).toNat < S13312.size a)
theorem k0_idx55_inb : ∀ (v69 : IVec S16 32) (k0_hw55 : k0_chk55 v69), ∀ a x, ((![v69] : Fin 1 → IVec S16 32) a x).toNat < S13312.size a := fun v69 k0_hw55 => k0_hw55
def k0_off67 (k0_t8 : Fin k0_t8_loop.trips) : Fin 1 → Nat :=
  let c256_i32_41 : BitVec 32 := 256#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v71 : BitVec 32 := Scalar.addi c256_i32_41 v51
  let v72 : Index := Scalar.indexCast v71
  ![v72.toNat]

def k0_chk56 (v75 : IVec S16 32) : Prop :=
  (∀ a x, ((![v75] : Fin 1 → IVec S16 32) a x).toNat < S13312.size a)
theorem k0_idx56_inb : ∀ (v75 : IVec S16 32) (k0_hw56 : k0_chk56 v75), ∀ a x, ((![v75] : Fin 1 → IVec S16 32) a x).toNat < S13312.size a := fun v75 k0_hw56 => k0_hw56
def k0_off68 (k0_t8 : Fin k0_t8_loop.trips) : Fin 1 → Nat :=
  let c256_i32_43 : BitVec 32 := 256#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v77 : BitVec 32 := Scalar.addi c256_i32_43 v51
  let v78 : Index := Scalar.indexCast v77
  ![v78.toNat]

def k0_chk57 (v81 : IVec S16 32) : Prop :=
  (∀ a x, ((![v81] : Fin 1 → IVec S16 32) a x).toNat < S13312.size a)
theorem k0_idx57_inb : ∀ (v81 : IVec S16 32) (k0_hw57 : k0_chk57 v81), ∀ a x, ((![v81] : Fin 1 → IVec S16 32) a x).toNat < S13312.size a := fun v81 k0_hw57 => k0_hw57
def k0_off69 (k0_t8 : Fin k0_t8_loop.trips) : Fin 1 → Nat :=
  let c512_i32 : BitVec 32 := 512#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v83 : BitVec 32 := Scalar.addi c512_i32 v51
  let v84 : Index := Scalar.indexCast v83
  ![v84.toNat]

def k0_chk58 (v87 : IVec S16 32) : Prop :=
  (∀ a x, ((![v87] : Fin 1 → IVec S16 32) a x).toNat < S13312.size a)
theorem k0_idx58_inb : ∀ (v87 : IVec S16 32) (k0_hw58 : k0_chk58 v87), ∀ a x, ((![v87] : Fin 1 → IVec S16 32) a x).toNat < S13312.size a := fun v87 k0_hw58 => k0_hw58
def k0_off70 (k0_t8 : Fin k0_t8_loop.trips) : Fin 1 → Nat :=
  let c512_i32_45 : BitVec 32 := 512#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v89 : BitVec 32 := Scalar.addi c512_i32_45 v51
  let v90 : Index := Scalar.indexCast v89
  ![v90.toNat]

def k0_chk59 (v93 : IVec S16 32) : Prop :=
  (∀ a x, ((![v93] : Fin 1 → IVec S16 32) a x).toNat < S13312.size a)
theorem k0_idx59_inb : ∀ (v93 : IVec S16 32) (k0_hw59 : k0_chk59 v93), ∀ a x, ((![v93] : Fin 1 → IVec S16 32) a x).toNat < S13312.size a := fun v93 k0_hw59 => k0_hw59
def k0_off71 (k0_t8 : Fin k0_t8_loop.trips) : Fin 1 → Nat :=
  let c768_i32 : BitVec 32 := 768#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v95 : BitVec 32 := Scalar.addi c768_i32 v51
  let v96 : Index := Scalar.indexCast v95
  ![v96.toNat]

def k0_chk60 (v99 : IVec S16 32) : Prop :=
  (∀ a x, ((![v99] : Fin 1 → IVec S16 32) a x).toNat < S13312.size a)
theorem k0_idx60_inb : ∀ (v99 : IVec S16 32) (k0_hw60 : k0_chk60 v99), ∀ a x, ((![v99] : Fin 1 → IVec S16 32) a x).toNat < S13312.size a := fun v99 k0_hw60 => k0_hw60
def k0_off72 (k0_t8 : Fin k0_t8_loop.trips) : Fin 1 → Nat :=
  let c768_i32_47 : BitVec 32 := 768#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v101 : BitVec 32 := Scalar.addi c768_i32_47 v51
  let v102 : Index := Scalar.indexCast v101
  ![v102.toNat]

def k0_chk61 (v105 : IVec S16 32) : Prop :=
  (∀ a x, ((![v105] : Fin 1 → IVec S16 32) a x).toNat < S13312.size a)
theorem k0_idx61_inb : ∀ (v105 : IVec S16 32) (k0_hw61 : k0_chk61 v105), ∀ a x, ((![v105] : Fin 1 → IVec S16 32) a x).toNat < S13312.size a := fun v105 k0_hw61 => k0_hw61
def k0_off73 (k0_t8 : Fin k0_t8_loop.trips) : Fin 1 → Nat :=
  let c1024_i32_48 : BitVec 32 := 1024#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v107 : BitVec 32 := Scalar.addi c1024_i32_48 v51
  let v108 : Index := Scalar.indexCast v107
  ![v108.toNat]

def k0_chk62 (v111 : IVec S16 32) : Prop :=
  (∀ a x, ((![v111] : Fin 1 → IVec S16 32) a x).toNat < S13312.size a)
theorem k0_idx62_inb : ∀ (v111 : IVec S16 32) (k0_hw62 : k0_chk62 v111), ∀ a x, ((![v111] : Fin 1 → IVec S16 32) a x).toNat < S13312.size a := fun v111 k0_hw62 => k0_hw62
def k0_off74 (k0_t8 : Fin k0_t8_loop.trips) : Fin 1 → Nat :=
  let c1024_i32_50 : BitVec 32 := 1024#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v113 : BitVec 32 := Scalar.addi c1024_i32_50 v51
  let v114 : Index := Scalar.indexCast v113
  ![v114.toNat]

def k0_chk63 (v117 : IVec S16 32) : Prop :=
  (∀ a x, ((![v117] : Fin 1 → IVec S16 32) a x).toNat < S13312.size a)
theorem k0_idx63_inb : ∀ (v117 : IVec S16 32) (k0_hw63 : k0_chk63 v117), ∀ a x, ((![v117] : Fin 1 → IVec S16 32) a x).toNat < S13312.size a := fun v117 k0_hw63 => k0_hw63
def k0_off75 (k0_t8 : Fin k0_t8_loop.trips) : Fin 1 → Nat :=
  let c1280_i32 : BitVec 32 := 1280#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v119 : BitVec 32 := Scalar.addi c1280_i32 v51
  let v120 : Index := Scalar.indexCast v119
  ![v120.toNat]

def k0_chk64 (v123 : IVec S16 32) : Prop :=
  (∀ a x, ((![v123] : Fin 1 → IVec S16 32) a x).toNat < S13312.size a)
theorem k0_idx64_inb : ∀ (v123 : IVec S16 32) (k0_hw64 : k0_chk64 v123), ∀ a x, ((![v123] : Fin 1 → IVec S16 32) a x).toNat < S13312.size a := fun v123 k0_hw64 => k0_hw64
def k0_off76 (k0_t8 : Fin k0_t8_loop.trips) : Fin 1 → Nat :=
  let c1280_i32_52 : BitVec 32 := 1280#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v125 : BitVec 32 := Scalar.addi c1280_i32_52 v51
  let v126 : Index := Scalar.indexCast v125
  ![v126.toNat]

def k0_chk65 (v129 : IVec S16 32) : Prop :=
  (∀ a x, ((![v129] : Fin 1 → IVec S16 32) a x).toNat < S13312.size a)
theorem k0_idx65_inb : ∀ (v129 : IVec S16 32) (k0_hw65 : k0_chk65 v129), ∀ a x, ((![v129] : Fin 1 → IVec S16 32) a x).toNat < S13312.size a := fun v129 k0_hw65 => k0_hw65
def k0_off77 (k0_t8 : Fin k0_t8_loop.trips) : Fin 1 → Nat :=
  let c1536_i32 : BitVec 32 := 1536#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v131 : BitVec 32 := Scalar.addi c1536_i32 v51
  let v132 : Index := Scalar.indexCast v131
  ![v132.toNat]

def k0_chk66 (v135 : IVec S16 32) : Prop :=
  (∀ a x, ((![v135] : Fin 1 → IVec S16 32) a x).toNat < S13312.size a)
theorem k0_idx66_inb : ∀ (v135 : IVec S16 32) (k0_hw66 : k0_chk66 v135), ∀ a x, ((![v135] : Fin 1 → IVec S16 32) a x).toNat < S13312.size a := fun v135 k0_hw66 => k0_hw66
def k0_off78 (k0_t8 : Fin k0_t8_loop.trips) : Fin 1 → Nat :=
  let c1536_i32_54 : BitVec 32 := 1536#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v137 : BitVec 32 := Scalar.addi c1536_i32_54 v51
  let v138 : Index := Scalar.indexCast v137
  ![v138.toNat]

def k0_chk67 (v141 : IVec S16 32) : Prop :=
  (∀ a x, ((![v141] : Fin 1 → IVec S16 32) a x).toNat < S13312.size a)
theorem k0_idx67_inb : ∀ (v141 : IVec S16 32) (k0_hw67 : k0_chk67 v141), ∀ a x, ((![v141] : Fin 1 → IVec S16 32) a x).toNat < S13312.size a := fun v141 k0_hw67 => k0_hw67
def k0_off79 (k0_t8 : Fin k0_t8_loop.trips) : Fin 1 → Nat :=
  let c1792_i32 : BitVec 32 := 1792#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v143 : BitVec 32 := Scalar.addi c1792_i32 v51
  let v144 : Index := Scalar.indexCast v143
  ![v144.toNat]

def k0_chk68 (v147 : IVec S16 32) : Prop :=
  (∀ a x, ((![v147] : Fin 1 → IVec S16 32) a x).toNat < S13312.size a)
theorem k0_idx68_inb : ∀ (v147 : IVec S16 32) (k0_hw68 : k0_chk68 v147), ∀ a x, ((![v147] : Fin 1 → IVec S16 32) a x).toNat < S13312.size a := fun v147 k0_hw68 => k0_hw68
def k0_off80 (k0_t8 : Fin k0_t8_loop.trips) : Fin 1 → Nat :=
  let c1792_i32_56 : BitVec 32 := 1792#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v149 : BitVec 32 := Scalar.addi c1792_i32_56 v51
  let v150 : Index := Scalar.indexCast v149
  ![v150.toNat]

def k0_chk69 (v153 : IVec S16 32) : Prop :=
  (∀ a x, ((![v153] : Fin 1 → IVec S16 32) a x).toNat < S13312.size a)
theorem k0_idx69_inb : ∀ (v153 : IVec S16 32) (k0_hw69 : k0_chk69 v153), ∀ a x, ((![v153] : Fin 1 → IVec S16 32) a x).toNat < S13312.size a := fun v153 k0_hw69 => k0_hw69
def k0_off81 (k0_t8 : Fin k0_t8_loop.trips) : Fin 1 → Nat :=
  let c2048_i32_57 : BitVec 32 := 2048#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v155 : BitVec 32 := Scalar.addi c2048_i32_57 v51
  let v156 : Index := Scalar.indexCast v155
  ![v156.toNat]

def k0_chk70 (v159 : IVec S16 32) : Prop :=
  (∀ a x, ((![v159] : Fin 1 → IVec S16 32) a x).toNat < S13312.size a)
theorem k0_idx70_inb : ∀ (v159 : IVec S16 32) (k0_hw70 : k0_chk70 v159), ∀ a x, ((![v159] : Fin 1 → IVec S16 32) a x).toNat < S13312.size a := fun v159 k0_hw70 => k0_hw70
def k0_off82 (k0_t8 : Fin k0_t8_loop.trips) : Fin 1 → Nat :=
  let c2048_i32_59 : BitVec 32 := 2048#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v161 : BitVec 32 := Scalar.addi c2048_i32_59 v51
  let v162 : Index := Scalar.indexCast v161
  ![v162.toNat]

def k0_chk71 (v165 : IVec S16 32) : Prop :=
  (∀ a x, ((![v165] : Fin 1 → IVec S16 32) a x).toNat < S13312.size a)
theorem k0_idx71_inb : ∀ (v165 : IVec S16 32) (k0_hw71 : k0_chk71 v165), ∀ a x, ((![v165] : Fin 1 → IVec S16 32) a x).toNat < S13312.size a := fun v165 k0_hw71 => k0_hw71
def k0_off83 (k0_t8 : Fin k0_t8_loop.trips) : Fin 1 → Nat :=
  let c2304_i32 : BitVec 32 := 2304#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v167 : BitVec 32 := Scalar.addi c2304_i32 v51
  let v168 : Index := Scalar.indexCast v167
  ![v168.toNat]

def k0_chk72 (v171 : IVec S16 32) : Prop :=
  (∀ a x, ((![v171] : Fin 1 → IVec S16 32) a x).toNat < S13312.size a)
theorem k0_idx72_inb : ∀ (v171 : IVec S16 32) (k0_hw72 : k0_chk72 v171), ∀ a x, ((![v171] : Fin 1 → IVec S16 32) a x).toNat < S13312.size a := fun v171 k0_hw72 => k0_hw72
def k0_off84 (k0_t8 : Fin k0_t8_loop.trips) : Fin 1 → Nat :=
  let c2304_i32_61 : BitVec 32 := 2304#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v173 : BitVec 32 := Scalar.addi c2304_i32_61 v51
  let v174 : Index := Scalar.indexCast v173
  ![v174.toNat]

def k0_chk73 (v177 : IVec S16 32) : Prop :=
  (∀ a x, ((![v177] : Fin 1 → IVec S16 32) a x).toNat < S13312.size a)
theorem k0_idx73_inb : ∀ (v177 : IVec S16 32) (k0_hw73 : k0_chk73 v177), ∀ a x, ((![v177] : Fin 1 → IVec S16 32) a x).toNat < S13312.size a := fun v177 k0_hw73 => k0_hw73
def k0_off85 (k0_t8 : Fin k0_t8_loop.trips) : Fin 1 → Nat :=
  let c2560_i32 : BitVec 32 := 2560#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v179 : BitVec 32 := Scalar.addi c2560_i32 v51
  let v180 : Index := Scalar.indexCast v179
  ![v180.toNat]

def k0_chk74 (v183 : IVec S16 32) : Prop :=
  (∀ a x, ((![v183] : Fin 1 → IVec S16 32) a x).toNat < S13312.size a)
theorem k0_idx74_inb : ∀ (v183 : IVec S16 32) (k0_hw74 : k0_chk74 v183), ∀ a x, ((![v183] : Fin 1 → IVec S16 32) a x).toNat < S13312.size a := fun v183 k0_hw74 => k0_hw74
def k0_off86 (k0_t8 : Fin k0_t8_loop.trips) : Fin 1 → Nat :=
  let c2560_i32_63 : BitVec 32 := 2560#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v185 : BitVec 32 := Scalar.addi c2560_i32_63 v51
  let v186 : Index := Scalar.indexCast v185
  ![v186.toNat]

def k0_chk75 (v189 : IVec S16 32) : Prop :=
  (∀ a x, ((![v189] : Fin 1 → IVec S16 32) a x).toNat < S13312.size a)
theorem k0_idx75_inb : ∀ (v189 : IVec S16 32) (k0_hw75 : k0_chk75 v189), ∀ a x, ((![v189] : Fin 1 → IVec S16 32) a x).toNat < S13312.size a := fun v189 k0_hw75 => k0_hw75
def k0_off87 (k0_t8 : Fin k0_t8_loop.trips) : Fin 1 → Nat :=
  let c2816_i32 : BitVec 32 := 2816#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v191 : BitVec 32 := Scalar.addi c2816_i32 v51
  let v192 : Index := Scalar.indexCast v191
  ![v192.toNat]

def k0_chk76 (v195 : IVec S16 32) : Prop :=
  (∀ a x, ((![v195] : Fin 1 → IVec S16 32) a x).toNat < S13312.size a)
theorem k0_idx76_inb : ∀ (v195 : IVec S16 32) (k0_hw76 : k0_chk76 v195), ∀ a x, ((![v195] : Fin 1 → IVec S16 32) a x).toNat < S13312.size a := fun v195 k0_hw76 => k0_hw76
def k0_off88 (k0_t8 : Fin k0_t8_loop.trips) : Fin 1 → Nat :=
  let c2816_i32_65 : BitVec 32 := 2816#32
  let c0_i32_35 : BitVec 32 := 0#32
  let c0_i32_30 : BitVec 32 := 0#32
  let c1_i32_31 : BitVec 32 := 1#32
  let arg19 : BitVec 32 := Scf.iv c0_i32_30 c1_i32_31 k0_t8
  let c1_i32_34 : BitVec 32 := 1#32
  let v49 : BitVec 32 := Scalar.muli arg19 c1_i32_34
  let v50 : BitVec 32 := Scalar.addi c0_i32_35 v49
  let c16_i32_36 : BitVec 32 := 16#32
  let v51 : BitVec 32 := Scalar.muli v50 c16_i32_36
  let v197 : BitVec 32 := Scalar.addi c2816_i32_65 v51
  let v198 : Index := Scalar.indexCast v197
  ![v198.toNat]
def k0_off89 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c96_i32 : BitVec 32 := 96#32
  let v46 : BitVec 32 := Scalar.muli v11 c96_i32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c12_i32 : BitVec 32 := 12#32
  let v29 : BitVec 32 := Scalar.muli v28 c12_i32
  let v47 : BitVec 32 := Scalar.addi v46 v29
  let c256_i32_33 : BitVec 32 := 256#32
  let v48 : BitVec 32 := Scalar.muli v47 c256_i32_33
  ![v48.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x384x384 : Shape := ⟨4, ![4, 96, 384, 384]⟩
abbrev S4x1 : Shape := ⟨2, ![4, 1]⟩
abbrev S4x1x384x384 : Shape := ⟨4, ![4, 1, 384, 384]⟩
abbrev S4x256x3 : Shape := ⟨3, ![4, 256, 3]⟩
abbrev S4x96x147456 : Shape := ⟨3, ![4, 96, 147456]⟩
abbrev S4x147456 : Shape := ⟨2, ![4, 147456]⟩
abbrev S1x96x147456 : Shape := ⟨3, ![1, 96, 147456]⟩
abbrev S96x147456 : Shape := ⟨2, ![96, 147456]⟩
abbrev S1x147456 : Shape := ⟨2, ![1, 147456]⟩
abbrev S147456 : Shape := ⟨1, ![147456]⟩
abbrev S1x256x3 : Shape := ⟨3, ![1, 256, 3]⟩
abbrev S256x3 : Shape := ⟨2, ![256, 3]⟩
abbrev S147456x96 : Shape := ⟨2, ![147456, 96]⟩
abbrev S_ : Shape := ⟨0, ![]⟩
abbrev S1024x96 : Shape := ⟨2, ![1024, 96]⟩
abbrev S147456x1 : Shape := ⟨2, ![147456, 1]⟩
abbrev S1024 : Shape := ⟨1, ![1024]⟩
abbrev S1024x1 : Shape := ⟨2, ![1024, 1]⟩
abbrev S256x1 : Shape := ⟨2, ![256, 1]⟩
abbrev S256 : Shape := ⟨1, ![256]⟩
abbrev S1 : Shape := ⟨1, ![1]⟩
abbrev S1x1 : Shape := ⟨2, ![1, 1]⟩
abbrev S256x96 : Shape := ⟨2, ![256, 96]⟩
abbrev S1x256x96 : Shape := ⟨3, ![1, 256, 96]⟩
abbrev S4x256x96 : Shape := ⟨3, ![4, 256, 96]⟩
abbrev S1x256 : Shape := ⟨2, ![1, 256]⟩
abbrev S4x256 : Shape := ⟨2, ![4, 256]⟩

abbrev nBuf : Space → Nat
  | .hbm => 313
  | .vmem => 0
  | .smem => 0
  | _ => 0

abbrev hbmTy0_0 (i : Nat) : BufTy := match i % 128 with
  | 0 => ⟨S4x96x384x384, .f32⟩
  | 1 => ⟨S4x1, .i32⟩
  | 2 => ⟨S4x1x384x384, .i32⟩
  | 3 => ⟨S4x256x3, .i32⟩
  | 4 => ⟨S4x96x147456, .f32⟩
  | 5 => ⟨S4x147456, .i32⟩
  | 6 => ⟨S1x96x147456, .f32⟩
  | 7 => ⟨S96x147456, .f32⟩
  | 8 => ⟨S1x147456, .i32⟩
  | 9 => ⟨S147456, .i32⟩
  | 10 => ⟨S1x256x3, .i32⟩
  | 11 => ⟨S256x3, .i32⟩
  | 12 => ⟨S147456x96, .f32⟩
  | 13 => ⟨S_, .f32⟩
  | 14 => ⟨S1024x96, .f32⟩
  | 15 => ⟨S147456x1, .i32⟩
  | 16 => ⟨S1024x96, .f32⟩
  | 17 => ⟨S_, .f32⟩
  | 18 => ⟨S147456, .f32⟩
  | 19 => ⟨S_, .f32⟩
  | 20 => ⟨S1024, .f32⟩
  | 21 => ⟨S147456x1, .i32⟩
  | 22 => ⟨S1024, .f32⟩
  | 23 => ⟨S1024x1, .f32⟩
  | 24 => ⟨S1024x96, .f32⟩
  | 25 => ⟨S1024x96, .f32⟩
  | 26 => ⟨S256x1, .i32⟩
  | 27 => ⟨S256, .i32⟩
  | 28 => ⟨S_, .i32⟩
  | 29 => ⟨S256, .i32⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S1, .i32⟩
  | 37 => ⟨S_, .i32⟩
  | 38 => ⟨S256x1, .i32⟩
  | 39 => ⟨S256x1, .i1⟩
  | 40 => ⟨S1x1, .i32⟩
  | 41 => ⟨S256x1, .i32⟩
  | 42 => ⟨S256x1, .i1⟩
  | 43 => ⟨S256x1, .i1⟩
  | 44 => ⟨S_, .i1⟩
  | 45 => ⟨S256, .i1⟩
  | 46 => ⟨S256x96, .f32⟩
  | 47 => ⟨S256x96, .i1⟩
  | 48 => ⟨S_, .f32⟩
  | 49 => ⟨S256x96, .f32⟩
  | 50 => ⟨S256x96, .f32⟩
  | 51 => ⟨S256x1, .i32⟩
  | 52 => ⟨S256, .i32⟩
  | 53 => ⟨S_, .i32⟩
  | 54 => ⟨S256, .i32⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S1, .i32⟩
  | 62 => ⟨S_, .i32⟩
  | 63 => ⟨S256x1, .i32⟩
  | 64 => ⟨S256x1, .i1⟩
  | 65 => ⟨S1x1, .i32⟩
  | 66 => ⟨S256x1, .i32⟩
  | 67 => ⟨S256x1, .i1⟩
  | 68 => ⟨S256x1, .i1⟩
  | 69 => ⟨S_, .i1⟩
  | 70 => ⟨S256, .i1⟩
  | 71 => ⟨S256x96, .f32⟩
  | 72 => ⟨S256x96, .i1⟩
  | 73 => ⟨S_, .f32⟩
  | 74 => ⟨S256x96, .f32⟩
  | 75 => ⟨S256x96, .f32⟩
  | 76 => ⟨S256x1, .i32⟩
  | 77 => ⟨S256, .i32⟩
  | 78 => ⟨S256, .f32⟩
  | 79 => ⟨S1x96x147456, .f32⟩
  | 80 => ⟨S96x147456, .f32⟩
  | 81 => ⟨S1x147456, .i32⟩
  | 82 => ⟨S147456, .i32⟩
  | 83 => ⟨S1x256x3, .i32⟩
  | 84 => ⟨S256x3, .i32⟩
  | 85 => ⟨S147456x96, .f32⟩
  | 86 => ⟨S_, .f32⟩
  | 87 => ⟨S1024x96, .f32⟩
  | 88 => ⟨S147456x1, .i32⟩
  | 89 => ⟨S1024x96, .f32⟩
  | 90 => ⟨S_, .f32⟩
  | 91 => ⟨S147456, .f32⟩
  | 92 => ⟨S_, .f32⟩
  | 93 => ⟨S1024, .f32⟩
  | 94 => ⟨S147456x1, .i32⟩
  | 95 => ⟨S1024, .f32⟩
  | 96 => ⟨S1024x1, .f32⟩
  | 97 => ⟨S1024x96, .f32⟩
  | 98 => ⟨S1024x96, .f32⟩
  | 99 => ⟨S256x1, .i32⟩
  | 100 => ⟨S256, .i32⟩
  | 101 => ⟨S_, .i32⟩
  | 102 => ⟨S256, .i32⟩
  | 103 => ⟨S256, .i1⟩
  | 104 => ⟨S_, .i32⟩
  | 105 => ⟨S256, .i32⟩
  | 106 => ⟨S256, .i32⟩
  | 107 => ⟨S256, .i32⟩
  | 108 => ⟨S256x1, .i32⟩
  | 109 => ⟨S1, .i32⟩
  | 110 => ⟨S_, .i32⟩
  | 111 => ⟨S256x1, .i32⟩
  | 112 => ⟨S256x1, .i1⟩
  | 113 => ⟨S1x1, .i32⟩
  | 114 => ⟨S256x1, .i32⟩
  | 115 => ⟨S256x1, .i1⟩
  | 116 => ⟨S256x1, .i1⟩
  | 117 => ⟨S_, .i1⟩
  | 118 => ⟨S256, .i1⟩
  | 119 => ⟨S256x96, .f32⟩
  | 120 => ⟨S256x96, .i1⟩
  | 121 => ⟨S_, .f32⟩
  | 122 => ⟨S256x96, .f32⟩
  | 123 => ⟨S256x96, .f32⟩
  | 124 => ⟨S256x1, .i32⟩
  | 125 => ⟨S256, .i32⟩
  | 126 => ⟨S_, .i32⟩
  | 127 => ⟨S256, .i32⟩
  | _ => ⟨S4x96x384x384, .f32⟩

abbrev hbmTy0_1 (i : Nat) : BufTy := match i % 128 with
  | 0 => ⟨S256, .i1⟩
  | 1 => ⟨S_, .i32⟩
  | 2 => ⟨S256, .i32⟩
  | 3 => ⟨S256, .i32⟩
  | 4 => ⟨S256, .i32⟩
  | 5 => ⟨S256x1, .i32⟩
  | 6 => ⟨S1, .i32⟩
  | 7 => ⟨S_, .i32⟩
  | 8 => ⟨S256x1, .i32⟩
  | 9 => ⟨S256x1, .i1⟩
  | 10 => ⟨S1x1, .i32⟩
  | 11 => ⟨S256x1, .i32⟩
  | 12 => ⟨S256x1, .i1⟩
  | 13 => ⟨S256x1, .i1⟩
  | 14 => ⟨S_, .i1⟩
  | 15 => ⟨S256, .i1⟩
  | 16 => ⟨S256x96, .f32⟩
  | 17 => ⟨S256x96, .i1⟩
  | 18 => ⟨S_, .f32⟩
  | 19 => ⟨S256x96, .f32⟩
  | 20 => ⟨S256x96, .f32⟩
  | 21 => ⟨S256x1, .i32⟩
  | 22 => ⟨S256, .i32⟩
  | 23 => ⟨S256, .f32⟩
  | 24 => ⟨S1x96x147456, .f32⟩
  | 25 => ⟨S96x147456, .f32⟩
  | 26 => ⟨S1x147456, .i32⟩
  | 27 => ⟨S147456, .i32⟩
  | 28 => ⟨S1x256x3, .i32⟩
  | 29 => ⟨S256x3, .i32⟩
  | 30 => ⟨S147456x96, .f32⟩
  | 31 => ⟨S_, .f32⟩
  | 32 => ⟨S1024x96, .f32⟩
  | 33 => ⟨S147456x1, .i32⟩
  | 34 => ⟨S1024x96, .f32⟩
  | 35 => ⟨S_, .f32⟩
  | 36 => ⟨S147456, .f32⟩
  | 37 => ⟨S_, .f32⟩
  | 38 => ⟨S1024, .f32⟩
  | 39 => ⟨S147456x1, .i32⟩
  | 40 => ⟨S1024, .f32⟩
  | 41 => ⟨S1024x1, .f32⟩
  | 42 => ⟨S1024x96, .f32⟩
  | 43 => ⟨S1024x96, .f32⟩
  | 44 => ⟨S256x1, .i32⟩
  | 45 => ⟨S256, .i32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S1, .i32⟩
  | 55 => ⟨S_, .i32⟩
  | 56 => ⟨S256x1, .i32⟩
  | 57 => ⟨S256x1, .i1⟩
  | 58 => ⟨S1x1, .i32⟩
  | 59 => ⟨S256x1, .i32⟩
  | 60 => ⟨S256x1, .i1⟩
  | 61 => ⟨S256x1, .i1⟩
  | 62 => ⟨S_, .i1⟩
  | 63 => ⟨S256, .i1⟩
  | 64 => ⟨S256x96, .f32⟩
  | 65 => ⟨S256x96, .i1⟩
  | 66 => ⟨S_, .f32⟩
  | 67 => ⟨S256x96, .f32⟩
  | 68 => ⟨S256x96, .f32⟩
  | 69 => ⟨S256x1, .i32⟩
  | 70 => ⟨S256, .i32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S256x1, .i32⟩
  | 79 => ⟨S1, .i32⟩
  | 80 => ⟨S_, .i32⟩
  | 81 => ⟨S256x1, .i32⟩
  | 82 => ⟨S256x1, .i1⟩
  | 83 => ⟨S1x1, .i32⟩
  | 84 => ⟨S256x1, .i32⟩
  | 85 => ⟨S256x1, .i1⟩
  | 86 => ⟨S256x1, .i1⟩
  | 87 => ⟨S_, .i1⟩
  | 88 => ⟨S256, .i1⟩
  | 89 => ⟨S256x96, .f32⟩
  | 90 => ⟨S256x96, .i1⟩
  | 91 => ⟨S_, .f32⟩
  | 92 => ⟨S256x96, .f32⟩
  | 93 => ⟨S256x96, .f32⟩
  | 94 => ⟨S256x1, .i32⟩
  | 95 => ⟨S256, .i32⟩
  | 96 => ⟨S256, .f32⟩
  | 97 => ⟨S1x96x147456, .f32⟩
  | 98 => ⟨S96x147456, .f32⟩
  | 99 => ⟨S1x147456, .i32⟩
  | 100 => ⟨S147456, .i32⟩
  | 101 => ⟨S1x256x3, .i32⟩
  | 102 => ⟨S256x3, .i32⟩
  | 103 => ⟨S147456x96, .f32⟩
  | 104 => ⟨S_, .f32⟩
  | 105 => ⟨S1024x96, .f32⟩
  | 106 => ⟨S147456x1, .i32⟩
  | 107 => ⟨S1024x96, .f32⟩
  | 108 => ⟨S_, .f32⟩
  | 109 => ⟨S147456, .f32⟩
  | 110 => ⟨S_, .f32⟩
  | 111 => ⟨S1024, .f32⟩
  | 112 => ⟨S147456x1, .i32⟩
  | 113 => ⟨S1024, .f32⟩
  | 114 => ⟨S1024x1, .f32⟩
  | 115 => ⟨S1024x96, .f32⟩
  | 116 => ⟨S1024x96, .f32⟩
  | 117 => ⟨S256x1, .i32⟩
  | 118 => ⟨S256, .i32⟩
  | 119 => ⟨S_, .i32⟩
  | 120 => ⟨S256, .i32⟩
  | 121 => ⟨S256, .i1⟩
  | 122 => ⟨S_, .i32⟩
  | 123 => ⟨S256, .i32⟩
  | 124 => ⟨S256, .i32⟩
  | 125 => ⟨S256, .i32⟩
  | 126 => ⟨S256x1, .i32⟩
  | 127 => ⟨S1, .i32⟩
  | _ => ⟨S4x96x384x384, .f32⟩

abbrev hbmTy0_2 (i : Nat) : BufTy := match i % 128 with
  | 0 => ⟨S_, .i32⟩
  | 1 => ⟨S256x1, .i32⟩
  | 2 => ⟨S256x1, .i1⟩
  | 3 => ⟨S1x1, .i32⟩
  | 4 => ⟨S256x1, .i32⟩
  | 5 => ⟨S256x1, .i1⟩
  | 6 => ⟨S256x1, .i1⟩
  | 7 => ⟨S_, .i1⟩
  | 8 => ⟨S256, .i1⟩
  | 9 => ⟨S256x96, .f32⟩
  | 10 => ⟨S256x96, .i1⟩
  | 11 => ⟨S_, .f32⟩
  | 12 => ⟨S256x96, .f32⟩
  | 13 => ⟨S256x96, .f32⟩
  | 14 => ⟨S256x1, .i32⟩
  | 15 => ⟨S256, .i32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S1, .i32⟩
  | 25 => ⟨S_, .i32⟩
  | 26 => ⟨S256x1, .i32⟩
  | 27 => ⟨S256x1, .i1⟩
  | 28 => ⟨S1x1, .i32⟩
  | 29 => ⟨S256x1, .i32⟩
  | 30 => ⟨S256x1, .i1⟩
  | 31 => ⟨S256x1, .i1⟩
  | 32 => ⟨S_, .i1⟩
  | 33 => ⟨S256, .i1⟩
  | 34 => ⟨S256x96, .f32⟩
  | 35 => ⟨S256x96, .i1⟩
  | 36 => ⟨S_, .f32⟩
  | 37 => ⟨S256x96, .f32⟩
  | 38 => ⟨S256x96, .f32⟩
  | 39 => ⟨S256x1, .i32⟩
  | 40 => ⟨S256, .i32⟩
  | 41 => ⟨S256, .f32⟩
  | 42 => ⟨S1x256x96, .f32⟩
  | 43 => ⟨S1x256x96, .f32⟩
  | 44 => ⟨S1x256x96, .f32⟩
  | 45 => ⟨S1x256x96, .f32⟩
  | 46 => ⟨S4x256x96, .f32⟩
  | 47 => ⟨S1x256x96, .f32⟩
  | 48 => ⟨S1x256x96, .f32⟩
  | 49 => ⟨S1x256x96, .f32⟩
  | 50 => ⟨S1x256x96, .f32⟩
  | 51 => ⟨S4x256x96, .f32⟩
  | 52 => ⟨S1x256, .f32⟩
  | 53 => ⟨S1x256, .f32⟩
  | 54 => ⟨S1x256, .f32⟩
  | 55 => ⟨S1x256, .f32⟩
  | 56 => ⟨S4x256, .f32⟩
  | _ => ⟨S4x96x384x384, .f32⟩

abbrev hbmTy (i : Nat) : BufTy := match i / 128 with
  | 0 => hbmTy0_0 i
  | 1 => hbmTy0_1 i
  | 2 => hbmTy0_2 i
  | _ => ⟨S4x96x384x384, .f32⟩

abbrev bufTy : (tb : Table) → Fin (tcTables nBuf tb) → BufTy
  | .hbm, ⟨i, _⟩ => hbmTy i
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_2 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_3 : Ref sig .tc := ⟨.hbm, 90, rfl⟩
abbrev main_v38 : Ref sig .tc := ⟨.hbm, 91, rfl⟩
abbrev main_cst_4 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_call3_c : Ref sig .tc := ⟨.hbm, 126, rfl⟩
abbrev main_call3_v0 : Ref sig .tc := ⟨.hbm, 127, rfl⟩
abbrev main_call3_v1 : Ref sig .tc := ⟨.hbm, 128, rfl⟩
abbrev main_call3_c_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_c_1 : Ref sig .tc := ⟨.hbm, 134, rfl⟩
abbrev main_call3_c_2 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_c_3 : Ref sig .tc := ⟨.hbm, 142, rfl⟩
abbrev main_call3_v12 : Ref sig .tc := ⟨.hbm, 143, rfl⟩
abbrev main_call3_v13 : Ref sig .tc := ⟨.hbm, 144, rfl⟩
abbrev main_call3_v14 : Ref sig .tc := ⟨.hbm, 145, rfl⟩
abbrev main_call3_cst : Ref sig .tc := ⟨.hbm, 146, rfl⟩
abbrev main_call3_v15 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_cst_5 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_cst_6 : Ref sig .tc := ⟨.hbm, 163, rfl⟩
abbrev main_v64 : Ref sig .tc := ⟨.hbm, 164, rfl⟩
abbrev main_cst_7 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_call4_c : Ref sig .tc := ⟨.hbm, 174, rfl⟩
abbrev main_call4_v0 : Ref sig .tc := ⟨.hbm, 175, rfl⟩
abbrev main_call4_v1 : Ref sig .tc := ⟨.hbm, 176, rfl⟩
abbrev main_call4_c_0 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_call4_v5 : Ref sig .tc := ⟨.hbm, 181, rfl⟩
abbrev main_call4_c_1 : Ref sig .tc := ⟨.hbm, 182, rfl⟩
abbrev main_call4_c_2 : Ref sig .tc := ⟨.hbm, 183, rfl⟩
abbrev main_call4_v6 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_call4_v11 : Ref sig .tc := ⟨.hbm, 189, rfl⟩
abbrev main_call4_c_3 : Ref sig .tc := ⟨.hbm, 190, rfl⟩
abbrev main_call4_v12 : Ref sig .tc := ⟨.hbm, 191, rfl⟩
abbrev main_call4_v13 : Ref sig .tc := ⟨.hbm, 192, rfl⟩
abbrev main_call4_v14 : Ref sig .tc := ⟨.hbm, 193, rfl⟩
abbrev main_call4_cst : Ref sig .tc := ⟨.hbm, 194, rfl⟩
abbrev main_call4_v15 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_call5_c : Ref sig .tc := ⟨.hbm, 199, rfl⟩
abbrev main_call5_v0 : Ref sig .tc := ⟨.hbm, 200, rfl⟩
abbrev main_call5_v1 : Ref sig .tc := ⟨.hbm, 201, rfl⟩
abbrev main_call5_c_0 : Ref sig .tc := ⟨.hbm, 202, rfl⟩
abbrev main_call5_v2 : Ref sig .tc := ⟨.hbm, 203, rfl⟩
abbrev main_call5_v3 : Ref sig .tc := ⟨.hbm, 204, rfl⟩
abbrev main_call5_v4 : Ref sig .tc := ⟨.hbm, 205, rfl⟩
abbrev main_call5_v5 : Ref sig .tc := ⟨.hbm, 206, rfl⟩
abbrev main_call5_c_1 : Ref sig .tc := ⟨.hbm, 207, rfl⟩
abbrev main_call5_c_2 : Ref sig .tc := ⟨.hbm, 208, rfl⟩
abbrev main_call5_v6 : Ref sig .tc := ⟨.hbm, 209, rfl⟩
abbrev main_call5_v7 : Ref sig .tc := ⟨.hbm, 210, rfl⟩
abbrev main_call5_v8 : Ref sig .tc := ⟨.hbm, 211, rfl⟩
abbrev main_call5_v9 : Ref sig .tc := ⟨.hbm, 212, rfl⟩
abbrev main_call5_v10 : Ref sig .tc := ⟨.hbm, 213, rfl⟩
abbrev main_call5_v11 : Ref sig .tc := ⟨.hbm, 214, rfl⟩
abbrev main_call5_c_3 : Ref sig .tc := ⟨.hbm, 215, rfl⟩
abbrev main_call5_v12 : Ref sig .tc := ⟨.hbm, 216, rfl⟩
abbrev main_call5_v13 : Ref sig .tc := ⟨.hbm, 217, rfl⟩
abbrev main_call5_v14 : Ref sig .tc := ⟨.hbm, 218, rfl⟩
abbrev main_call5_cst : Ref sig .tc := ⟨.hbm, 219, rfl⟩
abbrev main_call5_v15 : Ref sig .tc := ⟨.hbm, 220, rfl⟩
abbrev main_v76 : Ref sig .tc := ⟨.hbm, 221, rfl⟩
abbrev main_v77 : Ref sig .tc := ⟨.hbm, 222, rfl⟩
abbrev main_v78 : Ref sig .tc := ⟨.hbm, 223, rfl⟩
abbrev main_v79 : Ref sig .tc := ⟨.hbm, 224, rfl⟩
abbrev main_v80 : Ref sig .tc := ⟨.hbm, 225, rfl⟩
abbrev main_v81 : Ref sig .tc := ⟨.hbm, 226, rfl⟩
abbrev main_v82 : Ref sig .tc := ⟨.hbm, 227, rfl⟩
abbrev main_v83 : Ref sig .tc := ⟨.hbm, 228, rfl⟩
abbrev main_v84 : Ref sig .tc := ⟨.hbm, 229, rfl⟩
abbrev main_v85 : Ref sig .tc := ⟨.hbm, 230, rfl⟩
abbrev main_v86 : Ref sig .tc := ⟨.hbm, 231, rfl⟩
abbrev main_cst_8 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_cst_9 : Ref sig .tc := ⟨.hbm, 236, rfl⟩
abbrev main_v90 : Ref sig .tc := ⟨.hbm, 237, rfl⟩
abbrev main_cst_10 : Ref sig .tc := ⟨.hbm, 238, rfl⟩
abbrev main_v91 : Ref sig .tc := ⟨.hbm, 239, rfl⟩
abbrev main_v92 : Ref sig .tc := ⟨.hbm, 240, rfl⟩
abbrev main_v93 : Ref sig .tc := ⟨.hbm, 241, rfl⟩
abbrev main_v94 : Ref sig .tc := ⟨.hbm, 242, rfl⟩
abbrev main_v95 : Ref sig .tc := ⟨.hbm, 243, rfl⟩
abbrev main_v96 : Ref sig .tc := ⟨.hbm, 244, rfl⟩
abbrev main_v97 : Ref sig .tc := ⟨.hbm, 245, rfl⟩
abbrev main_v98 : Ref sig .tc := ⟨.hbm, 246, rfl⟩
abbrev main_call6_c : Ref sig .tc := ⟨.hbm, 247, rfl⟩
abbrev main_call6_v0 : Ref sig .tc := ⟨.hbm, 248, rfl⟩
abbrev main_call6_v1 : Ref sig .tc := ⟨.hbm, 249, rfl⟩
abbrev main_call6_c_0 : Ref sig .tc := ⟨.hbm, 250, rfl⟩
abbrev main_call6_v2 : Ref sig .tc := ⟨.hbm, 251, rfl⟩
abbrev main_call6_v3 : Ref sig .tc := ⟨.hbm, 252, rfl⟩
abbrev main_call6_v4 : Ref sig .tc := ⟨.hbm, 253, rfl⟩
abbrev main_call6_v5 : Ref sig .tc := ⟨.hbm, 254, rfl⟩
abbrev main_call6_c_1 : Ref sig .tc := ⟨.hbm, 255, rfl⟩
abbrev main_call6_c_2 : Ref sig .tc := ⟨.hbm, 256, rfl⟩
abbrev main_call6_v6 : Ref sig .tc := ⟨.hbm, 257, rfl⟩
abbrev main_call6_v7 : Ref sig .tc := ⟨.hbm, 258, rfl⟩
abbrev main_call6_v8 : Ref sig .tc := ⟨.hbm, 259, rfl⟩
abbrev main_call6_v9 : Ref sig .tc := ⟨.hbm, 260, rfl⟩
abbrev main_call6_v10 : Ref sig .tc := ⟨.hbm, 261, rfl⟩
abbrev main_call6_v11 : Ref sig .tc := ⟨.hbm, 262, rfl⟩
abbrev main_call6_c_3 : Ref sig .tc := ⟨.hbm, 263, rfl⟩
abbrev main_call6_v12 : Ref sig .tc := ⟨.hbm, 264, rfl⟩
abbrev main_call6_v13 : Ref sig .tc := ⟨.hbm, 265, rfl⟩
abbrev main_call6_v14 : Ref sig .tc := ⟨.hbm, 266, rfl⟩
abbrev main_call6_cst : Ref sig .tc := ⟨.hbm, 267, rfl⟩
abbrev main_call6_v15 : Ref sig .tc := ⟨.hbm, 268, rfl⟩
abbrev main_v99 : Ref sig .tc := ⟨.hbm, 269, rfl⟩
abbrev main_v100 : Ref sig .tc := ⟨.hbm, 270, rfl⟩
abbrev main_v101 : Ref sig .tc := ⟨.hbm, 271, rfl⟩
abbrev main_call7_c : Ref sig .tc := ⟨.hbm, 272, rfl⟩
abbrev main_call7_v0 : Ref sig .tc := ⟨.hbm, 273, rfl⟩
abbrev main_call7_v1 : Ref sig .tc := ⟨.hbm, 274, rfl⟩
abbrev main_call7_c_0 : Ref sig .tc := ⟨.hbm, 275, rfl⟩
abbrev main_call7_v2 : Ref sig .tc := ⟨.hbm, 276, rfl⟩
abbrev main_call7_v3 : Ref sig .tc := ⟨.hbm, 277, rfl⟩
abbrev main_call7_v4 : Ref sig .tc := ⟨.hbm, 278, rfl⟩
abbrev main_call7_v5 : Ref sig .tc := ⟨.hbm, 279, rfl⟩
abbrev main_call7_c_1 : Ref sig .tc := ⟨.hbm, 280, rfl⟩
abbrev main_call7_c_2 : Ref sig .tc := ⟨.hbm, 281, rfl⟩
abbrev main_call7_v6 : Ref sig .tc := ⟨.hbm, 282, rfl⟩
abbrev main_call7_v7 : Ref sig .tc := ⟨.hbm, 283, rfl⟩
abbrev main_call7_v8 : Ref sig .tc := ⟨.hbm, 284, rfl⟩
abbrev main_call7_v9 : Ref sig .tc := ⟨.hbm, 285, rfl⟩
abbrev main_call7_v10 : Ref sig .tc := ⟨.hbm, 286, rfl⟩
abbrev main_call7_v11 : Ref sig .tc := ⟨.hbm, 287, rfl⟩
abbrev main_call7_c_3 : Ref sig .tc := ⟨.hbm, 288, rfl⟩
abbrev main_call7_v12 : Ref sig .tc := ⟨.hbm, 289, rfl⟩
abbrev main_call7_v13 : Ref sig .tc := ⟨.hbm, 290, rfl⟩
abbrev main_call7_v14 : Ref sig .tc := ⟨.hbm, 291, rfl⟩
abbrev main_call7_cst : Ref sig .tc := ⟨.hbm, 292, rfl⟩
abbrev main_call7_v15 : Ref sig .tc := ⟨.hbm, 293, rfl⟩
abbrev main_v102 : Ref sig .tc := ⟨.hbm, 294, rfl⟩
abbrev main_v103 : Ref sig .tc := ⟨.hbm, 295, rfl⟩
abbrev main_v104 : Ref sig .tc := ⟨.hbm, 296, rfl⟩
abbrev main_v105 : Ref sig .tc := ⟨.hbm, 297, rfl⟩
abbrev main_v106 : Ref sig .tc := ⟨.hbm, 298, rfl⟩
abbrev main_v107 : Ref sig .tc := ⟨.hbm, 299, rfl⟩
abbrev main_v108 : Ref sig .tc := ⟨.hbm, 300, rfl⟩
abbrev main_v109 : Ref sig .tc := ⟨.hbm, 301, rfl⟩
abbrev main_v110 : Ref sig .tc := ⟨.hbm, 302, rfl⟩
abbrev main_v111 : Ref sig .tc := ⟨.hbm, 303, rfl⟩
abbrev main_v112 : Ref sig .tc := ⟨.hbm, 304, rfl⟩
abbrev main_v113 : Ref sig .tc := ⟨.hbm, 305, rfl⟩
abbrev main_v114 : Ref sig .tc := ⟨.hbm, 306, rfl⟩
abbrev main_v115 : Ref sig .tc := ⟨.hbm, 307, rfl⟩
abbrev main_v116 : Ref sig .tc := ⟨.hbm, 308, rfl⟩
abbrev main_v117 : Ref sig .tc := ⟨.hbm, 309, rfl⟩
abbrev main_v118 : Ref sig .tc := ⟨.hbm, 310, rfl⟩
abbrev main_v119 : Ref sig .tc := ⟨.hbm, 311, rfl⟩
abbrev main_v120 : Ref sig .tc := ⟨.hbm, 312, rfl⟩

abbrev nD : Nat := 1
abbrev τ : Topo := Topo.v7x

variable {F : FTy → Type} [FloatOps F]
-- ==== Proof.Lanes.lean ====
/-
  The vocabulary of the segment-mean kernel's proof: groups of sixteen lanes read out of the label and feature chunks,
  the scatter-add of one group into the table of sums, and how loads, stores and scatters of a vector subcore act on
  buffers described this way. Everything here is over an arbitrary float interpretation.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.MixedBatch
public import Idealize.ShloMosaic.Lib.ShareLeaves
public import Idealize.ShloMosaic.Lib.ValueLayout
public import proofs.«01_k».proof.Proof.Gen.KernelIdeal
public import proofs.«01_k».proof.Proof.Gen.KernelIdeal.Skeleton
public import proofs.«01_k».proof.Proof.Gen.Pre_in_range

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters
/-- The assertions' resource algebra. -/
abbrev Res (F : FTy → Type) : Type := MT nD τ sig (HIx 1) (Elt F) ℕ UU ℕ

abbrev EH : Emb UH (MT nD τ sig (HIx 1) (Elt F) ℕ UU ℕ) := embL

/-! ## Buffers of a task -/

abbrev Sums (F : FTy → Type) : Type := Vec F S13312 .f32
abbrev LabC (F : FTy → Type) : Type := Vec F S8x384 .i32
abbrev XC (F : FTy → Type) : Type := Vec F S12x8x384 .f32
abbrev Lab16 (F : FTy → Type) : Type := Vec F S16 .i32
abbrev V16 (F : FTy → Type) : Type := Vec F S16 .f32

abbrev mX : Memref sig .scVector .hbm S4x96x384x384 .f32 := Memref.whole main_arg0_scv
abbrev mLab : Memref sig .scVector .hbm S4x1x384x384 .i32 := Memref.whole main_arg2_scv
abbrev mEa : Memref sig .scVector .hbm S1024 .i32 := Memref.whole main_v2_scv
abbrev mEb : Memref sig .scVector .hbm S1024 .i32 := Memref.whole main_v5_scv
abbrev mOa : Memref sig .scVector .hbm S98304 .f32 := Memref.whole main_v9_0_scv
abbrev mOb : Memref sig .scVector .hbm S98304 .f32 := Memref.whole main_v9_1_scv
abbrev mS : Memref sig .scVector .vmem S13312 .f32 := Memref.whole cc0_scratch0
abbrev mL0 : Memref sig .scVector .vmem S8x384 .i32 := Memref.whole cc0_scratch1
abbrev mL1 : Memref sig .scVector .vmem S8x384 .i32 := Memref.whole cc0_scratch2
abbrev mX0 : Memref sig .scVector .vmem S12x8x384 .f32 := Memref.whole cc0_scratch3
abbrev mX1 : Memref sig .scVector .vmem S12x8x384 .f32 := Memref.whole cc0_scratch4
abbrev mPa : Memref sig .scVector .vmem S256 .i32 := Memref.whole cc0_scratch5
abbrev mPb : Memref sig .scVector .vmem S256 .i32 := Memref.whole cc0_scratch6
abbrev mQa : Memref sig .scVector .vmem S3072 .f32 := Memref.whole cc0_scratch7
abbrev mQb : Memref sig .scVector .vmem S3072 .f32 := Memref.whole cc0_scratch8

abbrev cV (L : grid0.Coords) : Fin τ.nSC := (L 0).castLE hcore0
abbrev jV (L : grid0.Coords) : Fin τ.nSub := (L 1).castLE hsub0

/-! ## Sixteen lanes of a chunk -/

/-- An index of shape `s` from naturals, each coordinate taken modulo its extent. -/
def nix (s : Shape) (hs : ∀ a, 0 < s.size a) (v : Fin s.rank → Nat) : s.Idx := fun a => ⟨v a % s.size a, Nat.mod_lt _ (hs a)⟩

theorem nix_eq {s : Shape} (hs : ∀ a, 0 < s.size a) (v : Fin s.rank → Nat) (i : s.Idx) (h : ∀ a, (i a).val = v a) : nix s hs v = i := by
  funext a; apply Fin.ext; show v a % _ = _; rw [← h a, Nat.mod_eq_of_lt (i a).isLt]

theorem pos13312 : ∀ a, 0 < S13312.size a := by decide
theorem pos8x384 : ∀ a, 0 < S8x384.size a := by decide
theorem pos12x8x384 : ∀ a, 0 < S12x8x384.size a := by decide
theorem pos256 : ∀ a, 0 < S256.size a := by decide
theorem pos3072 : ∀ a, 0 < S3072.size a := by decide

/-- Sixteen labels from row `r`, column `c` of a label chunk on; sixteen features of channel `ch` likewise. -/
def lab16 (f : LabC F) (r c : Nat) : Lab16 F := fun j => f (nix S8x384 pos8x384 ![r, c + (j 0).val])
def x16 (f : XC F) (ch r c : Nat) : V16 F := fun j => f (nix S12x8x384 pos12x8x384 ![ch, r, c + (j 0).val])

/-- The same sixteen values in the shape a load gives them. -/
def lab1 (f : LabC F) (r c : Nat) : Vec F S1x16 .i32 := fun j => f (nix S8x384 pos8x384 ![r, c + (j 1).val])
def x1 (f : XC F) (ch r c : Nat) : Vec F S1x1x16 .f32 := fun j => f (nix S12x8x384 pos12x8x384 ![ch, r, c + (j 2).val])

theorem cast_lab1 (f : LabC F) (r c : Nat) : shapeCast S16 (lab1 f r c) shapeCasts_S1x16_S16 = lab16 f r c := by
  funext j
  obtain ⟨j0, rfl⟩ : ∃ j0 : Fin 16, j = ix1 j0 := ⟨j 0, eq_ix1 (n := 16) j⟩
  exact shapeCast_1a_a_apply (a := 16) (lab1 f r c) shapeCasts_S1x16_S16 j0

theorem cast_x1 (f : XC F) (ch r c : Nat) : shapeCast S16 (x1 f ch r c) shapeCasts_S1x1x16_S16 = x16 f ch r c := by
  funext j
  obtain ⟨j0, rfl⟩ : ∃ j0 : Fin 16, j = ix1 j0 := ⟨j 0, eq_ix1 (n := 16) j⟩
  refine (shapeCast_apply (s := S1x1x16) (t := S16) (x1 f ch r c) shapeCasts_S1x1x16_S16 (ix1 j0) (ix3 (0 : Fin 1) (0 : Fin 1) j0) ?_).trans rfl
  rw [Shape.rowMajor_val_three, Shape.rowMajor_val_one]
  show (0 * 1 + 0) * 16 + j0.val = j0.val
  omega

theorem read_L0 (f : LabC F) {off : Fin 2 → Nat} {hin : ∀ a, off a + S1x16.size a ≤ S8x384.size a} {r c : Nat} (h : off = ![r, c]) :
    (mL0).view.readAt (Elt F) (Rect.unit (s := S8x384) off S1x16.size hin).toLoadRect f = lab1 f r c := by
  subst h; funext j
  refine congrArg f ((nix_eq pos8x384 _ _ fun a => ?_).symm)
  match a with
  | ⟨0, _⟩ => have := (j 0).isLt; show r + 1 * (j 0).val = r; have h1 : (j 0).val < 1 := this; omega
  | ⟨1, _⟩ => show c + 1 * (j 1).val = c + (j 1).val; omega

theorem read_L1 (f : LabC F) {off : Fin 2 → Nat} {hin : ∀ a, off a + S1x16.size a ≤ S8x384.size a} {r c : Nat} (h : off = ![r, c]) :
    (mL1).view.readAt (Elt F) (Rect.unit (s := S8x384) off S1x16.size hin).toLoadRect f = lab1 f r c := read_L0 f h

theorem read_X0 (f : XC F) {off : Fin 3 → Nat} {hin : ∀ a, off a + S1x1x16.size a ≤ S12x8x384.size a} {ch r c : Nat} (h : off = ![ch, r, c]) :
    (mX0).view.readAt (Elt F) (Rect.unit (s := S12x8x384) off S1x1x16.size hin).toLoadRect f = x1 f ch r c := by
  subst h; funext j
  refine congrArg f ((nix_eq pos12x8x384 _ _ fun a => ?_).symm)
  match a with
  | ⟨0, _⟩ => have h1 : (j 0).val < 1 := (j 0).isLt; show ch + 1 * (j 0).val = ch; omega
  | ⟨1, _⟩ => have h1 : (j 1).val < 1 := (j 1).isLt; show r + 1 * (j 1).val = r; omega
  | ⟨2, _⟩ => show c + 1 * (j 2).val = c + (j 2).val; omega

theorem read_X1 (f : XC F) {off : Fin 3 → Nat} {hin : ∀ a, off a + S1x1x16.size a ≤ S12x8x384.size a} {ch r c : Nat} (h : off = ![ch, r, c]) :
    (mX1).view.readAt (Elt F) (Rect.unit (s := S12x8x384) off S1x1x16.size hin).toLoadRect f = x1 f ch r c := read_X0 f h

/-! ## Flat buffers: sixteen elements read or replaced from a position on -/

/-- Sixteen elements of the table of sums from position `lo` on. -/
def s16 (f : Sums F) (lo : Nat) : V16 F := fun j => f (nix S13312 pos13312 ![lo + (j 0).val])
def p16 (f : Vec F S256 .i32) (lo : Nat) : Lab16 F := fun j => f (nix S256 pos256 ![lo + (j 0).val])

/-- A flat buffer with the sixteen elements from `lo` on replaced by `v`. -/
def upd {n : Nat} {α : Type} (f : (⟨1, ![n]⟩ : Shape).Idx → α) (lo : Nat) (v : S16.Idx → α) : (⟨1, ![n]⟩ : Shape).Idx → α :=
  fun i => if h : lo ≤ (i 0).val ∧ (i 0).val < lo + 16 then v (ix1 (⟨(i 0).val - lo, by omega⟩ : Fin 16)) else f i

theorem read_S (f : Sums F) {off : Fin 1 → Nat} {hin : ∀ a, off a + S16.size a ≤ S13312.size a} {lo : Nat} (h : off = ![lo]) :
    (mS).view.readAt (Elt F) (Rect.unit (s := S13312) off S16.size hin).toLoadRect f = s16 f lo := by
  subst h; funext j
  refine congrArg f ((nix_eq pos13312 _ _ fun a => ?_).symm)
  match a with
  | ⟨0, _⟩ => show lo + 1 * (j 0).val = lo + (j 0).val; omega

theorem read_Pa (f : Vec F S256 .i32) {off : Fin 1 → Nat} {hin : ∀ a, off a + S16.size a ≤ S256.size a} {lo : Nat} (h : off = ![lo]) :
    (mPa).view.readAt (Elt F) (Rect.unit (s := S256) off S16.size hin).toLoadRect f = p16 f lo := by
  subst h; funext j
  refine congrArg f ((nix_eq pos256 _ _ fun a => ?_).symm)
  match a with
  | ⟨0, _⟩ => show lo + 1 * (j 0).val = lo + (j 0).val; omega

theorem read_Pb (f : Vec F S256 .i32) {off : Fin 1 → Nat} {hin : ∀ a, off a + S16.size a ≤ S256.size a} {lo : Nat} (h : off = ![lo]) :
    (mPb).view.readAt (Elt F) (Rect.unit (s := S256) off S16.size hin).toLoadRect f = p16 f lo := read_Pa f h

/-- Writing sixteen elements through a unit rectangle of a whole flat buffer. -/
theorem write_flat {n : Nat} {sp : Space} {e : EltTy} (m : Memref sig .scVector sp ⟨1, ![n]⟩ e) (off : Fin 1 → Nat)
    (hin : ∀ a, off a + S16.size a ≤ (⟨1, ![n]⟩ : Shape).size a) (f : (⟨1, ![n]⟩ : Shape).Idx → Elt F e) (w : S16.Idx → Elt F e)
    {lo : Nat} (h : off = ![lo]) (g : (⟨1, ![n]⟩ : Shape).Idx → Elt F e)
    (hg1 : ∀ x : S16.Idx, g ((Rect.unit (s := ⟨1, ![n]⟩) off S16.size hin).idx x) = w x)
    (hg2 : ∀ i, i ∉ Finset.univ.image (fun x : S16.Idx => (Rect.unit (s := ⟨1, ![n]⟩) off S16.size hin).idx x) → g i = f i) :
    g = upd f lo w := by
  subst h; funext i
  unfold upd
  split
  · rename_i hi
    have e : i = (Rect.unit (s := ⟨1, ![n]⟩) ![lo] S16.size hin).idx (ix1 (⟨(i 0).val - lo, by omega⟩ : Fin 16)) := by
      funext a
      match a with
      | ⟨0, _⟩ => apply Fin.ext; show (i 0).val = lo + 1 * ((i 0).val - lo); omega
    exact (congrArg g e).trans (hg1 _)
  · rename_i hi
    refine hg2 i fun hm => hi ?_
    obtain ⟨x, -, rfl⟩ := Finset.mem_image.mp hm
    have hx : (x 0).val < 16 := (x 0).isLt
    show lo ≤ lo + 1 * (x 0).val ∧ lo + 1 * (x 0).val < lo + 16
    omega

theorem write_S (f : Sums F) (w : V16 F) {off : Fin 1 → Nat} {hin : ∀ a, off a + S16.size a ≤ S13312.size a} {lo : Nat} (h : off = ![lo]) :
    ((mS).access (Rect.unit (s := S13312) off S16.size hin)).write (Elt F) f w Finset.univ = (upd (n := 13312) f lo w : Sums F) := by
  refine write_flat (n := 13312) mS off hin f w h _ (fun x => ?_) fun i hi => ?_
  · exact (((mS).access (Rect.unit (s := S13312) off S16.size hin)).write_emb_of_mem f w (Finset.mem_univ x)).trans (cast_eq _ _)
  · exact ((mS).access (Rect.unit (s := S13312) off S16.size hin)).write_of_not_mem f w Finset.univ
      fun hm => hi (by obtain ⟨x, -, hx⟩ := Finset.mem_map.mp hm; exact Finset.mem_image.mpr ⟨x, Finset.mem_univ x, hx⟩)

theorem write_Qa (f : Vec F S3072 .f32) (w : V16 F) {off : Fin 1 → Nat} {hin : ∀ a, off a + S16.size a ≤ S3072.size a} {lo : Nat} (h : off = ![lo]) :
    ((mQa).access (Rect.unit (s := S3072) off S16.size hin)).write (Elt F) f w Finset.univ = (upd (n := 3072) f lo w : Vec F S3072 .f32) := by
  refine write_flat (n := 3072) mQa off hin f w h _ (fun x => ?_) fun i hi => ?_
  · exact (((mQa).access (Rect.unit (s := S3072) off S16.size hin)).write_emb_of_mem f w (Finset.mem_univ x)).trans (cast_eq _ _)
  · exact ((mQa).access (Rect.unit (s := S3072) off S16.size hin)).write_of_not_mem f w Finset.univ
      fun hm => hi (by obtain ⟨x, -, hx⟩ := Finset.mem_map.mp hm; exact Finset.mem_image.mpr ⟨x, Finset.mem_univ x, hx⟩)

theorem write_Qb (f : Vec F S3072 .f32) (w : V16 F) {off : Fin 1 → Nat} {hin : ∀ a, off a + S16.size a ≤ S3072.size a} {lo : Nat} (h : off = ![lo]) :
    ((mQb).access (Rect.unit (s := S3072) off S16.size hin)).write (Elt F) f w Finset.univ = (upd (n := 3072) f lo w : Vec F S3072 .f32) := by
  refine write_flat (n := 3072) mQb off hin f w h _ (fun x => ?_) fun i hi => ?_
  · exact (((mQb).access (Rect.unit (s := S3072) off S16.size hin)).write_emb_of_mem f w (Finset.mem_univ x)).trans (cast_eq _ _)
  · exact ((mQb).access (Rect.unit (s := S3072) off S16.size hin)).write_of_not_mem f w Finset.univ
      fun hm => hi (by obtain ⟨x, -, hx⟩ := Finset.mem_map.mp hm; exact Finset.mem_image.mpr ⟨x, Finset.mem_univ x, hx⟩)

/-! ## The scatter-add of a group -/

variable [FloatOps F]

/-- A group: sixteen labels, and for each of the twelve channels sixteen features. -/
abbrev Grp (F : FTy → Type) : Type := Lab16 F × V16 F × V16 F × V16 F × V16 F × V16 F × V16 F × V16 F × V16 F × V16 F × V16 F × V16 F × V16 F

/-- The group at row `r`, column `c` of a pair of chunks. -/
def grp (fl : LabC F) (fx : XC F) (r c : Nat) : Grp F :=
  (lab16 fl r c, x16 fx 0 r c, x16 fx 1 r c, x16 fx 2 r c, x16 fx 3 r c, x16 fx 4 r c, x16 fx 5 r c, x16 fx 6 r c, x16 fx 7 r c, x16 fx 8 r c,
    x16 fx 9 r c, x16 fx 10 r c, x16 fx 11 r c)

/-- One scatter-add of sixteen lanes at `idx`; the table unchanged when an index is out of it. -/
def sidx (f : Sums F) (idx : Lab16 F) (v : V16 F) : Sums F :=
  open Classical in
  if h : ∀ a x, ((![idx] : Fin 1 → IVec S16 32) a x).toNat < S13312.size a then storeIdx f ![idx] v (fun _ => 1#1) true h else f

/-- Sixteen ones. -/
def ones : V16 F := k0_pay135

/-- The labels moved to row `k` of the table. -/
def shifted (l : Lab16 F) (c : BitVec 32) : Lab16 F := addi l (broadcast S16 c)

/-- The scatter-add of a group: its pixels counted, then each channel's features added up. -/
def scatT (f : Sums F) (t : Grp F) : Sums F :=
  sidx (sidx (sidx (sidx (sidx (sidx (sidx (sidx (sidx (sidx (sidx (sidx (sidx f
    (shifted t.1 12288#32) ones) (shifted t.1 0#32) t.2.1) (shifted t.1 1024#32) t.2.2.1) (shifted t.1 2048#32) t.2.2.2.1)
    (shifted t.1 3072#32) t.2.2.2.2.1) (shifted t.1 4096#32) t.2.2.2.2.2.1) (shifted t.1 5120#32) t.2.2.2.2.2.2.1)
    (shifted t.1 6144#32) t.2.2.2.2.2.2.2.1) (shifted t.1 7168#32) t.2.2.2.2.2.2.2.2.1) (shifted t.1 8192#32) t.2.2.2.2.2.2.2.2.2.1)
    (shifted t.1 9216#32) t.2.2.2.2.2.2.2.2.2.2.1) (shifted t.1 10240#32) t.2.2.2.2.2.2.2.2.2.2.2.1)
    (shifted t.1 11264#32) t.2.2.2.2.2.2.2.2.2.2.2.2

/-- The table after the first `n` groups of a chunk, row by row. -/
def accN (f0 : Sums F) (fl : LabC F) (fx : XC F) : Nat → Sums F
  | 0 => f0
  | n + 1 => scatT (accN f0 fl fx n) (grp fl fx (n / 24) (16 * (n % 24)))

theorem accN_succ' (f0 : Sums F) (fl : LabC F) (fx : XC F) (r k : Nat) (hk : k < 24) :
    accN f0 fl fx (24 * r + (k + 1)) = scatT (accN f0 fl fx (24 * r + k)) (grp fl fx r (16 * k)) := by
  show scatT (accN f0 fl fx (24 * r + k)) (grp fl fx ((24 * r + k) / 24) (16 * ((24 * r + k) % 24))) = _
  rw [show (24 * r + k) / 24 = r by omega, show (24 * r + k) % 24 = k by omega]

theorem shifted_inb {l : Lab16 F} (hl : ∀ j, (l j : BitVec 32).toNat < 1024) {c : BitVec 32} (hc : c.toNat ≤ 12288) :
    ∀ a x, ((![shifted l c] : Fin 1 → IVec S16 32) a x).toNat < S13312.size a := by
  intro a x
  match a with
  | ⟨0, _⟩ =>
    have h1 := hl x
    show ((l x : BitVec 32) + c).toNat < 13312
    rw [BitVec.toNat_add]; omega

/-! ## Steps of a vector subcore on whole buffers -/

section steps

variable (d : Dev nD) (L : grid0.Coords)

/-- The vector subcore at grid coordinates `L` of device `d`. -/
abbrev thr : Thread nD τ := V d (cV L) (jV L)

variable {α : Type}

theorem st_scat {E : Set ℕ} {P : Prop} {dec : Decidable P} {idx : Lab16 F} {v : V16 F} {f : Sums F}
    {hh : PLift P → ∀ a x, ((![idx] : Fin 1 → IVec S16 32) a x).toNat < S13312.size a}
    {hs : ((mS).access (.whole S13312)).Stores Finset.univ}
    {k : PUnit → Prog (TpuEff nD τ sig (Elt F) Λ₀ (.scVector (cV L) (jV L))) α} {Q : α → sProp (Res F)}
    (hP : P) (hb : ∀ a x, ((![idx] : Fin 1 → IVec S16 32) a x).toNat < S13312.size a) :
    ((mS).view.loc (thr d L) ↦{fullShare} f)
      ⊢ iprop((((mS).view.loc (thr d L) ↦{fullShare} sidx f idx v) -∗ wp frame (wpE (defs₀ (F := F)) 𝒱₀ (thr d L) none) E (k ⟨⟩) Q)
        -∗ wp frame (wpE (defs₀ (F := F)) 𝒱₀ (thr d L) none) E
            (.op (.assume P dec) fun x => (SparseCore.vectorStoreIdx mS ![idx] v (fun _ => 1#1) true (hh x) hs >>= k)) Q) := by
  rw [wp_assume_of _ _ _ _ hP]
  have h := SparseCore.wp_vectorStoreIdx (defs := defs₀ (F := F)) 𝒱₀ (thr d L) none E (base := mS) (idxs := ![idx]) (v := v) (mask := fun _ => 1#1) (add := true)
    (h := hb) (hs := hs) (k := k) (f := f) (Q := Q)
  rw [show ((mS).access (.whole S13312)).set = Finset.univ from Memref.set_access_whole cc0_scratch0] at h
  have e : (((mS).access (.whole S13312)).write (Elt F) f (storeIdx (((mS).access (.whole S13312)).read (Elt F) f) ![idx] v (fun _ => 1#1) true hb) Finset.univ) = sidx f idx v := by
    unfold sidx
    rw [dif_pos hb, show ((mS).access (.whole S13312)).read (Elt F) f = f from Memref.read_access_whole (Elt F) cc0_scratch0 f]
    generalize storeIdx f ![idx] v (fun _ => 1#1) true hb = w
    exact Memref.write_access_whole_univ (Elt F) cc0_scratch0 f w
  rw [e] at h
  exact h

theorem st_ldL0 {E : Set ℕ} {q : PosShare TreeShare} {f : LabC F} {off : Fin 2 → Nat} {hin : ∀ a, off a + S1x16.size a ≤ S8x384.size a} {r c : Nat}
    {hl : (mL0).view.LoadsAt (Rect.unit (s := S8x384) off S1x16.size hin).toLoadRect}
    {k : Vec F S1x16 .i32 → Prog (TpuEff nD τ sig (Elt F) Λ₀ (.scVector (cV L) (jV L))) α} {Q : α → sProp (Res F)} (h : off = ![r, c]) :
    ((mL0).view.loc (thr d L) ↦{q} f)
      ⊢ iprop((((mL0).view.loc (thr d L) ↦{q} f) -∗ wp frame (wpE (defs₀ (F := F)) 𝒱₀ (thr d L) none) E (k (lab1 f r c)) Q)
        -∗ wp frame (wpE (defs₀ (F := F)) 𝒱₀ (thr d L) none) E (.op (.load mL0 (Rect.unit (s := S8x384) off S1x16.size hin).toLoadRect hl) k) Q) := by
  rw [← read_L0 f (hin := hin) h]
  exact wp_load 𝒱₀ (thr d L) none E (m := mL0) (S := Finset.univ) (Finset.subset_univ _)

theorem st_ldX0 {E : Set ℕ} {q : PosShare TreeShare} {f : XC F} {off : Fin 3 → Nat} {hin : ∀ a, off a + S1x1x16.size a ≤ S12x8x384.size a} {ch r c : Nat}
    {hl : (mX0).view.LoadsAt (Rect.unit (s := S12x8x384) off S1x1x16.size hin).toLoadRect}
    {k : Vec F S1x1x16 .f32 → Prog (TpuEff nD τ sig (Elt F) Λ₀ (.scVector (cV L) (jV L))) α} {Q : α → sProp (Res F)} (h : off = ![ch, r, c]) :
    ((mX0).view.loc (thr d L) ↦{q} f)
      ⊢ iprop((((mX0).view.loc (thr d L) ↦{q} f) -∗ wp frame (wpE (defs₀ (F := F)) 𝒱₀ (thr d L) none) E (k (x1 f ch r c)) Q)
        -∗ wp frame (wpE (defs₀ (F := F)) 𝒱₀ (thr d L) none) E (.op (.load mX0 (Rect.unit (s := S12x8x384) off S1x1x16.size hin).toLoadRect hl) k) Q) := by
  rw [← read_X0 f (hin := hin) h]
  exact wp_load 𝒱₀ (thr d L) none E (m := mX0) (S := Finset.univ) (Finset.subset_univ _)

theorem st_ldL1 {E : Set ℕ} {q : PosShare TreeShare} {f : LabC F} {off : Fin 2 → Nat} {hin : ∀ a, off a + S1x16.size a ≤ S8x384.size a} {r c : Nat}
    {hl : (mL1).view.LoadsAt (Rect.unit (s := S8x384) off S1x16.size hin).toLoadRect}
    {k : Vec F S1x16 .i32 → Prog (TpuEff nD τ sig (Elt F) Λ₀ (.scVector (cV L) (jV L))) α} {Q : α → sProp (Res F)} (h : off = ![r, c]) :
    ((mL1).view.loc (thr d L) ↦{q} f)
      ⊢ iprop((((mL1).view.loc (thr d L) ↦{q} f) -∗ wp frame (wpE (defs₀ (F := F)) 𝒱₀ (thr d L) none) E (k (lab1 f r c)) Q)
        -∗ wp frame (wpE (defs₀ (F := F)) 𝒱₀ (thr d L) none) E (.op (.load mL1 (Rect.unit (s := S8x384) off S1x16.size hin).toLoadRect hl) k) Q) := by
  rw [← read_L1 f (hin := hin) h]
  exact wp_load 𝒱₀ (thr d L) none E (m := mL1) (S := Finset.univ) (Finset.subset_univ _)

theorem st_ldX1 {E : Set ℕ} {q : PosShare TreeShare} {f : XC F} {off : Fin 3 → Nat} {hin : ∀ a, off a + S1x1x16.size a ≤ S12x8x384.size a} {ch r c : Nat}
    {hl : (mX1).view.LoadsAt (Rect.unit (s := S12x8x384) off S1x1x16.size hin).toLoadRect}
    {k : Vec F S1x1x16 .f32 → Prog (TpuEff nD τ sig (Elt F) Λ₀ (.scVector (cV L) (jV L))) α} {Q : α → sProp (Res F)} (h : off = ![ch, r, c]) :
    ((mX1).view.loc (thr d L) ↦{q} f)
      ⊢ iprop((((mX1).view.loc (thr d L) ↦{q} f) -∗ wp frame (wpE (defs₀ (F := F)) 𝒱₀ (thr d L) none) E (k (x1 f ch r c)) Q)
        -∗ wp frame (wpE (defs₀ (F := F)) 𝒱₀ (thr d L) none) E (.op (.load mX1 (Rect.unit (s := S12x8x384) off S1x1x16.size hin).toLoadRect hl) k) Q) := by
  rw [← read_X1 f (hin := hin) h]
  exact wp_load 𝒱₀ (thr d L) none E (m := mX1) (S := Finset.univ) (Finset.subset_univ _)

theorem st_ldS {E : Set ℕ} {q : PosShare TreeShare} {f : Sums F} {off : Fin 1 → Nat} {hin : ∀ a, off a + S16.size a ≤ S13312.size a} {lo : Nat}
    {hl : (mS).view.LoadsAt (Rect.unit (s := S13312) off S16.size hin).toLoadRect}
    {k : Vec F S16 .f32 → Prog (TpuEff nD τ sig (Elt F) Λ₀ (.scVector (cV L) (jV L))) α} {Q : α → sProp (Res F)} (h : off = ![lo]) :
    ((mS).view.loc (thr d L) ↦{q} f)
      ⊢ iprop((((mS).view.loc (thr d L) ↦{q} f) -∗ wp frame (wpE (defs₀ (F := F)) 𝒱₀ (thr d L) none) E (k (s16 f lo)) Q)
        -∗ wp frame (wpE (defs₀ (F := F)) 𝒱₀ (thr d L) none) E (.op (.load mS (Rect.unit (s := S13312) off S16.size hin).toLoadRect hl) k) Q) := by
  rw [← read_S f (hin := hin) h]
  exact wp_load 𝒱₀ (thr d L) none E (m := mS) (S := Finset.univ) (Finset.subset_univ _)

theorem st_ldPa {E : Set ℕ} {q : PosShare TreeShare} {f : Vec F S256 .i32} {off : Fin 1 → Nat} {hin : ∀ a, off a + S16.size a ≤ S256.size a} {lo : Nat}
    {hl : (mPa).view.LoadsAt (Rect.unit (s := S256) off S16.size hin).toLoadRect}
    {k : Vec F S16 .i32 → Prog (TpuEff nD τ sig (Elt F) Λ₀ (.scVector (cV L) (jV L))) α} {Q : α → sProp (Res F)} (h : off = ![lo]) :
    ((mPa).view.loc (thr d L) ↦{q} f)
      ⊢ iprop((((mPa).view.loc (thr d L) ↦{q} f) -∗ wp frame (wpE (defs₀ (F := F)) 𝒱₀ (thr d L) none) E (k (p16 f lo)) Q)
        -∗ wp frame (wpE (defs₀ (F := F)) 𝒱₀ (thr d L) none) E (.op (.load mPa (Rect.unit (s := S256) off S16.size hin).toLoadRect hl) k) Q) := by
  rw [← read_Pa f (hin := hin) h]
  exact wp_load 𝒱₀ (thr d L) none E (m := mPa) (S := Finset.univ) (Finset.subset_univ _)

theorem st_ldPb {E : Set ℕ} {q : PosShare TreeShare} {f : Vec F S256 .i32} {off : Fin 1 → Nat} {hin : ∀ a, off a + S16.size a ≤ S256.size a} {lo : Nat}
    {hl : (mPb).view.LoadsAt (Rect.unit (s := S256) off S16.size hin).toLoadRect}
    {k : Vec F S16 .i32 → Prog (TpuEff nD τ sig (Elt F) Λ₀ (.scVector (cV L) (jV L))) α} {Q : α → sProp (Res F)} (h : off = ![lo]) :
    ((mPb).view.loc (thr d L) ↦{q} f)
      ⊢ iprop((((mPb).view.loc (thr d L) ↦{q} f) -∗ wp frame (wpE (defs₀ (F := F)) 𝒱₀ (thr d L) none) E (k (p16 f lo)) Q)
        -∗ wp frame (wpE (defs₀ (F := F)) 𝒱₀ (thr d L) none) E (.op (.load mPb (Rect.unit (s := S256) off S16.size hin).toLoadRect hl) k) Q) := by
  rw [← read_Pb f (hin := hin) h]
  exact wp_load 𝒱₀ (thr d L) none E (m := mPb) (S := Finset.univ) (Finset.subset_univ _)

theorem st_stS {E : Set ℕ} {f : Sums F} {w : V16 F} {off : Fin 1 → Nat} {hin : ∀ a, off a + S16.size a ≤ S13312.size a} {lo : Nat}
    {hx : ((mS).access (Rect.unit (s := S13312) off S16.size hin)).Stores Finset.univ}
    {hm : (Finset.univ : Finset S16.Idx) = Finset.univ ∨ ∀ a, (Rect.unit (s := S13312) off S16.size hin).stride a = 1}
    {k : PUnit → Prog (TpuEff nD τ sig (Elt F) Λ₀ (.scVector (cV L) (jV L))) α} {Q : α → sProp (Res F)} (h : off = ![lo]) :
    ((mS).view.loc (thr d L) ↦{fullShare} f)
      ⊢ iprop((((mS).view.loc (thr d L) ↦{fullShare} (upd (n := 13312) f lo w : Sums F)) -∗ wp frame (wpE (defs₀ (F := F)) 𝒱₀ (thr d L) none) E (k ⟨⟩) Q)
        -∗ wp frame (wpE (defs₀ (F := F)) 𝒱₀ (thr d L) none) E (.op (.store mS (Rect.unit (s := S13312) off S16.size hin) w Finset.univ hx hm) k) Q) := by
  rw [← write_S f w (hin := hin) h]
  exact wp_store 𝒱₀ (thr d L) none E (m := mS) (r := Rect.unit (s := S13312) off S16.size hin) (w := w) (Mk := Finset.univ) (S := Finset.univ) (f := f) (Finset.subset_univ _)

theorem st_stQa {E : Set ℕ} {f : Vec F S3072 .f32} {w : V16 F} {off : Fin 1 → Nat} {hin : ∀ a, off a + S16.size a ≤ S3072.size a} {lo : Nat}
    {hx : ((mQa).access (Rect.unit (s := S3072) off S16.size hin)).Stores Finset.univ}
    {hm : (Finset.univ : Finset S16.Idx) = Finset.univ ∨ ∀ a, (Rect.unit (s := S3072) off S16.size hin).stride a = 1}
    {k : PUnit → Prog (TpuEff nD τ sig (Elt F) Λ₀ (.scVector (cV L) (jV L))) α} {Q : α → sProp (Res F)} (h : off = ![lo]) :
    ((mQa).view.loc (thr d L) ↦{fullShare} f)
      ⊢ iprop((((mQa).view.loc (thr d L) ↦{fullShare} (upd (n := 3072) f lo w : Vec F S3072 .f32)) -∗ wp frame (wpE (defs₀ (F := F)) 𝒱₀ (thr d L) none) E (k ⟨⟩) Q)
        -∗ wp frame (wpE (defs₀ (F := F)) 𝒱₀ (thr d L) none) E (.op (.store mQa (Rect.unit (s := S3072) off S16.size hin) w Finset.univ hx hm) k) Q) := by
  rw [← write_Qa f w (hin := hin) h]
  exact wp_store 𝒱₀ (thr d L) none E (m := mQa) (r := Rect.unit (s := S3072) off S16.size hin) (w := w) (Mk := Finset.univ) (S := Finset.univ) (f := f) (Finset.subset_univ _)

theorem st_stQb {E : Set ℕ} {f : Vec F S3072 .f32} {w : V16 F} {off : Fin 1 → Nat} {hin : ∀ a, off a + S16.size a ≤ S3072.size a} {lo : Nat}
    {hx : ((mQb).access (Rect.unit (s := S3072) off S16.size hin)).Stores Finset.univ}
    {hm : (Finset.univ : Finset S16.Idx) = Finset.univ ∨ ∀ a, (Rect.unit (s := S3072) off S16.size hin).stride a = 1}
    {k : PUnit → Prog (TpuEff nD τ sig (Elt F) Λ₀ (.scVector (cV L) (jV L))) α} {Q : α → sProp (Res F)} (h : off = ![lo]) :
    ((mQb).view.loc (thr d L) ↦{fullShare} f)
      ⊢ iprop((((mQb).view.loc (thr d L) ↦{fullShare} (upd (n := 3072) f lo w : Vec F S3072 .f32)) -∗ wp frame (wpE (defs₀ (F := F)) 𝒱₀ (thr d L) none) E (k ⟨⟩) Q)
        -∗ wp frame (wpE (defs₀ (F := F)) 𝒱₀ (thr d L) none) E (.op (.store mQb (Rect.unit (s := S3072) off S16.size hin) w Finset.univ hx hm) k) Q) := by
  rw [← write_Qb f w (hin := hin) h]
  exact wp_store 𝒱₀ (thr d L) none E (m := mQb) (r := Rect.unit (s := S3072) off S16.size hin) (w := w) (Mk := Finset.univ) (S := Finset.univ) (f := f) (Finset.subset_univ _)

/-- Sixteen values of the table at the positions `idx` (the table's first element where a position is out of it). -/
def lkp (f : Sums F) (idx : Lab16 F) : V16 F := fun j => f (nix S13312 pos13312 ![(idx j : BitVec 32).toNat])

theorem st_lookup {E : Set ℕ} {P : Prop} {dec : Decidable P} {idx : Lab16 F} {f : Sums F} {q : PosShare TreeShare}
    {hh : PLift P → ∀ a x, ((![idx] : Fin 1 → IVec S16 32) a x).toNat < S13312.size a}
    {hl : (mS).view.Loads}
    {k : V16 F → Prog (TpuEff nD τ sig (Elt F) Λ₀ (.scVector (cV L) (jV L))) α} {Q : α → sProp (Res F)}
    (hP : P) (hb : ∀ a x, ((![idx] : Fin 1 → IVec S16 32) a x).toNat < S13312.size a) :
    ((mS).view.loc (thr d L) ↦{q} f)
      ⊢ iprop((((mS).view.loc (thr d L) ↦{q} f) -∗ wp frame (wpE (defs₀ (F := F)) 𝒱₀ (thr d L) none) E (k (lkp f idx)) Q)
        -∗ wp frame (wpE (defs₀ (F := F)) 𝒱₀ (thr d L) none) E
            (.op (.assume P dec) fun x => (SparseCore.vectorLoadIdx mS ![idx] (hh x) hl >>= k)) Q) := by
  rw [wp_assume_of _ _ _ _ hP]
  have h := SparseCore.wp_vectorLoadIdx (defs := defs₀ (F := F)) 𝒱₀ (thr d L) none E (base := mS) (idxs := ![idx]) (h := hb) (hl := hl) (k := k) (f := f) (q := q) (Q := Q)
    (S := Finset.univ) (Finset.subset_univ _)
  have e : (loadIdx (((mS).access (.whole S13312)).read (Elt F) f) ![idx] hb : V16 F) = lkp f idx := by
    funext j
    show ((mS).access (.whole S13312)).read (Elt F) f (idxAt ![idx] hb j) = _
    rw [show ((mS).access (.whole S13312)).read (Elt F) f = f from Memref.read_access_whole (Elt F) cc0_scratch0 f]
    refine congrArg f ((nix_eq pos13312 _ _ fun a => ?_).symm)
    match a with
    | ⟨0, _⟩ => rfl
  rw [e] at h
  exact h

end steps

end Cert.Proof.Pool

end
-- ==== Proof.Group.lean ====
/-
  One row of a chunk: the loop over its twenty-four groups of sixteen lanes. Each trip reads the next group and adds the
  current one into the table; the last group is added after the loop.
-/
module

public import proofs.«01_k».proof.Proof.Lanes

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

theorem wp_ret_intro {c : Thread nD τ} {α : Type} {Q : α → sProp (Res F)} (E : Set ℕ) (a : α) :
    Q a ⊢ wp frame (wpE (defs₀ (F := F)) 𝒱₀ c none) E (.ret a) Q := by
  rw [wp_ret]; exact fupd_intro

theorem lab16_lt {fl : LabC F} (hl : ∀ i, (fl i : BitVec 32).toNat < 1024) (r c : Nat) : ∀ j, (lab16 fl r c j : BitVec 32).toNat < 1024 := fun _ => hl _

set_option maxHeartbeats 4000000 in
theorem t4_step (d : Dev nD) (L : grid0.Coords) (f0 : Sums F) (fl : LabC F) (fx : XC F) (hl : ∀ i, (fl i : BitVec 32).toNat < 1024)
    (k0_t3 : Fin k0_t3_loop.trips) (k0_t4 : Fin k0_t4_loop.trips) (v82 : BitVec 32) (v84 : Lab16 F) (v87 v90 v93 v96 v99 v102 v105 v108 : V16 F) :
    (iprop(((mS).view.loc (thr d L) ↦{fullShare} accN f0 fl fx (24 * k0_t3.val + k0_t4.val)) ∗ ((mL0).view.loc (thr d L) ↦{fullShare} fl) ∗ ((mX0).view.loc (thr d L) ↦{fullShare} fx)) : sProp (Res F))
      ⊢ wp frame (wpE (defs₀ (F := F)) 𝒱₀ (thr d L) none) Set.univ
          (k0_t4_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 ones k0_t3 v82 v84 v87 v90 v93 v96 v99 v102 v105 v108 k0_t4 (grp fl fx k0_t3.val (16 * k0_t4.val)))
          fun acc => iprop(⌜acc = grp fl fx k0_t3.val (16 * (k0_t4.val + 1))⌝ ∗ ((mS).view.loc (thr d L) ↦{fullShare} accN f0 fl fx (24 * k0_t3.val + (k0_t4.val + 1)))
            ∗ ((mL0).view.loc (thr d L) ↦{fullShare} fl) ∗ ((mX0).view.loc (thr d L) ↦{fullShare} fx)) := by
  have hk : k0_t4.val < 24 := Nat.lt_of_lt_of_le k0_t4.isLt (show k0_t4_loop.trips ≤ 24 by decide)
  rw [accN_succ' f0 fl fx k0_t3.val k0_t4.val hk]
  unfold k0_t4_body grp
  simp only [k0_part1_eq_skeleton, k0_part2_eq_skeleton]
  unfold k0_part1_skel k0_part2_skel
  simp only [Prog.lift, Prog.bind_op, Prog.bind_ret, Prog.pure_eq_ret, bind_assoc]
  iintro ⟨Hs, Hl, Hx⟩
  iapply (st_ldL0 d L (h := k0_off21_eq k0_t3 k0_t4)) $$ Hl; iintro Hl
  iapply (st_ldX0 d L (h := k0_off22_eq k0_t3 k0_t4)) $$ Hx; iintro Hx
  iapply (st_ldX0 d L (h := k0_off23_eq k0_t3 k0_t4)) $$ Hx; iintro Hx
  iapply (st_ldX0 d L (h := k0_off24_eq k0_t3 k0_t4)) $$ Hx; iintro Hx
  iapply (st_ldX0 d L (h := k0_off25_eq k0_t3 k0_t4)) $$ Hx; iintro Hx
  iapply (st_ldX0 d L (h := k0_off26_eq k0_t3 k0_t4)) $$ Hx; iintro Hx
  iapply (st_ldX0 d L (h := k0_off27_eq k0_t3 k0_t4)) $$ Hx; iintro Hx
  iapply (st_ldX0 d L (h := k0_off28_eq k0_t3 k0_t4)) $$ Hx; iintro Hx
  iapply (st_ldX0 d L (h := k0_off29_eq k0_t3 k0_t4)) $$ Hx; iintro Hx
  iapply (st_ldX0 d L (h := k0_off30_eq k0_t3 k0_t4)) $$ Hx; iintro Hx
  iapply (st_ldX0 d L (h := k0_off31_eq k0_t3 k0_t4)) $$ Hx; iintro Hx
  iapply (st_ldX0 d L (h := k0_off32_eq k0_t3 k0_t4)) $$ Hx; iintro Hx
  iapply (st_ldX0 d L (h := k0_off33_eq k0_t3 k0_t4)) $$ Hx; iintro Hx
  iapply (st_scat d L (hP := shifted_inb (lab16_lt hl _ _) (c := 12288#32) (by decide)) (hb := shifted_inb (lab16_lt hl _ _) (c := 12288#32) (by decide))) $$ Hs; iintro Hs
  iapply (st_scat d L (hP := shifted_inb (lab16_lt hl _ _) (c := 0#32) (by decide)) (hb := shifted_inb (lab16_lt hl _ _) (c := 0#32) (by decide))) $$ Hs; iintro Hs
  iapply (st_scat d L (hP := shifted_inb (lab16_lt hl _ _) (c := 1024#32) (by decide)) (hb := shifted_inb (lab16_lt hl _ _) (c := 1024#32) (by decide))) $$ Hs; iintro Hs
  iapply (st_scat d L (hP := shifted_inb (lab16_lt hl _ _) (c := 2048#32) (by decide)) (hb := shifted_inb (lab16_lt hl _ _) (c := 2048#32) (by decide))) $$ Hs; iintro Hs
  iapply (st_scat d L (hP := shifted_inb (lab16_lt hl _ _) (c := 3072#32) (by decide)) (hb := shifted_inb (lab16_lt hl _ _) (c := 3072#32) (by decide))) $$ Hs; iintro Hs
  iapply (st_scat d L (hP := shifted_inb (lab16_lt hl _ _) (c := 4096#32) (by decide)) (hb := shifted_inb (lab16_lt hl _ _) (c := 4096#32) (by decide))) $$ Hs; iintro Hs
  iapply (st_scat d L (hP := shifted_inb (lab16_lt hl _ _) (c := 5120#32) (by decide)) (hb := shifted_inb (lab16_lt hl _ _) (c := 5120#32) (by decide))) $$ Hs; iintro Hs
  iapply (st_scat d L (hP := shifted_inb (lab16_lt hl _ _) (c := 6144#32) (by decide)) (hb := shifted_inb (lab16_lt hl _ _) (c := 6144#32) (by decide))) $$ Hs; iintro Hs
  iapply (st_scat d L (hP := shifted_inb (lab16_lt hl _ _) (c := 7168#32) (by decide)) (hb := shifted_inb (lab16_lt hl _ _) (c := 7168#32) (by decide))) $$ Hs; iintro Hs
  iapply (st_scat d L (hP := shifted_inb (lab16_lt hl _ _) (c := 8192#32) (by decide)) (hb := shifted_inb (lab16_lt hl _ _) (c := 8192#32) (by decide))) $$ Hs; iintro Hs
  iapply (st_scat d L (hP := shifted_inb (lab16_lt hl _ _) (c := 9216#32) (by decide)) (hb := shifted_inb (lab16_lt hl _ _) (c := 9216#32) (by decide))) $$ Hs; iintro Hs
  iapply (st_scat d L (hP := shifted_inb (lab16_lt hl _ _) (c := 10240#32) (by decide)) (hb := shifted_inb (lab16_lt hl _ _) (c := 10240#32) (by decide))) $$ Hs; iintro Hs
  iapply (st_scat d L (hP := shifted_inb (lab16_lt hl _ _) (c := 11264#32) (by decide)) (hb := shifted_inb (lab16_lt hl _ _) (c := 11264#32) (by decide))) $$ Hs; iintro Hs
  iapply (wp_ret_intro Set.univ _)
  isplitr [Hs Hl Hx]
  · ipureintro
    have e1 := cast_lab1 fl k0_t3.val (16 * k0_t4.val + 16)
    have e2 := fun ch => cast_x1 fx ch k0_t3.val (16 * k0_t4.val + 16)
    rw [show 16 * (k0_t4.val + 1) = 16 * k0_t4.val + 16 by omega, ← e1, ← e2 0, ← e2 1, ← e2 2, ← e2 3, ← e2 4, ← e2 5, ← e2 6, ← e2 7, ← e2 8, ← e2 9, ← e2 10, ← e2 11]
    rfl
  · isplitl [Hs]; · iexact Hs
    isplitl [Hl]; · iexact Hl
    iexact Hx

/-- The state of a row's group loop before trip `n`. -/
def t4_inv (d : Dev nD) (L : grid0.Coords) (f0 : Sums F) (fl : LabC F) (fx : XC F) (r : Nat) (n : Nat) (acc : Grp F) : sProp (Res F) :=
  iprop(⌜acc = grp fl fx r (16 * n)⌝ ∗ ((mS).view.loc (thr d L) ↦{fullShare} accN f0 fl fx (24 * r + n)) ∗ ((mL0).view.loc (thr d L) ↦{fullShare} fl)
    ∗ ((mX0).view.loc (thr d L) ↦{fullShare} fx))

set_option maxHeartbeats 4000000 in
theorem t3_step (d : Dev nD) (L : grid0.Coords) (f0 : Sums F) (fl : LabC F) (fx : XC F) (hl : ∀ i, (fl i : BitVec 32).toNat < 1024)
    (k0_t3 : Fin k0_t3_loop.trips) (v0 v1 : BitVec 32) (k2 : Fin k0_t2_loop.trips) :
    (iprop(((mS).view.loc (thr d L) ↦{fullShare} accN f0 fl fx (24 * k0_t3.val)) ∗ ((mL0).view.loc (thr d L) ↦{fullShare} fl) ∗ ((mX0).view.loc (thr d L) ↦{fullShare} fx)) : sProp (Res F))
      ⊢ wp frame (wpE (defs₀ (F := F)) 𝒱₀ (thr d L) none) Set.univ
          (k0_t3_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 ones v0 v1 k2 k0_t3 ⟨⟩)
          fun _ => iprop(((mS).view.loc (thr d L) ↦{fullShare} accN f0 fl fx (24 * (k0_t3.val + 1)))
            ∗ ((mL0).view.loc (thr d L) ↦{fullShare} fl) ∗ ((mX0).view.loc (thr d L) ↦{fullShare} fx)) := by
  have htr : k0_t4_loop.trips = 23 := by decide
  rw [show 24 * (k0_t3.val + 1) = 24 * k0_t3.val + (23 + 1) by omega, accN_succ' f0 fl fx k0_t3.val 23 (by decide)]
  unfold k0_t3_body
  simp only [k0_part3_eq_skeleton, k0_part4_eq_skeleton]
  unfold k0_part3_skel k0_part4_skel
  simp only [Prog.lift, Prog.bind_op, Prog.bind_ret, Prog.pure_eq_ret, bind_assoc]
  iintro ⟨Hs, Hl, Hx⟩
  iapply (st_ldL0 d L (h := k0_off8_eq k0_t3)) $$ Hl; iintro Hl
  iapply (st_ldX0 d L (h := k0_off9_eq k0_t3)) $$ Hx; iintro Hx
  iapply (st_ldX0 d L (h := k0_off10_eq k0_t3)) $$ Hx; iintro Hx
  iapply (st_ldX0 d L (h := k0_off11_eq k0_t3)) $$ Hx; iintro Hx
  iapply (st_ldX0 d L (h := k0_off12_eq k0_t3)) $$ Hx; iintro Hx
  iapply (st_ldX0 d L (h := k0_off13_eq k0_t3)) $$ Hx; iintro Hx
  iapply (st_ldX0 d L (h := k0_off14_eq k0_t3)) $$ Hx; iintro Hx
  iapply (st_ldX0 d L (h := k0_off15_eq k0_t3)) $$ Hx; iintro Hx
  iapply (st_ldX0 d L (h := k0_off16_eq k0_t3)) $$ Hx; iintro Hx
  iapply (st_ldX0 d L (h := k0_off17_eq k0_t3)) $$ Hx; iintro Hx
  iapply (st_ldX0 d L (h := k0_off18_eq k0_t3)) $$ Hx; iintro Hx
  iapply (st_ldX0 d L (h := k0_off19_eq k0_t3)) $$ Hx; iintro Hx
  iapply (st_ldX0 d L (h := k0_off20_eq k0_t3)) $$ Hx; iintro Hx
  iapply (Scf.wp_for_bind frame (wpE (defs₀ (F := F)) 𝒱₀ (thr d L) none) Set.univ _ _ _ k0_t4_ok _ _ (t4_inv d L f0 fl fx k0_t3.val) ?hbody) $$ [Hs Hl Hx]
  case hbody =>
    intro k acc
    unfold t4_inv
    iintro ⟨%e, H⟩
    subst e
    iapply (t4_step d L f0 fl fx hl k0_t3 k _ _ _ _ _ _ _ _ _ _) $$ H
  · unfold t4_inv
    isplitr [Hs Hl Hx]
    · ipureintro
      have e1 := cast_lab1 fl k0_t3.val 0
      have e2 := fun ch => cast_x1 fx ch k0_t3.val 0
      show _ = grp fl fx k0_t3.val 0
      unfold grp
      rw [← e1, ← e2 0, ← e2 1, ← e2 2, ← e2 3, ← e2 4, ← e2 5, ← e2 6, ← e2 7, ← e2 8, ← e2 9, ← e2 10, ← e2 11]
      rfl
    · isplitl [Hs]; · iexact Hs
      isplitl [Hl]; · iexact Hl
      iexact Hx
  iintro %acc HI
  unfold t4_inv
  icases HI with ⟨%e, Hs, Hl, Hx⟩
  rw [show Scf.trips k0_t4_loop.lb k0_t4_loop.ub k0_t4_loop.st = 23 from htr] at e
  ihave Hs := (Entails.of_eq (congrArg (fun n => ((mS).view.loc (thr d L) ↦{fullShare} accN f0 fl fx (24 * k0_t3.val + n) : sProp (Res F))) htr)) $$ Hs
  subst e
  simp only [grp, Prog.lift, Prog.bind_op, Prog.bind_ret, Prog.pure_eq_ret, bind_assoc]
  iapply (st_scat d L (hP := shifted_inb (lab16_lt hl _ _) (c := 12288#32) (by decide)) (hb := shifted_inb (lab16_lt hl _ _) (c := 12288#32) (by decide))) $$ Hs; iintro Hs
  iapply (st_scat d L (hP := shifted_inb (lab16_lt hl _ _) (c := 0#32) (by decide)) (hb := shifted_inb (lab16_lt hl _ _) (c := 0#32) (by decide))) $$ Hs; iintro Hs
  iapply (st_scat d L (hP := shifted_inb (lab16_lt hl _ _) (c := 1024#32) (by decide)) (hb := shifted_inb (lab16_lt hl _ _) (c := 1024#32) (by decide))) $$ Hs; iintro Hs
  iapply (st_scat d L (hP := shifted_inb (lab16_lt hl _ _) (c := 2048#32) (by decide)) (hb := shifted_inb (lab16_lt hl _ _) (c := 2048#32) (by decide))) $$ Hs; iintro Hs
  iapply (st_scat d L (hP := shifted_inb (lab16_lt hl _ _) (c := 3072#32) (by decide)) (hb := shifted_inb (lab16_lt hl _ _) (c := 3072#32) (by decide))) $$ Hs; iintro Hs
  iapply (st_scat d L (hP := shifted_inb (lab16_lt hl _ _) (c := 4096#32) (by decide)) (hb := shifted_inb (lab16_lt hl _ _) (c := 4096#32) (by decide))) $$ Hs; iintro Hs
  iapply (st_scat d L (hP := shifted_inb (lab16_lt hl _ _) (c := 5120#32) (by decide)) (hb := shifted_inb (lab16_lt hl _ _) (c := 5120#32) (by decide))) $$ Hs; iintro Hs
  iapply (st_scat d L (hP := shifted_inb (lab16_lt hl _ _) (c := 6144#32) (by decide)) (hb := shifted_inb (lab16_lt hl _ _) (c := 6144#32) (by decide))) $$ Hs; iintro Hs
  iapply (st_scat d L (hP := shifted_inb (lab16_lt hl _ _) (c := 7168#32) (by decide)) (hb := shifted_inb (lab16_lt hl _ _) (c := 7168#32) (by decide))) $$ Hs; iintro Hs
  iapply (st_scat d L (hP := shifted_inb (lab16_lt hl _ _) (c := 8192#32) (by decide)) (hb := shifted_inb (lab16_lt hl _ _) (c := 8192#32) (by decide))) $$ Hs; iintro Hs
  iapply (st_scat d L (hP := shifted_inb (lab16_lt hl _ _) (c := 9216#32) (by decide)) (hb := shifted_inb (lab16_lt hl _ _) (c := 9216#32) (by decide))) $$ Hs; iintro Hs
  iapply (st_scat d L (hP := shifted_inb (lab16_lt hl _ _) (c := 10240#32) (by decide)) (hb := shifted_inb (lab16_lt hl _ _) (c := 10240#32) (by decide))) $$ Hs; iintro Hs
  iapply (st_scat d L (hP := shifted_inb (lab16_lt hl _ _) (c := 11264#32) (by decide)) (hb := shifted_inb (lab16_lt hl _ _) (c := 11264#32) (by decide))) $$ Hs; iintro Hs
  iapply (wp_ret_intro Set.univ _)
  isplitl [Hs]; · iexact Hs
  isplitl [Hl]; · iexact Hl
  iexact Hx

set_option maxHeartbeats 4000000 in
theorem t6_step (d : Dev nD) (L : grid0.Coords) (f0 : Sums F) (fl : LabC F) (fx : XC F) (hl : ∀ i, (fl i : BitVec 32).toNat < 1024)
    (k0_t5 : Fin k0_t5_loop.trips) (k0_t6 : Fin k0_t6_loop.trips) (v82 : BitVec 32) (v84 : Lab16 F) (v87 v90 v93 v96 v99 v102 v105 v108 : V16 F) :
    (iprop(((mS).view.loc (thr d L) ↦{fullShare} accN f0 fl fx (24 * k0_t5.val + k0_t6.val)) ∗ ((mL1).view.loc (thr d L) ↦{fullShare} fl) ∗ ((mX1).view.loc (thr d L) ↦{fullShare} fx)) : sProp (Res F))
      ⊢ wp frame (wpE (defs₀ (F := F)) 𝒱₀ (thr d L) none) Set.univ
          (k0_t6_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 ones k0_t5 v82 v84 v87 v90 v93 v96 v99 v102 v105 v108 k0_t6 (grp fl fx k0_t5.val (16 * k0_t6.val)))
          fun acc => iprop(⌜acc = grp fl fx k0_t5.val (16 * (k0_t6.val + 1))⌝ ∗ ((mS).view.loc (thr d L) ↦{fullShare} accN f0 fl fx (24 * k0_t5.val + (k0_t6.val + 1)))
            ∗ ((mL1).view.loc (thr d L) ↦{fullShare} fl) ∗ ((mX1).view.loc (thr d L) ↦{fullShare} fx)) := by
  have hk : k0_t6.val < 24 := Nat.lt_of_lt_of_le k0_t6.isLt (show k0_t6_loop.trips ≤ 24 by decide)
  rw [accN_succ' f0 fl fx k0_t5.val k0_t6.val hk]
  unfold k0_t6_body grp
  simp only [k0_part5_eq_skeleton, k0_part6_eq_skeleton]
  unfold k0_part5_skel k0_part6_skel
  simp only [Prog.lift, Prog.bind_op, Prog.bind_ret, Prog.pure_eq_ret, bind_assoc]
  iintro ⟨Hs, Hl, Hx⟩
  iapply (st_ldL1 d L (h := k0_off49_eq k0_t5 k0_t6)) $$ Hl; iintro Hl
  iapply (st_ldX1 d L (h := k0_off50_eq k0_t5 k0_t6)) $$ Hx; iintro Hx
  iapply (st_ldX1 d L (h := k0_off51_eq k0_t5 k0_t6)) $$ Hx; iintro Hx
  iapply (st_ldX1 d L (h := k0_off52_eq k0_t5 k0_t6)) $$ Hx; iintro Hx
  iapply (st_ldX1 d L (h := k0_off53_eq k0_t5 k0_t6)) $$ Hx; iintro Hx
  iapply (st_ldX1 d L (h := k0_off54_eq k0_t5 k0_t6)) $$ Hx; iintro Hx
  iapply (st_ldX1 d L (h := k0_off55_eq k0_t5 k0_t6)) $$ Hx; iintro Hx
  iapply (st_ldX1 d L (h := k0_off56_eq k0_t5 k0_t6)) $$ Hx; iintro Hx
  iapply (st_ldX1 d L (h := k0_off57_eq k0_t5 k0_t6)) $$ Hx; iintro Hx
  iapply (st_ldX1 d L (h := k0_off58_eq k0_t5 k0_t6)) $$ Hx; iintro Hx
  iapply (st_ldX1 d L (h := k0_off59_eq k0_t5 k0_t6)) $$ Hx; iintro Hx
  iapply (st_ldX1 d L (h := k0_off60_eq k0_t5 k0_t6)) $$ Hx; iintro Hx
  iapply (st_ldX1 d L (h := k0_off61_eq k0_t5 k0_t6)) $$ Hx; iintro Hx
  iapply (st_scat d L (hP := shifted_inb (lab16_lt hl _ _) (c := 12288#32) (by decide)) (hb := shifted_inb (lab16_lt hl _ _) (c := 12288#32) (by decide))) $$ Hs; iintro Hs
  iapply (st_scat d L (hP := shifted_inb (lab16_lt hl _ _) (c := 0#32) (by decide)) (hb := shifted_inb (lab16_lt hl _ _) (c := 0#32) (by decide))) $$ Hs; iintro Hs
  iapply (st_scat d L (hP := shifted_inb (lab16_lt hl _ _) (c := 1024#32) (by decide)) (hb := shifted_inb (lab16_lt hl _ _) (c := 1024#32) (by decide))) $$ Hs; iintro Hs
  iapply (st_scat d L (hP := shifted_inb (lab16_lt hl _ _) (c := 2048#32) (by decide)) (hb := shifted_inb (lab16_lt hl _ _) (c := 2048#32) (by decide))) $$ Hs; iintro Hs
  iapply (st_scat d L (hP := shifted_inb (lab16_lt hl _ _) (c := 3072#32) (by decide)) (hb := shifted_inb (lab16_lt hl _ _) (c := 3072#32) (by decide))) $$ Hs; iintro Hs
  iapply (st_scat d L (hP := shifted_inb (lab16_lt hl _ _) (c := 4096#32) (by decide)) (hb := shifted_inb (lab16_lt hl _ _) (c := 4096#32) (by decide))) $$ Hs; iintro Hs
  iapply (st_scat d L (hP := shifted_inb (lab16_lt hl _ _) (c := 5120#32) (by decide)) (hb := shifted_inb (lab16_lt hl _ _) (c := 5120#32) (by decide))) $$ Hs; iintro Hs
  iapply (st_scat d L (hP := shifted_inb (lab16_lt hl _ _) (c := 6144#32) (by decide)) (hb := shifted_inb (lab16_lt hl _ _) (c := 6144#32) (by decide))) $$ Hs; iintro Hs
  iapply (st_scat d L (hP := shifted_inb (lab16_lt hl _ _) (c := 7168#32) (by decide)) (hb := shifted_inb (lab16_lt hl _ _) (c := 7168#32) (by decide))) $$ Hs; iintro Hs
  iapply (st_scat d L (hP := shifted_inb (lab16_lt hl _ _) (c := 8192#32) (by decide)) (hb := shifted_inb (lab16_lt hl _ _) (c := 8192#32) (by decide))) $$ Hs; iintro Hs
  iapply (st_scat d L (hP := shifted_inb (lab16_lt hl _ _) (c := 9216#32) (by decide)) (hb := shifted_inb (lab16_lt hl _ _) (c := 9216#32) (by decide))) $$ Hs; iintro Hs
  iapply (st_scat d L (hP := shifted_inb (lab16_lt hl _ _) (c := 10240#32) (by decide)) (hb := shifted_inb (lab16_lt hl _ _) (c := 10240#32) (by decide))) $$ Hs; iintro Hs
  iapply (st_scat d L (hP := shifted_inb (lab16_lt hl _ _) (c := 11264#32) (by decide)) (hb := shifted_inb (lab16_lt hl _ _) (c := 11264#32) (by decide))) $$ Hs; iintro Hs
  iapply (wp_ret_intro Set.univ _)
  isplitr [Hs Hl Hx]
  · ipureintro
    have e1 := cast_lab1 fl k0_t5.val (16 * k0_t6.val + 16)
    have e2 := fun ch => cast_x1 fx ch k0_t5.val (16 * k0_t6.val + 16)
    rw [show 16 * (k0_t6.val + 1) = 16 * k0_t6.val + 16 by omega, ← e1, ← e2 0, ← e2 1, ← e2 2, ← e2 3, ← e2 4, ← e2 5, ← e2 6, ← e2 7, ← e2 8, ← e2 9, ← e2 10, ← e2 11]
    rfl
  · isplitl [Hs]; · iexact Hs
    isplitl [Hl]; · iexact Hl
    iexact Hx

/-- The state of a row's group loop before trip `n`. -/
def t6_inv (d : Dev nD) (L : grid0.Coords) (f0 : Sums F) (fl : LabC F) (fx : XC F) (r : Nat) (n : Nat) (acc : Grp F) : sProp (Res F) :=
  iprop(⌜acc = grp fl fx r (16 * n)⌝ ∗ ((mS).view.loc (thr d L) ↦{fullShare} accN f0 fl fx (24 * r + n)) ∗ ((mL1).view.loc (thr d L) ↦{fullShare} fl)
    ∗ ((mX1).view.loc (thr d L) ↦{fullShare} fx))

set_option maxHeartbeats 4000000 in
theorem t5_step (d : Dev nD) (L : grid0.Coords) (f0 : Sums F) (fl : LabC F) (fx : XC F) (hl : ∀ i, (fl i : BitVec 32).toNat < 1024)
    (k0_t5 : Fin k0_t5_loop.trips) (v11 v29 : BitVec 32) :
    (iprop(((mS).view.loc (thr d L) ↦{fullShare} accN f0 fl fx (24 * k0_t5.val)) ∗ ((mL1).view.loc (thr d L) ↦{fullShare} fl) ∗ ((mX1).view.loc (thr d L) ↦{fullShare} fx)) : sProp (Res F))
      ⊢ wp frame (wpE (defs₀ (F := F)) 𝒱₀ (thr d L) none) Set.univ
          (k0_t5_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones k0_t5 ⟨⟩)
          fun _ => iprop(((mS).view.loc (thr d L) ↦{fullShare} accN f0 fl fx (24 * (k0_t5.val + 1)))
            ∗ ((mL1).view.loc (thr d L) ↦{fullShare} fl) ∗ ((mX1).view.loc (thr d L) ↦{fullShare} fx)) := by
  have htr : k0_t6_loop.trips = 23 := by decide
  rw [show 24 * (k0_t5.val + 1) = 24 * k0_t5.val + (23 + 1) by omega, accN_succ' f0 fl fx k0_t5.val 23 (by decide)]
  unfold k0_t5_body
  simp only [k0_part7_eq_skeleton, k0_part8_eq_skeleton]
  unfold k0_part7_skel k0_part8_skel
  simp only [Prog.lift, Prog.bind_op, Prog.bind_ret, Prog.pure_eq_ret, bind_assoc]
  iintro ⟨Hs, Hl, Hx⟩
  iapply (st_ldL1 d L (h := k0_off36_eq k0_t5)) $$ Hl; iintro Hl
  iapply (st_ldX1 d L (h := k0_off37_eq k0_t5)) $$ Hx; iintro Hx
  iapply (st_ldX1 d L (h := k0_off38_eq k0_t5)) $$ Hx; iintro Hx
  iapply (st_ldX1 d L (h := k0_off39_eq k0_t5)) $$ Hx; iintro Hx
  iapply (st_ldX1 d L (h := k0_off40_eq k0_t5)) $$ Hx; iintro Hx
  iapply (st_ldX1 d L (h := k0_off41_eq k0_t5)) $$ Hx; iintro Hx
  iapply (st_ldX1 d L (h := k0_off42_eq k0_t5)) $$ Hx; iintro Hx
  iapply (st_ldX1 d L (h := k0_off43_eq k0_t5)) $$ Hx; iintro Hx
  iapply (st_ldX1 d L (h := k0_off44_eq k0_t5)) $$ Hx; iintro Hx
  iapply (st_ldX1 d L (h := k0_off45_eq k0_t5)) $$ Hx; iintro Hx
  iapply (st_ldX1 d L (h := k0_off46_eq k0_t5)) $$ Hx; iintro Hx
  iapply (st_ldX1 d L (h := k0_off47_eq k0_t5)) $$ Hx; iintro Hx
  iapply (st_ldX1 d L (h := k0_off48_eq k0_t5)) $$ Hx; iintro Hx
  iapply (Scf.wp_for_bind frame (wpE (defs₀ (F := F)) 𝒱₀ (thr d L) none) Set.univ _ _ _ k0_t6_ok _ _ (t6_inv d L f0 fl fx k0_t5.val) ?hbody) $$ [Hs Hl Hx]
  case hbody =>
    intro k acc
    unfold t6_inv
    iintro ⟨%e, H⟩
    subst e
    iapply (t6_step d L f0 fl fx hl k0_t5 k _ _ _ _ _ _ _ _ _ _) $$ H
  · unfold t6_inv
    isplitr [Hs Hl Hx]
    · ipureintro
      have e1 := cast_lab1 fl k0_t5.val 0
      have e2 := fun ch => cast_x1 fx ch k0_t5.val 0
      show _ = grp fl fx k0_t5.val 0
      unfold grp
      rw [← e1, ← e2 0, ← e2 1, ← e2 2, ← e2 3, ← e2 4, ← e2 5, ← e2 6, ← e2 7, ← e2 8, ← e2 9, ← e2 10, ← e2 11]
      rfl
    · isplitl [Hs]; · iexact Hs
      isplitl [Hl]; · iexact Hl
      iexact Hx
  iintro %acc HI
  unfold t6_inv
  icases HI with ⟨%e, Hs, Hl, Hx⟩
  rw [show Scf.trips k0_t6_loop.lb k0_t6_loop.ub k0_t6_loop.st = 23 from htr] at e
  ihave Hs := (Entails.of_eq (congrArg (fun n => ((mS).view.loc (thr d L) ↦{fullShare} accN f0 fl fx (24 * k0_t5.val + n) : sProp (Res F))) htr)) $$ Hs
  subst e
  simp only [grp, Prog.lift, Prog.bind_op, Prog.bind_ret, Prog.pure_eq_ret, bind_assoc]
  iapply (st_scat d L (hP := shifted_inb (lab16_lt hl _ _) (c := 12288#32) (by decide)) (hb := shifted_inb (lab16_lt hl _ _) (c := 12288#32) (by decide))) $$ Hs; iintro Hs
  iapply (st_scat d L (hP := shifted_inb (lab16_lt hl _ _) (c := 0#32) (by decide)) (hb := shifted_inb (lab16_lt hl _ _) (c := 0#32) (by decide))) $$ Hs; iintro Hs
  iapply (st_scat d L (hP := shifted_inb (lab16_lt hl _ _) (c := 1024#32) (by decide)) (hb := shifted_inb (lab16_lt hl _ _) (c := 1024#32) (by decide))) $$ Hs; iintro Hs
  iapply (st_scat d L (hP := shifted_inb (lab16_lt hl _ _) (c := 2048#32) (by decide)) (hb := shifted_inb (lab16_lt hl _ _) (c := 2048#32) (by decide))) $$ Hs; iintro Hs
  iapply (st_scat d L (hP := shifted_inb (lab16_lt hl _ _) (c := 3072#32) (by decide)) (hb := shifted_inb (lab16_lt hl _ _) (c := 3072#32) (by decide))) $$ Hs; iintro Hs
  iapply (st_scat d L (hP := shifted_inb (lab16_lt hl _ _) (c := 4096#32) (by decide)) (hb := shifted_inb (lab16_lt hl _ _) (c := 4096#32) (by decide))) $$ Hs; iintro Hs
  iapply (st_scat d L (hP := shifted_inb (lab16_lt hl _ _) (c := 5120#32) (by decide)) (hb := shifted_inb (lab16_lt hl _ _) (c := 5120#32) (by decide))) $$ Hs; iintro Hs
  iapply (st_scat d L (hP := shifted_inb (lab16_lt hl _ _) (c := 6144#32) (by decide)) (hb := shifted_inb (lab16_lt hl _ _) (c := 6144#32) (by decide))) $$ Hs; iintro Hs
  iapply (st_scat d L (hP := shifted_inb (lab16_lt hl _ _) (c := 7168#32) (by decide)) (hb := shifted_inb (lab16_lt hl _ _) (c := 7168#32) (by decide))) $$ Hs; iintro Hs
  iapply (st_scat d L (hP := shifted_inb (lab16_lt hl _ _) (c := 8192#32) (by decide)) (hb := shifted_inb (lab16_lt hl _ _) (c := 8192#32) (by decide))) $$ Hs; iintro Hs
  iapply (st_scat d L (hP := shifted_inb (lab16_lt hl _ _) (c := 9216#32) (by decide)) (hb := shifted_inb (lab16_lt hl _ _) (c := 9216#32) (by decide))) $$ Hs; iintro Hs
  iapply (st_scat d L (hP := shifted_inb (lab16_lt hl _ _) (c := 10240#32) (by decide)) (hb := shifted_inb (lab16_lt hl _ _) (c := 10240#32) (by decide))) $$ Hs; iintro Hs
  iapply (st_scat d L (hP := shifted_inb (lab16_lt hl _ _) (c := 11264#32) (by decide)) (hb := shifted_inb (lab16_lt hl _ _) (c := 11264#32) (by decide))) $$ Hs; iintro Hs
  iapply (wp_ret_intro Set.univ _)
  isplitl [Hs]; · iexact Hs
  isplitl [Hl]; · iexact Hl
  iexact Hx

/-- The table after a whole chunk. -/
def chunkF (f0 : Sums F) (fl : LabC F) (fx : XC F) : Sums F := accN f0 fl fx 192

/-- The row loop over a chunk, at the head of a program. -/
theorem t3_rows (d : Dev nD) (L : grid0.Coords) (f0 : Sums F) (fl : LabC F) (fx : XC F) (hl : ∀ i, (fl i : BitVec 32).toNat < 1024) (v0 v1 : BitVec 32) (k2 : Fin k0_t2_loop.trips)
    {β : Type} {kk : Unit → Prog (TpuEff nD τ sig (Elt F) Λ₀ (.scVector (cV L) (jV L))) β} {Q : β → sProp (Res F)} :
    (iprop(((mS).view.loc (thr d L) ↦{fullShare} f0) ∗ ((mL0).view.loc (thr d L) ↦{fullShare} fl) ∗ ((mX0).view.loc (thr d L) ↦{fullShare} fx)) : sProp (Res F))
      ⊢ iprop((∀ acc, (((mS).view.loc (thr d L) ↦{fullShare} chunkF f0 fl fx) ∗ ((mL0).view.loc (thr d L) ↦{fullShare} fl) ∗ ((mX0).view.loc (thr d L) ↦{fullShare} fx))
            -∗ wp frame (wpE (defs₀ (F := F)) 𝒱₀ (thr d L) none) Set.univ (kk acc) Q)
        -∗ wp frame (wpE (defs₀ (F := F)) 𝒱₀ (thr d L) none) Set.univ
            (Scf.Loop.for k0_t3_loop k0_t3_ok ⟨⟩ (k0_t3_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 ones v0 v1 k2) >>= kk) Q) :=
  Scf.wp_for_bind frame (wpE (defs₀ (F := F)) 𝒱₀ (thr d L) none) Set.univ _ _ _ k0_t3_ok _ _
    (fun n _ => iprop(((mS).view.loc (thr d L) ↦{fullShare} accN f0 fl fx (24 * n)) ∗ ((mL0).view.loc (thr d L) ↦{fullShare} fl) ∗ ((mX0).view.loc (thr d L) ↦{fullShare} fx)))
    (fun k _ => t3_step d L f0 fl fx hl k v0 v1 k2)

/-- The row loop over a chunk, at the head of a program. -/
theorem t5_rows (d : Dev nD) (L : grid0.Coords) (f0 : Sums F) (fl : LabC F) (fx : XC F) (hl : ∀ i, (fl i : BitVec 32).toNat < 1024) (v11 v29 : BitVec 32)
    {β : Type} {kk : Unit → Prog (TpuEff nD τ sig (Elt F) Λ₀ (.scVector (cV L) (jV L))) β} {Q : β → sProp (Res F)} :
    (iprop(((mS).view.loc (thr d L) ↦{fullShare} f0) ∗ ((mL1).view.loc (thr d L) ↦{fullShare} fl) ∗ ((mX1).view.loc (thr d L) ↦{fullShare} fx)) : sProp (Res F))
      ⊢ iprop((∀ acc, (((mS).view.loc (thr d L) ↦{fullShare} chunkF f0 fl fx) ∗ ((mL1).view.loc (thr d L) ↦{fullShare} fl) ∗ ((mX1).view.loc (thr d L) ↦{fullShare} fx))
            -∗ wp frame (wpE (defs₀ (F := F)) 𝒱₀ (thr d L) none) Set.univ (kk acc) Q)
        -∗ wp frame (wpE (defs₀ (F := F)) 𝒱₀ (thr d L) none) Set.univ
            (Scf.Loop.for k0_t5_loop k0_t5_ok ⟨⟩ (k0_t5_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones) >>= kk) Q) :=
  Scf.wp_for_bind frame (wpE (defs₀ (F := F)) 𝒱₀ (thr d L) none) Set.univ _ _ _ k0_t5_ok _ _
    (fun n _ => iprop(((mS).view.loc (thr d L) ↦{fullShare} accN f0 fl fx (24 * n)) ∗ ((mL1).view.loc (thr d L) ↦{fullShare} fl) ∗ ((mX1).view.loc (thr d L) ↦{fullShare} fx)))
    (fun k _ => t5_step d L f0 fl fx hl k v11 v29)

end Cert.Proof.Pool

end
-- ==== Proof.Means.lean ====
/-
  The three loops over the table of sums apart from the accumulation: clearing it, turning the sums into means, and
  reading the two ends of every edge out of it.
-/
module

public import proofs.«01_k».proof.Proof.Group

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

/-! ## The states of the loops -/

/-- The table with its first `16 n` elements cleared. -/
def zeroN (f : Sums F) : Nat → Sums F
  | 0 => f
  | n + 1 => upd (n := 13312) (zeroN f n) (16 * n) (k0_pay134 : V16 F)

/-- Sixteen elements from `lo` on multiplied by `r`. -/
def mrow (f : Sums F) (r : V16 F) (lo : Nat) : Sums F := upd (n := 13312) f lo (mulf (s16 f lo) r)

/-- One trip of the means loop: the reciprocals of sixteen counts, multiplied into the twelve rows of sums. -/
def meanT (f : Sums F) (k : Nat) : Sums F :=
  (mrow (mrow (mrow (mrow (mrow (mrow (mrow (mrow (mrow (mrow (mrow (mrow f (k0_pay99 (s16 f (1024 * 12 + 16 * k))) (1024 * 0 + 16 * k)) (k0_pay99 (s16 f (1024 * 12 + 16 * k))) (1024 * 1 + 16 * k)) (k0_pay99 (s16 f (1024 * 12 + 16 * k))) (1024 * 2 + 16 * k)) (k0_pay99 (s16 f (1024 * 12 + 16 * k))) (1024 * 3 + 16 * k)) (k0_pay99 (s16 f (1024 * 12 + 16 * k))) (1024 * 4 + 16 * k)) (k0_pay99 (s16 f (1024 * 12 + 16 * k))) (1024 * 5 + 16 * k)) (k0_pay99 (s16 f (1024 * 12 + 16 * k))) (1024 * 6 + 16 * k)) (k0_pay99 (s16 f (1024 * 12 + 16 * k))) (1024 * 7 + 16 * k)) (k0_pay99 (s16 f (1024 * 12 + 16 * k))) (1024 * 8 + 16 * k)) (k0_pay99 (s16 f (1024 * 12 + 16 * k))) (1024 * 9 + 16 * k)) (k0_pay99 (s16 f (1024 * 12 + 16 * k))) (1024 * 10 + 16 * k)) (k0_pay99 (s16 f (1024 * 12 + 16 * k))) (1024 * 11 + 16 * k))

def meanN (f : Sums F) : Nat → Sums F
  | 0 => f
  | n + 1 => meanT (meanN f n) n

/-- One trip of the edges loop: the sixteen labels `l` looked up in each of the twelve rows. -/
def edgeT (s : Sums F) (l : Lab16 F) (k : Nat) (g : Vec F S3072 .f32) : Vec F S3072 .f32 :=
  (upd (n := 3072) (upd (n := 3072) (upd (n := 3072) (upd (n := 3072) (upd (n := 3072) (upd (n := 3072) (upd (n := 3072) (upd (n := 3072) (upd (n := 3072) (upd (n := 3072) (upd (n := 3072) (upd (n := 3072) g (16 * k + 256 * 0) (lkp s (shifted l 0#32))) (16 * k + 256 * 1) (lkp s (shifted l 1024#32))) (16 * k + 256 * 2) (lkp s (shifted l 2048#32))) (16 * k + 256 * 3) (lkp s (shifted l 3072#32))) (16 * k + 256 * 4) (lkp s (shifted l 4096#32))) (16 * k + 256 * 5) (lkp s (shifted l 5120#32))) (16 * k + 256 * 6) (lkp s (shifted l 6144#32))) (16 * k + 256 * 7) (lkp s (shifted l 7168#32))) (16 * k + 256 * 8) (lkp s (shifted l 8192#32))) (16 * k + 256 * 9) (lkp s (shifted l 9216#32))) (16 * k + 256 * 10) (lkp s (shifted l 10240#32))) (16 * k + 256 * 11) (lkp s (shifted l 11264#32)))

def edgeN (s : Sums F) (p : Vec F S256 .i32) (g : Vec F S3072 .f32) : Nat → Vec F S3072 .f32
  | 0 => g
  | n + 1 => edgeT s (p16 p (16 * n)) n (edgeN s p g n)

set_option maxHeartbeats 4000000 in
theorem t1_step (d : Dev nD) (L : grid0.Coords) (f : Sums F) (k0_t1 : Fin k0_t1_loop.trips) :
    (iprop(((mS).view.loc (thr d L) ↦{fullShare} zeroN f k0_t1.val)) : sProp (Res F))
      ⊢ wp frame (wpE (defs₀ (F := F)) 𝒱₀ (thr d L) none) Set.univ
          (k0_t1_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3  k0_t1 ⟨⟩)
          fun _ => iprop(((mS).view.loc (thr d L) ↦{fullShare} zeroN f (k0_t1.val + 1))) := by
  unfold k0_t1_body
  simp only [Prog.lift, Prog.bind_op, Prog.bind_ret, Prog.pure_eq_ret, bind_assoc]
  iintro Hs
  iapply (st_ldS d L (h := k0_off1_eq k0_t1)) $$ Hs; iintro Hs
  iapply (st_stS d L (h := k0_off1_eq k0_t1)) $$ Hs; iintro Hs
  iapply (wp_ret_intro Set.univ _)
  iexact Hs

/-- The loop at the head of a program. -/
theorem t1_loop (d : Dev nD) (L : grid0.Coords) (f : Sums F)
    {β : Type} {kk : Unit → Prog (TpuEff nD τ sig (Elt F) Λ₀ (.scVector (cV L) (jV L))) β} {Q : β → sProp (Res F)} :
    (iprop(((mS).view.loc (thr d L) ↦{fullShare} f)) : sProp (Res F))
      ⊢ iprop((∀ acc, (((mS).view.loc (thr d L) ↦{fullShare} zeroN f 832)) -∗ wp frame (wpE (defs₀ (F := F)) 𝒱₀ (thr d L) none) Set.univ (kk acc) Q)
        -∗ wp frame (wpE (defs₀ (F := F)) 𝒱₀ (thr d L) none) Set.univ
            (Scf.Loop.for k0_t1_loop k0_t1_ok ⟨⟩ (k0_t1_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 ) >>= kk) Q) :=
  Scf.wp_for_bind frame (wpE (defs₀ (F := F)) 𝒱₀ (thr d L) none) Set.univ _ _ _ k0_t1_ok _ _
    (fun n _ => iprop(((mS).view.loc (thr d L) ↦{fullShare} zeroN f n)))
    (fun k _ => t1_step d L f k)

set_option maxHeartbeats 4000000 in
theorem t7_step (d : Dev nD) (L : grid0.Coords) (v11 v29 : BitVec 32) (f : Sums F) (k0_t7 : Fin k0_t7_loop.trips) :
    (iprop(((mS).view.loc (thr d L) ↦{fullShare} meanN f k0_t7.val)) : sProp (Res F))
      ⊢ wp frame (wpE (defs₀ (F := F)) 𝒱₀ (thr d L) none) Set.univ
          (k0_t7_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones k0_t7 ⟨⟩)
          fun _ => iprop(((mS).view.loc (thr d L) ↦{fullShare} meanN f (k0_t7.val + 1))) := by
  unfold k0_t7_body
  simp only [k0_part10_eq_skeleton, k0_part11_eq_skeleton]
  unfold k0_part10_skel k0_part11_skel
  simp only [Prog.lift, Prog.bind_op, Prog.bind_ret, Prog.pure_eq_ret, bind_assoc]
  have o0 : k0_off62 k0_t7 0#32 = ![1024 * 0 + 16 * k0_t7.val] := k0_off62_eq k0_t7 0
  have o1 : k0_off62 k0_t7 1024#32 = ![1024 * 1 + 16 * k0_t7.val] := k0_off62_eq k0_t7 1
  have o2 : k0_off62 k0_t7 2048#32 = ![1024 * 2 + 16 * k0_t7.val] := k0_off62_eq k0_t7 2
  have o3 : k0_off62 k0_t7 3072#32 = ![1024 * 3 + 16 * k0_t7.val] := k0_off62_eq k0_t7 3
  have o4 : k0_off62 k0_t7 4096#32 = ![1024 * 4 + 16 * k0_t7.val] := k0_off62_eq k0_t7 4
  have o5 : k0_off62 k0_t7 5120#32 = ![1024 * 5 + 16 * k0_t7.val] := k0_off62_eq k0_t7 5
  have o6 : k0_off62 k0_t7 6144#32 = ![1024 * 6 + 16 * k0_t7.val] := k0_off62_eq k0_t7 6
  have o7 : k0_off62 k0_t7 7168#32 = ![1024 * 7 + 16 * k0_t7.val] := k0_off62_eq k0_t7 7
  have o8 : k0_off62 k0_t7 8192#32 = ![1024 * 8 + 16 * k0_t7.val] := k0_off62_eq k0_t7 8
  have o9 : k0_off62 k0_t7 9216#32 = ![1024 * 9 + 16 * k0_t7.val] := k0_off62_eq k0_t7 9
  have o10 : k0_off62 k0_t7 10240#32 = ![1024 * 10 + 16 * k0_t7.val] := k0_off62_eq k0_t7 10
  have o11 : k0_off62 k0_t7 11264#32 = ![1024 * 11 + 16 * k0_t7.val] := k0_off62_eq k0_t7 11
  have o12 : k0_off62 k0_t7 12288#32 = ![1024 * 12 + 16 * k0_t7.val] := k0_off62_eq k0_t7 12
  iintro Hs
  iapply (st_ldS d L (h := o12)) $$ Hs; iintro Hs
  iapply (st_ldS d L (h := o0)) $$ Hs; iintro Hs
  iapply (st_ldS d L (h := o0)) $$ Hs; iintro Hs
  iapply (st_stS d L (h := o0)) $$ Hs; iintro Hs
  iapply (st_ldS d L (h := o1)) $$ Hs; iintro Hs
  iapply (st_ldS d L (h := o1)) $$ Hs; iintro Hs
  iapply (st_stS d L (h := o1)) $$ Hs; iintro Hs
  iapply (st_ldS d L (h := o2)) $$ Hs; iintro Hs
  iapply (st_ldS d L (h := o2)) $$ Hs; iintro Hs
  iapply (st_stS d L (h := o2)) $$ Hs; iintro Hs
  iapply (st_ldS d L (h := o3)) $$ Hs; iintro Hs
  iapply (st_ldS d L (h := o3)) $$ Hs; iintro Hs
  iapply (st_stS d L (h := o3)) $$ Hs; iintro Hs
  iapply (st_ldS d L (h := o4)) $$ Hs; iintro Hs
  iapply (st_ldS d L (h := o4)) $$ Hs; iintro Hs
  iapply (st_stS d L (h := o4)) $$ Hs; iintro Hs
  iapply (st_ldS d L (h := o5)) $$ Hs; iintro Hs
  iapply (st_ldS d L (h := o5)) $$ Hs; iintro Hs
  iapply (st_stS d L (h := o5)) $$ Hs; iintro Hs
  iapply (st_ldS d L (h := o6)) $$ Hs; iintro Hs
  iapply (st_ldS d L (h := o6)) $$ Hs; iintro Hs
  iapply (st_stS d L (h := o6)) $$ Hs; iintro Hs
  iapply (st_ldS d L (h := o7)) $$ Hs; iintro Hs
  iapply (st_ldS d L (h := o7)) $$ Hs; iintro Hs
  iapply (st_stS d L (h := o7)) $$ Hs; iintro Hs
  iapply (st_ldS d L (h := o8)) $$ Hs; iintro Hs
  iapply (st_ldS d L (h := o8)) $$ Hs; iintro Hs
  iapply (st_stS d L (h := o8)) $$ Hs; iintro Hs
  iapply (st_ldS d L (h := o9)) $$ Hs; iintro Hs
  iapply (st_ldS d L (h := o9)) $$ Hs; iintro Hs
  iapply (st_stS d L (h := o9)) $$ Hs; iintro Hs
  iapply (st_ldS d L (h := o10)) $$ Hs; iintro Hs
  iapply (st_ldS d L (h := o10)) $$ Hs; iintro Hs
  iapply (st_stS d L (h := o10)) $$ Hs; iintro Hs
  iapply (st_ldS d L (h := o11)) $$ Hs; iintro Hs
  iapply (st_ldS d L (h := o11)) $$ Hs; iintro Hs
  iapply (st_stS d L (h := o11)) $$ Hs; iintro Hs
  iapply (wp_ret_intro Set.univ _)
  iexact Hs

/-- The loop at the head of a program. -/
theorem t7_loop (d : Dev nD) (L : grid0.Coords) (v11 v29 : BitVec 32) (f : Sums F)
    {β : Type} {kk : Unit → Prog (TpuEff nD τ sig (Elt F) Λ₀ (.scVector (cV L) (jV L))) β} {Q : β → sProp (Res F)} :
    (iprop(((mS).view.loc (thr d L) ↦{fullShare} f)) : sProp (Res F))
      ⊢ iprop((∀ acc, (((mS).view.loc (thr d L) ↦{fullShare} meanN f 64)) -∗ wp frame (wpE (defs₀ (F := F)) 𝒱₀ (thr d L) none) Set.univ (kk acc) Q)
        -∗ wp frame (wpE (defs₀ (F := F)) 𝒱₀ (thr d L) none) Set.univ
            (Scf.Loop.for k0_t7_loop k0_t7_ok ⟨⟩ (k0_t7_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones) >>= kk) Q) :=
  Scf.wp_for_bind frame (wpE (defs₀ (F := F)) 𝒱₀ (thr d L) none) Set.univ _ _ _ k0_t7_ok _ _
    (fun n _ => iprop(((mS).view.loc (thr d L) ↦{fullShare} meanN f n)))
    (fun k _ => t7_step d L v11 v29 f k)

set_option maxHeartbeats 4000000 in
theorem t8_step (d : Dev nD) (L : grid0.Coords) (v11 v29 : BitVec 32) (s : Sums F) (pa pb : Vec F S256 .i32) (ga gb : Vec F S3072 .f32) (ha : ∀ i, (pa i : BitVec 32).toNat < 1024) (hb : ∀ i, (pb i : BitVec 32).toNat < 1024) (k0_t8 : Fin k0_t8_loop.trips) :
    (iprop(((mS).view.loc (thr d L) ↦{fullShare} s) ∗ ((mPa).view.loc (thr d L) ↦{fullShare} pa) ∗ ((mPb).view.loc (thr d L) ↦{fullShare} pb) ∗ ((mQa).view.loc (thr d L) ↦{fullShare} edgeN s pa ga k0_t8.val) ∗ ((mQb).view.loc (thr d L) ↦{fullShare} edgeN s pb gb k0_t8.val)) : sProp (Res F))
      ⊢ wp frame (wpE (defs₀ (F := F)) 𝒱₀ (thr d L) none) Set.univ
          (k0_t8_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones k0_t8 ⟨⟩)
          fun _ => iprop(((mS).view.loc (thr d L) ↦{fullShare} s) ∗ ((mPa).view.loc (thr d L) ↦{fullShare} pa) ∗ ((mPb).view.loc (thr d L) ↦{fullShare} pb) ∗ ((mQa).view.loc (thr d L) ↦{fullShare} edgeN s pa ga (k0_t8.val + 1)) ∗ ((mQb).view.loc (thr d L) ↦{fullShare} edgeN s pb gb (k0_t8.val + 1))) := by
  unfold k0_t8_body
  simp only [k0_part12_eq_skeleton, k0_part13_eq_skeleton, k0_part14_eq_skeleton, k0_part15_eq_skeleton]
  unfold k0_part12_skel k0_part13_skel k0_part14_skel k0_part15_skel
  simp only [Prog.lift, Prog.bind_op, Prog.bind_ret, Prog.pure_eq_ret, bind_assoc]
  iintro ⟨Hs, Ha, Hb, Hu, Hv⟩
  iapply (st_ldPa d L (h := k0_off64_eq k0_t8)) $$ Ha; iintro Ha
  iapply (st_ldPb d L (h := k0_off64_eq k0_t8)) $$ Hb; iintro Hb
  iapply (st_lookup d L (hP := shifted_inb (c := 0#32) (fun x => ha _) (by decide)) (hb := shifted_inb (c := 0#32) (fun x => ha _) (by decide))) $$ Hs; iintro Hs
  iapply (wp_load 𝒱₀ (thr d L) none Set.univ (m := mQa) (S := Finset.univ) (Finset.subset_univ _)) $$ Hu; iintro Hu
  iapply (st_stQa d L (h := k0_off65_eq k0_t8)) $$ Hu; iintro Hu
  iapply (st_lookup d L (hP := shifted_inb (c := 0#32) (fun x => hb _) (by decide)) (hb := shifted_inb (c := 0#32) (fun x => hb _) (by decide))) $$ Hs; iintro Hs
  iapply (wp_load 𝒱₀ (thr d L) none Set.univ (m := mQb) (S := Finset.univ) (Finset.subset_univ _)) $$ Hv; iintro Hv
  iapply (st_stQb d L (h := k0_off66_eq k0_t8)) $$ Hv; iintro Hv
  iapply (st_lookup d L (hP := shifted_inb (c := 1024#32) (fun x => ha _) (by decide)) (hb := shifted_inb (c := 1024#32) (fun x => ha _) (by decide))) $$ Hs; iintro Hs
  iapply (wp_load 𝒱₀ (thr d L) none Set.univ (m := mQa) (S := Finset.univ) (Finset.subset_univ _)) $$ Hu; iintro Hu
  iapply (st_stQa d L (h := k0_off67_eq k0_t8)) $$ Hu; iintro Hu
  iapply (st_lookup d L (hP := shifted_inb (c := 1024#32) (fun x => hb _) (by decide)) (hb := shifted_inb (c := 1024#32) (fun x => hb _) (by decide))) $$ Hs; iintro Hs
  iapply (wp_load 𝒱₀ (thr d L) none Set.univ (m := mQb) (S := Finset.univ) (Finset.subset_univ _)) $$ Hv; iintro Hv
  iapply (st_stQb d L (h := k0_off68_eq k0_t8)) $$ Hv; iintro Hv
  iapply (st_lookup d L (hP := shifted_inb (c := 2048#32) (fun x => ha _) (by decide)) (hb := shifted_inb (c := 2048#32) (fun x => ha _) (by decide))) $$ Hs; iintro Hs
  iapply (wp_load 𝒱₀ (thr d L) none Set.univ (m := mQa) (S := Finset.univ) (Finset.subset_univ _)) $$ Hu; iintro Hu
  iapply (st_stQa d L (h := k0_off69_eq k0_t8)) $$ Hu; iintro Hu
  iapply (st_lookup d L (hP := shifted_inb (c := 2048#32) (fun x => hb _) (by decide)) (hb := shifted_inb (c := 2048#32) (fun x => hb _) (by decide))) $$ Hs; iintro Hs
  iapply (wp_load 𝒱₀ (thr d L) none Set.univ (m := mQb) (S := Finset.univ) (Finset.subset_univ _)) $$ Hv; iintro Hv
  iapply (st_stQb d L (h := k0_off70_eq k0_t8)) $$ Hv; iintro Hv
  iapply (st_lookup d L (hP := shifted_inb (c := 3072#32) (fun x => ha _) (by decide)) (hb := shifted_inb (c := 3072#32) (fun x => ha _) (by decide))) $$ Hs; iintro Hs
  iapply (wp_load 𝒱₀ (thr d L) none Set.univ (m := mQa) (S := Finset.univ) (Finset.subset_univ _)) $$ Hu; iintro Hu
  iapply (st_stQa d L (h := k0_off71_eq k0_t8)) $$ Hu; iintro Hu
  iapply (st_lookup d L (hP := shifted_inb (c := 3072#32) (fun x => hb _) (by decide)) (hb := shifted_inb (c := 3072#32) (fun x => hb _) (by decide))) $$ Hs; iintro Hs
  iapply (wp_load 𝒱₀ (thr d L) none Set.univ (m := mQb) (S := Finset.univ) (Finset.subset_univ _)) $$ Hv; iintro Hv
  iapply (st_stQb d L (h := k0_off72_eq k0_t8)) $$ Hv; iintro Hv
  iapply (st_lookup d L (hP := shifted_inb (c := 4096#32) (fun x => ha _) (by decide)) (hb := shifted_inb (c := 4096#32) (fun x => ha _) (by decide))) $$ Hs; iintro Hs
  iapply (wp_load 𝒱₀ (thr d L) none Set.univ (m := mQa) (S := Finset.univ) (Finset.subset_univ _)) $$ Hu; iintro Hu
  iapply (st_stQa d L (h := k0_off73_eq k0_t8)) $$ Hu; iintro Hu
  iapply (st_lookup d L (hP := shifted_inb (c := 4096#32) (fun x => hb _) (by decide)) (hb := shifted_inb (c := 4096#32) (fun x => hb _) (by decide))) $$ Hs; iintro Hs
  iapply (wp_load 𝒱₀ (thr d L) none Set.univ (m := mQb) (S := Finset.univ) (Finset.subset_univ _)) $$ Hv; iintro Hv
  iapply (st_stQb d L (h := k0_off74_eq k0_t8)) $$ Hv; iintro Hv
  iapply (st_lookup d L (hP := shifted_inb (c := 5120#32) (fun x => ha _) (by decide)) (hb := shifted_inb (c := 5120#32) (fun x => ha _) (by decide))) $$ Hs; iintro Hs
  iapply (wp_load 𝒱₀ (thr d L) none Set.univ (m := mQa) (S := Finset.univ) (Finset.subset_univ _)) $$ Hu; iintro Hu
  iapply (st_stQa d L (h := k0_off75_eq k0_t8)) $$ Hu; iintro Hu
  iapply (st_lookup d L (hP := shifted_inb (c := 5120#32) (fun x => hb _) (by decide)) (hb := shifted_inb (c := 5120#32) (fun x => hb _) (by decide))) $$ Hs; iintro Hs
  iapply (wp_load 𝒱₀ (thr d L) none Set.univ (m := mQb) (S := Finset.univ) (Finset.subset_univ _)) $$ Hv; iintro Hv
  iapply (st_stQb d L (h := k0_off76_eq k0_t8)) $$ Hv; iintro Hv
  iapply (st_lookup d L (hP := shifted_inb (c := 6144#32) (fun x => ha _) (by decide)) (hb := shifted_inb (c := 6144#32) (fun x => ha _) (by decide))) $$ Hs; iintro Hs
  iapply (wp_load 𝒱₀ (thr d L) none Set.univ (m := mQa) (S := Finset.univ) (Finset.subset_univ _)) $$ Hu; iintro Hu
  iapply (st_stQa d L (h := k0_off77_eq k0_t8)) $$ Hu; iintro Hu
  iapply (st_lookup d L (hP := shifted_inb (c := 6144#32) (fun x => hb _) (by decide)) (hb := shifted_inb (c := 6144#32) (fun x => hb _) (by decide))) $$ Hs; iintro Hs
  iapply (wp_load 𝒱₀ (thr d L) none Set.univ (m := mQb) (S := Finset.univ) (Finset.subset_univ _)) $$ Hv; iintro Hv
  iapply (st_stQb d L (h := k0_off78_eq k0_t8)) $$ Hv; iintro Hv
  iapply (st_lookup d L (hP := shifted_inb (c := 7168#32) (fun x => ha _) (by decide)) (hb := shifted_inb (c := 7168#32) (fun x => ha _) (by decide))) $$ Hs; iintro Hs
  iapply (wp_load 𝒱₀ (thr d L) none Set.univ (m := mQa) (S := Finset.univ) (Finset.subset_univ _)) $$ Hu; iintro Hu
  iapply (st_stQa d L (h := k0_off79_eq k0_t8)) $$ Hu; iintro Hu
  iapply (st_lookup d L (hP := shifted_inb (c := 7168#32) (fun x => hb _) (by decide)) (hb := shifted_inb (c := 7168#32) (fun x => hb _) (by decide))) $$ Hs; iintro Hs
  iapply (wp_load 𝒱₀ (thr d L) none Set.univ (m := mQb) (S := Finset.univ) (Finset.subset_univ _)) $$ Hv; iintro Hv
  iapply (st_stQb d L (h := k0_off80_eq k0_t8)) $$ Hv; iintro Hv
  iapply (st_lookup d L (hP := shifted_inb (c := 8192#32) (fun x => ha _) (by decide)) (hb := shifted_inb (c := 8192#32) (fun x => ha _) (by decide))) $$ Hs; iintro Hs
  iapply (wp_load 𝒱₀ (thr d L) none Set.univ (m := mQa) (S := Finset.univ) (Finset.subset_univ _)) $$ Hu; iintro Hu
  iapply (st_stQa d L (h := k0_off81_eq k0_t8)) $$ Hu; iintro Hu
  iapply (st_lookup d L (hP := shifted_inb (c := 8192#32) (fun x => hb _) (by decide)) (hb := shifted_inb (c := 8192#32) (fun x => hb _) (by decide))) $$ Hs; iintro Hs
  iapply (wp_load 𝒱₀ (thr d L) none Set.univ (m := mQb) (S := Finset.univ) (Finset.subset_univ _)) $$ Hv; iintro Hv
  iapply (st_stQb d L (h := k0_off82_eq k0_t8)) $$ Hv; iintro Hv
  iapply (st_lookup d L (hP := shifted_inb (c := 9216#32) (fun x => ha _) (by decide)) (hb := shifted_inb (c := 9216#32) (fun x => ha _) (by decide))) $$ Hs; iintro Hs
  iapply (wp_load 𝒱₀ (thr d L) none Set.univ (m := mQa) (S := Finset.univ) (Finset.subset_univ _)) $$ Hu; iintro Hu
  iapply (st_stQa d L (h := k0_off83_eq k0_t8)) $$ Hu; iintro Hu
  iapply (st_lookup d L (hP := shifted_inb (c := 9216#32) (fun x => hb _) (by decide)) (hb := shifted_inb (c := 9216#32) (fun x => hb _) (by decide))) $$ Hs; iintro Hs
  iapply (wp_load 𝒱₀ (thr d L) none Set.univ (m := mQb) (S := Finset.univ) (Finset.subset_univ _)) $$ Hv; iintro Hv
  iapply (st_stQb d L (h := k0_off84_eq k0_t8)) $$ Hv; iintro Hv
  iapply (st_lookup d L (hP := shifted_inb (c := 10240#32) (fun x => ha _) (by decide)) (hb := shifted_inb (c := 10240#32) (fun x => ha _) (by decide))) $$ Hs; iintro Hs
  iapply (wp_load 𝒱₀ (thr d L) none Set.univ (m := mQa) (S := Finset.univ) (Finset.subset_univ _)) $$ Hu; iintro Hu
  iapply (st_stQa d L (h := k0_off85_eq k0_t8)) $$ Hu; iintro Hu
  iapply (st_lookup d L (hP := shifted_inb (c := 10240#32) (fun x => hb _) (by decide)) (hb := shifted_inb (c := 10240#32) (fun x => hb _) (by decide))) $$ Hs; iintro Hs
  iapply (wp_load 𝒱₀ (thr d L) none Set.univ (m := mQb) (S := Finset.univ) (Finset.subset_univ _)) $$ Hv; iintro Hv
  iapply (st_stQb d L (h := k0_off86_eq k0_t8)) $$ Hv; iintro Hv
  iapply (st_lookup d L (hP := shifted_inb (c := 11264#32) (fun x => ha _) (by decide)) (hb := shifted_inb (c := 11264#32) (fun x => ha _) (by decide))) $$ Hs; iintro Hs
  iapply (wp_load 𝒱₀ (thr d L) none Set.univ (m := mQa) (S := Finset.univ) (Finset.subset_univ _)) $$ Hu; iintro Hu
  iapply (st_stQa d L (h := k0_off87_eq k0_t8)) $$ Hu; iintro Hu
  iapply (st_lookup d L (hP := shifted_inb (c := 11264#32) (fun x => hb _) (by decide)) (hb := shifted_inb (c := 11264#32) (fun x => hb _) (by decide))) $$ Hs; iintro Hs
  iapply (wp_load 𝒱₀ (thr d L) none Set.univ (m := mQb) (S := Finset.univ) (Finset.subset_univ _)) $$ Hv; iintro Hv
  iapply (st_stQb d L (h := k0_off88_eq k0_t8)) $$ Hv; iintro Hv
  iapply (wp_ret_intro Set.univ _)
  isplitl [Hs]; · iexact Hs
  isplitl [Ha]; · iexact Ha
  isplitl [Hb]; · iexact Hb
  isplitl [Hu]; · iexact Hu
  iexact Hv

/-- The loop at the head of a program. -/
theorem t8_loop (d : Dev nD) (L : grid0.Coords) (v11 v29 : BitVec 32) (s : Sums F) (pa pb : Vec F S256 .i32) (ga gb : Vec F S3072 .f32) (ha : ∀ i, (pa i : BitVec 32).toNat < 1024) (hb : ∀ i, (pb i : BitVec 32).toNat < 1024)
    {β : Type} {kk : Unit → Prog (TpuEff nD τ sig (Elt F) Λ₀ (.scVector (cV L) (jV L))) β} {Q : β → sProp (Res F)} :
    (iprop(((mS).view.loc (thr d L) ↦{fullShare} s) ∗ ((mPa).view.loc (thr d L) ↦{fullShare} pa) ∗ ((mPb).view.loc (thr d L) ↦{fullShare} pb) ∗ ((mQa).view.loc (thr d L) ↦{fullShare} ga) ∗ ((mQb).view.loc (thr d L) ↦{fullShare} gb)) : sProp (Res F))
      ⊢ iprop((∀ acc, (((mS).view.loc (thr d L) ↦{fullShare} s) ∗ ((mPa).view.loc (thr d L) ↦{fullShare} pa) ∗ ((mPb).view.loc (thr d L) ↦{fullShare} pb) ∗ ((mQa).view.loc (thr d L) ↦{fullShare} edgeN s pa ga 16) ∗ ((mQb).view.loc (thr d L) ↦{fullShare} edgeN s pb gb 16)) -∗ wp frame (wpE (defs₀ (F := F)) 𝒱₀ (thr d L) none) Set.univ (kk acc) Q)
        -∗ wp frame (wpE (defs₀ (F := F)) 𝒱₀ (thr d L) none) Set.univ
            (Scf.Loop.for k0_t8_loop k0_t8_ok ⟨⟩ (k0_t8_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones) >>= kk) Q) :=
  Scf.wp_for_bind frame (wpE (defs₀ (F := F)) 𝒱₀ (thr d L) none) Set.univ _ _ _ k0_t8_ok _ _
    (fun n _ => iprop(((mS).view.loc (thr d L) ↦{fullShare} s) ∗ ((mPa).view.loc (thr d L) ↦{fullShare} pa) ∗ ((mPb).view.loc (thr d L) ↦{fullShare} pb) ∗ ((mQa).view.loc (thr d L) ↦{fullShare} edgeN s pa ga n) ∗ ((mQb).view.loc (thr d L) ↦{fullShare} edgeN s pb gb n)))
    (fun k _ => t8_step d L v11 v29 s pa pb ga gb ha hb k)

end Cert.Proof.Pool

end
-- ==== Proof.Closed.lean ====
/-
  The three loops in closed form: the cleared table, the table of means, and the edges' ends read out of it.
-/
module

public import proofs.«01_k».proof.Proof.Means

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

/-! ## Flat buffers by position -/

/-- The element of the table at position `n`, and of the other flat buffers. -/
def fAt (f : Sums F) (n : Nat) : F .f32 := f (nix S13312 pos13312 ![n])
def pAt (p : Vec F S256 .i32) (n : Nat) : BitVec 32 := p (nix S256 pos256 ![n])
def gAt (g : Vec F S3072 .f32) (n : Nat) : F .f32 := g (nix S3072 pos3072 ![n])

theorem fAt_val (f : Sums F) (i : S13312.Idx) : fAt f (i 0).val = f i := congrArg f (nix_eq pos13312 _ _ fun a => by match a with | ⟨0, _⟩ => rfl)
theorem gAt_val (g : Vec F S3072 .f32) (i : S3072.Idx) : gAt g (i 0).val = g i := congrArg g (nix_eq pos3072 _ _ fun a => by match a with | ⟨0, _⟩ => rfl)

/-- The lane of sixteen at offset `n`. -/
def lane (n : Nat) : S16.Idx := ix1 (⟨n % 16, Nat.mod_lt _ (by decide)⟩ : Fin 16)

theorem lane_val {n : Nat} (h : n < 16) : ((lane n) 0).val = n := Nat.mod_eq_of_lt h

theorem fAt_upd (f : Sums F) (v : V16 F) {lo n : Nat} (hn : n < 13312) :
    fAt (upd (n := 13312) f lo v) n = if lo ≤ n ∧ n < lo + 16 then v (lane (n - lo)) else fAt f n := by
  have e : ((nix S13312 pos13312 ![n]) 0).val = n := Nat.mod_eq_of_lt hn
  unfold fAt upd
  by_cases h : lo ≤ n ∧ n < lo + 16
  · rw [dif_pos (by rw [e]; exact h), if_pos h]
    congr 1
    funext a
    match a with
    | ⟨0, _⟩ => apply Fin.ext; show ((nix S13312 pos13312 ![n]) 0).val - lo = (n - lo) % 16; rw [e]; omega
  · rw [dif_neg (by rw [e]; exact h), if_neg h]

theorem gAt_upd (f : Vec F S3072 .f32) (v : V16 F) {lo n : Nat} (hn : n < 3072) :
    gAt (upd (n := 3072) f lo v) n = if lo ≤ n ∧ n < lo + 16 then v (lane (n - lo)) else gAt f n := by
  have e : ((nix S3072 pos3072 ![n]) 0).val = n := Nat.mod_eq_of_lt hn
  unfold gAt upd
  by_cases h : lo ≤ n ∧ n < lo + 16
  · rw [dif_pos (by rw [e]; exact h), if_pos h]
    congr 1
    funext a
    match a with
    | ⟨0, _⟩ => apply Fin.ext; show ((nix S3072 pos3072 ![n]) 0).val - lo = (n - lo) % 16; rw [e]; omega
  · rw [dif_neg (by rw [e]; exact h), if_neg h]

theorem s16_lane (f : Sums F) {lo n : Nat} (h : lo ≤ n ∧ n < lo + 16) : s16 f lo (lane (n - lo)) = fAt f n := by
  show f (nix S13312 pos13312 ![lo + (lane (n - lo) 0).val]) = f (nix S13312 pos13312 ![n])
  rw [lane_val (by omega), show lo + (n - lo) = n by omega]

/-! ## The cleared table -/

/-- The word the table is cleared with, and the one the counts divide. -/
def zc : F .f32 := Scalar.ofBits .f32 0x00000000#32
def oc : F .f32 := Scalar.ofBits .f32 0x3F800000#32

theorem fAt_zeroN (f : Sums F) : ∀ n i, i < 13312 → fAt (zeroN f n) i = if i < 16 * n then zc else fAt f i
  | 0, i, _ => rfl
  | n + 1, i, hi => by
    show fAt (upd (n := 13312) (zeroN f n) (16 * n) _) i = _
    rw [fAt_upd _ _ hi, fAt_zeroN f n i hi]
    by_cases h1 : 16 * n ≤ i ∧ i < 16 * n + 16
    · rw [if_pos h1, if_pos (by omega)]; rfl
    · rw [if_neg h1]; exact if_congr (by omega) rfl rfl

theorem zeroN_all (f : Sums F) : zeroN f 832 = fun _ => zc := by
  funext i
  rw [← fAt_val (zeroN f 832) i, fAt_zeroN f 832 _ (i 0).isLt, if_pos (show (i 0).val < 16 * 832 from (i 0).isLt)]

/-! ## The means -/

/-- The first `j` rows multiplied in one trip. -/
def rowsN (f : Sums F) (r : V16 F) (k : Nat) : Nat → Sums F
  | 0 => f
  | j + 1 => mrow (rowsN f r k j) r (1024 * j + 16 * k)

theorem meanT_rows (f : Sums F) (k : Nat) : meanT f k = rowsN f (k0_pay99 (s16 f (1024 * 12 + 16 * k))) k 12 := rfl

theorem fAt_mrow (f : Sums F) (r : V16 F) {lo n : Nat} (hn : n < 13312) :
    fAt (mrow f r lo) n = if lo ≤ n ∧ n < lo + 16 then FloatOps.mulf (fAt f n) (r (lane (n - lo))) else fAt f n := by
  unfold mrow
  rw [fAt_upd _ _ hn]
  by_cases h : lo ≤ n ∧ n < lo + 16
  · rw [if_pos h, if_pos h, ← s16_lane f h]; rfl
  · rw [if_neg h, if_neg h]

theorem fAt_rowsN (f : Sums F) (r : V16 F) {k : Nat} (hk : k < 64) : ∀ j i, j ≤ 12 → i < 13312 →
    fAt (rowsN f r k j) i = if i < 1024 * j ∧ 16 * k ≤ i % 1024 ∧ i % 1024 < 16 * k + 16 then FloatOps.mulf (fAt f i) (r (lane (i % 1024 - 16 * k))) else fAt f i
  | 0, i, _, _ => by rw [if_neg (by omega)]; rfl
  | j + 1, i, hj, hi => by
    show fAt (mrow (rowsN f r k j) r _) i = _
    rw [fAt_mrow _ _ hi, fAt_rowsN f r hk j i (by omega) hi]
    by_cases h1 : 1024 * j + 16 * k ≤ i ∧ i < 1024 * j + 16 * k + 16
    · rw [if_pos h1, if_neg (by omega), if_pos (by omega), show i - (1024 * j + 16 * k) = i % 1024 - 16 * k by omega]
    · rw [if_neg h1]; exact if_congr (by omega) rfl rfl

theorem fAt_meanN (f : Sums F) : ∀ n i, n ≤ 64 → i < 13312 →
    fAt (meanN f n) i = if i < 12288 ∧ i % 1024 < 16 * n then FloatOps.mulf (fAt f i) (FloatOps.divf oc (fAt f (12288 + i % 1024))) else fAt f i
  | 0, i, _, _ => by rw [if_neg (by omega)]; rfl
  | n + 1, i, hn, hi => by
    show fAt (meanT (meanN f n) n) i = _
    rw [meanT_rows, fAt_rowsN _ _ (show n < 64 by omega) 12 i (by omega) hi, fAt_meanN f n i (by omega) hi]
    by_cases h1 : i < 1024 * 12 ∧ 16 * n ≤ i % 1024 ∧ i % 1024 < 16 * n + 16
    · rw [if_pos h1, if_neg (by omega), if_pos (by omega)]
      congr 1
      show FloatOps.divf oc (s16 (meanN f n) (1024 * 12 + 16 * n) (lane (i % 1024 - 16 * n))) = _
      rw [show i % 1024 - 16 * n = (12288 + i % 1024) - (1024 * 12 + 16 * n) by omega, s16_lane _ (by omega), fAt_meanN f n _ (by omega) (by omega), if_neg (by omega)]
    · rw [if_neg h1]; exact if_congr (by omega) rfl rfl

/-- The mean at row `j`, segment `l` of a table of sums and counts. -/
def meanAt (f : Sums F) (j l : Nat) : F .f32 := FloatOps.mulf (fAt f (1024 * j + l)) (FloatOps.divf oc (fAt f (12288 + l)))

theorem fAt_mean (f : Sums F) {j l : Nat} (hj : j < 12) (hl : l < 1024) : fAt (meanN f 64) (1024 * j + l) = meanAt f j l := by
  rw [fAt_meanN f 64 _ (by omega) (by omega), if_pos (by omega), show (1024 * j + l) % 1024 = l by omega]; rfl

/-! ## The edges -/

/-- The first `j` rows of sixteen edges. -/
def colsN (s : Sums F) (l : Lab16 F) (k : Nat) (g : Vec F S3072 .f32) : Nat → Vec F S3072 .f32
  | 0 => g
  | j + 1 => upd (n := 3072) (colsN s l k g j) (16 * k + 256 * j) (lkp s (shifted l (BitVec.ofNat 32 (1024 * j))))

theorem edgeT_cols (s : Sums F) (l : Lab16 F) (k : Nat) (g : Vec F S3072 .f32) : edgeT s l k g = colsN s l k g 12 := rfl

theorem lkp_shifted (s : Sums F) {l : Lab16 F} (hl : ∀ x, (l x : BitVec 32).toNat < 1024) {j : Nat} (hj : j < 12) (x : S16.Idx) :
    lkp s (shifted l (BitVec.ofNat 32 (1024 * j))) x = fAt s (1024 * j + (l x : BitVec 32).toNat) := by
  show s (nix S13312 pos13312 ![((l x : BitVec 32) + BitVec.ofNat 32 (1024 * j)).toNat]) = s (nix S13312 pos13312 ![_])
  have := hl x
  rw [BitVec.toNat_add, BitVec.toNat_ofNat, show ((l x : BitVec 32).toNat + 1024 * j % 2 ^ 32) % 2 ^ 32 = 1024 * j + (l x : BitVec 32).toNat by omega]

theorem gAt_colsN (s : Sums F) {l : Lab16 F} (hl : ∀ x, (l x : BitVec 32).toNat < 1024) {k : Nat} (hk : k < 16) (g : Vec F S3072 .f32) : ∀ j i, j ≤ 12 → i < 3072 →
    gAt (colsN s l k g j) i = if i < 256 * j ∧ 16 * k ≤ i % 256 ∧ i % 256 < 16 * k + 16 then fAt s (1024 * (i / 256) + (l (lane (i % 256 - 16 * k)) : BitVec 32).toNat) else gAt g i
  | 0, i, _, _ => by rw [if_neg (by omega)]; rfl
  | j + 1, i, hj, hi => by
    show gAt (upd (n := 3072) (colsN s l k g j) _ _) i = _
    rw [gAt_upd _ _ hi, gAt_colsN s hl hk g j i (by omega) hi]
    by_cases h1 : 16 * k + 256 * j ≤ i ∧ i < 16 * k + 256 * j + 16
    · rw [if_pos h1, if_pos (by omega), lkp_shifted s hl (by omega), show i / 256 = j by omega, show i - (16 * k + 256 * j) = i % 256 - 16 * k by omega]
    · rw [if_neg h1]; exact if_congr (by omega) rfl rfl

theorem gAt_edgeN (s : Sums F) {p : Vec F S256 .i32} (hp : ∀ i, (p i : BitVec 32).toNat < 1024) (g : Vec F S3072 .f32) : ∀ n i, n ≤ 16 → i < 3072 →
    gAt (edgeN s p g n) i = if i % 256 < 16 * n then fAt s (1024 * (i / 256) + (pAt p (i % 256)).toNat) else gAt g i
  | 0, i, _, _ => by rw [if_neg (by omega)]; rfl
  | n + 1, i, hn, hi => by
    show gAt (edgeT s (p16 p (16 * n)) n (edgeN s p g n)) i = _
    rw [edgeT_cols, gAt_colsN s (l := p16 p (16 * n)) (fun x => hp _) (show n < 16 by omega) _ 12 i (by omega) hi, gAt_edgeN s hp g n i (by omega) hi]
    by_cases h1 : i < 256 * 12 ∧ 16 * n ≤ i % 256 ∧ i % 256 < 16 * n + 16
    · rw [if_pos h1, if_pos (by omega)]
      have e : (p16 p (16 * n) (lane (i % 256 - 16 * n)) : BitVec 32) = pAt p (i % 256) := by
        show p (nix S256 pos256 ![16 * n + (lane (i % 256 - 16 * n) 0).val]) = p (nix S256 pos256 ![i % 256])
        rw [lane_val (by omega), show 16 * n + (i % 256 - 16 * n) = i % 256 by omega]
      rw [e]
    · rw [if_neg h1]; exact if_congr (by omega) rfl rfl

/-- What a tile writes out: for edge end `i % 256` of its image, channel `i / 256` of the mean of that end's segment. -/
def edgeF (f : Sums F) (p : Vec F S256 .i32) : Vec F S3072 .f32 := fun i => meanAt f ((i 0).val / 256) (pAt p ((i 0).val % 256)).toNat

theorem edgeN_mean (f : Sums F) {p : Vec F S256 .i32} (hp : ∀ i, (p i : BitVec 32).toNat < 1024) (g : Vec F S3072 .f32) :
    edgeN (meanN f 64) p g 16 = edgeF f p := by
  funext i
  have hi : (i 0).val < 3072 := (i 0).isLt
  rw [← gAt_val (edgeN (meanN f 64) p g 16) i, gAt_edgeN _ hp g 16 _ (by omega) hi, if_pos (by omega), fAt_mean f (by omega) (show (pAt p _).toNat < 1024 from hp _)]; rfl

end Cert.Proof.Pool

end
-- ==== Proof.Chunks.lean ====
/-
  A tile's copies of its image's chunks. Two pairs of buffers alternate; a pair's two copies (eight rows of labels, the
  same rows of twelve channels) are in flight on one semaphore together and are waited for one after the other.
-/
module

public import proofs.«01_k».proof.Proof.Means

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

/-! ## Which part of the inputs a tile works on -/

/-- The image of the tile at `L`, and the first of its twelve channels. -/
def bOf (L : grid0.Coords) : Nat := (2 * (L 1).val + (L 0).val) % 4
def qOf (L : grid0.Coords) : Nat := (2 * (L 1).val + (L 0).val) / 4
def c0Of (L : grid0.Coords) : Nat := 12 * qOf L

theorem off2_eq : ∀ L : grid0.Coords, k0_off2 L = ![bOf L, 0, 8 * 0, 0] := by decide +kernel
theorem off3_eq : ∀ L : grid0.Coords, k0_off3 L = ![bOf L, c0Of L, 8 * 0, 0] := by decide +kernel
theorem off6_eq : ∀ (L : grid0.Coords) (t : Fin k0_t2_loop.trips), k0_off6 L t = ![bOf L, 0, 8 * (2 * t.val + 1), 0] := by decide +kernel
theorem off7_eq : ∀ (L : grid0.Coords) (t : Fin k0_t2_loop.trips), k0_off7 L t = ![bOf L, c0Of L, 8 * (2 * t.val + 1), 0] := by decide +kernel
theorem off34_eq : ∀ (L : grid0.Coords) (t : Fin k0_t2_loop.trips), k0_off34 L t = ![bOf L, 0, 8 * (2 * (t.val + 1)), 0] := by decide +kernel
theorem off35_eq : ∀ (L : grid0.Coords) (t : Fin k0_t2_loop.trips), k0_off35 L t = ![bOf L, c0Of L, 8 * (2 * (t.val + 1)), 0] := by decide +kernel
theorem off63_eq : ∀ L : grid0.Coords, k0_off63 L = ![256 * bOf L] := by decide +kernel
theorem off89_eq : ∀ L : grid0.Coords, k0_off89 L = ![3072 * (8 * bOf L + qOf L)] := by decide +kernel
theorem cond1_true : ∀ t : Fin k0_t2_loop.trips, k0_cond1 t = 1#1 := by decide +kernel
theorem cond2_iff : ∀ t : Fin k0_t2_loop.trips, k0_cond2 t = 1#1 ↔ t.val < 23 := by decide +kernel
theorem bOf_lt (L : grid0.Coords) : bOf L < 4 := Nat.mod_lt _ (by decide)
theorem qOf_lt : ∀ L : grid0.Coords, qOf L < 8 := by decide +kernel

theorem posLab : ∀ a, 0 < S4x1x384x384.size a := by decide
theorem posX : ∀ a, 0 < S4x96x384x384.size a := by decide

/-- Chunk `ch` of image `b`'s labels, and of the twelve channels of `b` from `c0` on. -/
def labC (g : Vec F S4x1x384x384 .i32) (b ch : Nat) : LabC F := fun i => g (nix S4x1x384x384 posLab ![b, 0, 8 * ch + (i 0).val, (i 1).val])
def xC (g : Vec F S4x96x384x384 .f32) (b c0 ch : Nat) : XC F := fun i => g (nix S4x96x384x384 posX ![b, c0 + (i 0).val, 8 * ch + (i 1).val, (i 2).val])

/-- The slices the copies read. -/
abbrev srcL (off : Fin 4 → Nat) (h : ∀ a, off a + S1x1x8x384.size a ≤ S4x1x384x384.size a) : Memref sig .scVector .hbm S8x384 .i32 :=
  ((mLab).slice (Rect.unit (s := S4x1x384x384) off S1x1x8x384.size h) (fun _ => rfl)).squeeze S8x384 squeezes_S1x1x8x384_S8x384
abbrev srcX (off : Fin 4 → Nat) (h : ∀ a, off a + S1x12x8x384.size a ≤ S4x96x384x384.size a) : Memref sig .scVector .hbm S12x8x384 .f32 :=
  ((mX).slice (Rect.unit (s := S4x96x384x384) off S1x12x8x384.size h) (fun _ => rfl)).squeeze S12x8x384 squeezes_S1x12x8x384_S12x8x384

theorem read_srcL (g : Vec F S4x1x384x384 .i32) {off : Fin 4 → Nat} {h : ∀ a, off a + S1x1x8x384.size a ≤ S4x1x384x384.size a} {b ch : Nat}
    (e : off = ![b, 0, 8 * ch, 0]) : (srcL off h).view.read (Elt F) g = labC g b ch := by
  subst e; funext i
  obtain ⟨i0, i1, rfl⟩ : ∃ (i0 : Fin 8) (i1 : Fin 384), i = ix2 i0 i1 := ⟨i 0, i 1, by funext a; match a with | ⟨0, _⟩ => rfl | ⟨1, _⟩ => rfl⟩
  refine (cast_eq _ _).trans (congrArg g ?_)
  show (Rect.unit (s := S4x1x384x384) ![b, 0, 8 * ch, 0] S1x1x8x384.size h).idx (Shape.reshapeEquiv _ (ix2 i0 i1)) = _
  rw [reshapeEquiv_ix2_11ab (a := 8) (b := 384)]
  refine (nix_eq posLab _ _ fun a => ?_).symm
  match a with
  | ⟨0, _⟩ => show b + 1 * 0 = b; omega
  | ⟨1, _⟩ => rfl
  | ⟨2, _⟩ => show 8 * ch + 1 * i0.val = 8 * ch + i0.val; omega
  | ⟨3, _⟩ => show 0 + 1 * i1.val = i1.val; omega

theorem read_srcX (g : Vec F S4x96x384x384 .f32) {off : Fin 4 → Nat} {h : ∀ a, off a + S1x12x8x384.size a ≤ S4x96x384x384.size a} {b c0 ch : Nat}
    (e : off = ![b, c0, 8 * ch, 0]) : (srcX off h).view.read (Elt F) g = xC g b c0 ch := by
  subst e; funext i
  obtain ⟨i0, i1, i2, rfl⟩ : ∃ (i0 : Fin 12) (i1 : Fin 8) (i2 : Fin 384), i = ix3 i0 i1 i2 :=
    ⟨i 0, i 1, i 2, by funext a; match a with | ⟨0, _⟩ => rfl | ⟨1, _⟩ => rfl | ⟨2, _⟩ => rfl⟩
  refine (cast_eq _ _).trans (congrArg g ?_)
  show (Rect.unit (s := S4x96x384x384) ![b, c0, 8 * ch, 0] S1x12x8x384.size h).idx (Shape.reshapeEquiv _ (ix3 i0 i1 i2)) = _
  rw [reshapeEquiv_ix3_1abc (a := 12) (b := 8) (c := 384)]
  refine (nix_eq posX _ _ fun a => ?_).symm
  match a with
  | ⟨0, _⟩ => show b + 1 * 0 = b; omega
  | ⟨1, _⟩ => show c0 + 1 * i0.val = c0 + i0.val; omega
  | ⟨2, _⟩ => show 8 * ch + 1 * i1.val = 8 * ch + i1.val; omega
  | ⟨3, _⟩ => show 0 + 1 * i2.val = i2.val; omega

/-! ## A pair of copies on one semaphore -/

/-- What the two copies of a pair signal. -/
def amts (mL : Memref sig .scVector .vmem S8x384 .i32) (mXb : Memref sig .scVector .vmem S12x8x384 .f32) : Fin 2 → ℕ := ![mL.view.dmaCredit, mXb.view.dmaCredit]

theorem amts_pos (mL : Memref sig .scVector .vmem S8x384 .i32) (mXb : Memref sig .scVector .vmem S12x8x384 .f32) : ∀ t, 0 < amts mL mXb t
  | ⟨0, _⟩ => mL.view.dmaCredit_pos (by decide)
  | ⟨1, _⟩ => mXb.view.dmaCredit_pos (by decide)
theorem sum_two (mL : Memref sig .scVector .vmem S8x384 .i32) (mXb : Memref sig .scVector .vmem S12x8x384 .f32) :
    Transfers.sumTo (amts mL mXb) 2 = mL.view.dmaCredit + mXb.view.dmaCredit := by
  show 0 + mL.view.dmaCredit + mXb.view.dmaCredit = _
  rw [Nat.zero_add]

theorem bigSep_two' (D : Fin 2 → sProp (Res F)) : bigSep Finset.univ D ⊢ iprop(D 0 ∗ D 1) := by
  rw [show (Finset.univ : Finset (Fin 2)) = insert 0 {1} from by decide, SparseCore.bigSep_insert' (by decide), bigSep_singleton]

section flights

variable (d : Dev nD) (L : grid0.Coords) (g : Vec F S4x1x384x384 .i32) (gx : Vec F S4x96x384x384 .f32)

section pairs

/- A pair of buffers `mL`, `mXb` and their semaphore `sm`; `bL w` and `bX w` are the buffers' contents once `w` is written
   to all of them. -/
variable (mL : Memref sig .scVector .vmem S8x384 .i32) (mXb : Memref sig .scVector .vmem S12x8x384 .f32) (sm : DmaSem sig)
variable (bL : LabC F → Buf (Elt F) (mL.view.loc (thr d L))) (bX : XC F → Buf (Elt F) (mXb.view.loc (thr d L)))
variable (hbL : ∀ f w, mL.view.write (Elt F) f w Finset.univ = bL w) (hbX : ∀ f w, mXb.view.write (Elt F) f w Finset.univ = bX w)

/-- What the two copies of chunk `ch` leave: the buffers holding it, and the shares of the inputs they read. -/
def deliv (q : PosShare TreeShare) (S : Finset (Idx ((mLab).view.loc (thr d L)))) (T : Finset (Idx ((mX).view.loc (thr d L)))) (ch : Nat) : Fin 2 → sProp (Res F)
  | ⟨0, _⟩ => iprop((mL.view.loc (thr d L) ↦{fullShare} bL (labC g (bOf L) ch)) ∗ ((mLab).view.loc (thr d L) ↦[S]{q} g))
  | ⟨1, _⟩ => iprop((mXb.view.loc (thr d L) ↦{fullShare} bX (xC gx (bOf L) (c0Of L) ch)) ∗ ((mX).view.loc (thr d L) ↦[T]{q} gx))

instance deliv_storable (q S T ch) : ∀ t, Storable (upEmb : UEmb _ (Res F)) (deliv d L g gx mL mXb bL bX q S T ch t)
  | ⟨0, _⟩ => (inferInstance : Storable (upEmb : UEmb _ (Res F)) iprop((mL.view.loc (thr d L) ↦{fullShare} bL (labC g (bOf L) ch)) ∗ ((mLab).view.loc (thr d L) ↦[S]{q} g)))
  | ⟨1, _⟩ => (inferInstance : Storable (upEmb : UEmb _ (Res F)) iprop((mXb.view.loc (thr d L) ↦{fullShare} bX (xC gx (bOf L) (c0Of L) ch)) ∗ ((mX).view.loc (thr d L) ↦[T]{q} gx)))

/-- The pair at rest: its semaphore at zero, its buffers held, the shares of the inputs whole. -/
def rest (q : PosShare TreeShare) (fl : Buf (Elt F) (mL.view.loc (thr d L))) (fx : Buf (Elt F) (mXb.view.loc (thr d L))) : sProp (Res F) :=
  iprop(semVal (thr d L, SemLoc.dma sm) 0 ∗ (mL.view.loc (thr d L) ↦{fullShare} fl) ∗ (mXb.view.loc (thr d L) ↦{fullShare} fx)
    ∗ ((mLab).view.loc (thr d L) ↦{q} g) ∗ ((mX).view.loc (thr d L) ↦{q} gx))

/-- The pair's two copies of chunk `ch` in flight. -/
def fly (q : PosShare TreeShare) (ch : Nat) : sProp (Res F) :=
  iprop(∃ S, ∃ T, Transfers.MixedBatch (countersEmb (U := UU)) (thr d L) (.dma sm) (default : HIx 1) (amts mL mXb) (deliv d L g gx mL mXb bL bX q S T ch) 2 0
    ∗ ((mLab).view.loc (thr d L) ↦[Finset.univ \ S]{q} g) ∗ ((mX).view.loc (thr d L) ↦[Finset.univ \ T]{q} gx))

include hbL hbX in
set_option maxHeartbeats 1000000 in
theorem start {q : PosShare TreeShare} {fl : Buf (Elt F) (mL.view.loc (thr d L))} {fx : Buf (Elt F) (mXb.view.loc (thr d L))} {offL offX : Fin 4 → Nat}
    {hL : ∀ a, offL a + S1x1x8x384.size a ≤ S4x1x384x384.size a} {hX : ∀ a, offX a + S1x12x8x384.size a ≤ S4x96x384x384.size a} {ch : Nat}
    {w1 w2 w3 w4 w5 w6} {α : Type} {k : PUnit → Prog (TpuEff nD τ sig (Elt F) Λ₀ (.scVector (cV L) (jV L))) α} {Q : α → sProp (Res F)}
    (eL : offL = ![bOf L, 0, 8 * ch, 0]) (eX : offX = ![bOf L, c0Of L, 8 * ch, 0]) :
    rest d L g gx mL mXb sm q fl fx
      ⊢ iprop((fly d L g gx mL mXb sm bL bX q ch -∗ wp frame (wpE (defs₀ (F := F)) 𝒱₀ (thr d L) none) Set.univ (k ⟨⟩) Q)
        -∗ wp frame (wpE (defs₀ (F := F)) 𝒱₀ (thr d L) none) Set.univ
            (.op (.enqueueDma (srcL offL hL) (.here mL) (.dma sm) w1 w2 w3) fun _ =>
              .op (.enqueueDma (srcX offX hX) (.here mXb) (.dma sm) w4 w5 w6) k) Q) := by
  unfold rest fly
  iintro ⟨Hsem, Hl, Hx, Hg, Hgx⟩ Hk
  ihave Hg' := (pointsTo_split_subset (q := q) (f := g) (S := (Finset.univ : Finset (Idx ((mLab).view.loc (thr d L))))) (Finset.subset_univ (srcL offL hL).view.set)).1 $$ Hg
  ihave Hgx' := (pointsTo_split_subset (q := q) (f := gx) (S := (Finset.univ : Finset (Idx ((mX).view.loc (thr d L))))) (Finset.subset_univ (srcX offX hX).view.set)).1 $$ Hgx
  icases Hg' with ⟨Hg1, Hg2⟩
  icases Hgx' with ⟨Hx1, Hx2⟩
  imod (Transfers.mixedBatch_alloc' (Lvl := ℕ) (countersEmb (U := UU)) (thr d L) (default : HIx 1) (amts mL mXb)
    (deliv d L g gx mL mXb bL bX q (srcL offL hL).view.set (srcX offX hX).view.set ch) (sm := .dma sm) (E := Set.univ)) $$ Hsem with HB
  iapply (Transfers.wp_dmaMixedBatch (countersEmb (U := UU)) 𝒱₀ (thr d L) none (src := srcL offL hL) (dst := mL) (Sd := Finset.univ) (fd := fl) (fs := g) (q := q) (default : HIx 1) (amts mL mXb)
    (D := deliv d L g gx mL mXb bL bX q (srcL offL hL).view.set (srcX offX hX).view.set ch) (Finset.subset_univ _) (show 0 < 2 by decide) rfl (Nat.zero_le _) ?hD) $$ [Hg1 Hl HB]
  case hD =>
    show _ ⊢ iprop((mL.view.loc (thr d L) ↦{fullShare} bL (labC g (bOf L) ch)) ∗ _)
    rw [← read_srcL g (h := hL) eL]
    exact Entails.of_eq (by rw [← hbL fl])
  · isplitl [Hg1]; · iexact Hg1
    isplitl [Hl]; · iexact Hl
    iexact HB
  iintro HB
  iapply (Transfers.wp_dmaMixedBatch (countersEmb (U := UU)) 𝒱₀ (thr d L) none (src := srcX offX hX) (dst := mXb) (Sd := Finset.univ) (fd := fx) (fs := gx) (q := q) (default : HIx 1) (amts mL mXb)
    (D := deliv d L g gx mL mXb bL bX q (srcL offL hL).view.set (srcX offX hX).view.set ch) (Finset.subset_univ _) (show 1 < 2 by decide) rfl (Nat.zero_le _) ?hD2) $$ [Hx1 Hx HB]
  case hD2 =>
    show _ ⊢ iprop((mXb.view.loc (thr d L) ↦{fullShare} bX (xC gx (bOf L) (c0Of L) ch)) ∗ _)
    rw [← read_srcX gx (h := hX) eX]
    exact Entails.of_eq (by rw [← hbX fx])
  · isplitl [Hx1]; · iexact Hx1
    isplitl [Hx]; · iexact Hx
    iexact HB
  iintro HB
  iapply Hk
  iexists (srcL offL hL).view.set, (srcX offX hX).view.set
  isplitl [HB]; · iexact HB
  isplitl [Hg2]; · iexact Hg2
  iexact Hx2

set_option maxHeartbeats 1000000 in
theorem drain {q : PosShare TreeShare} {ch : Nat} {O : CellTallies nD τ sig (HIx 1)} {W : Waits sig (HIx 1)}
    {sp1 sp2 : Space} {sh1 sh2 : Shape} {e1 e2 : EltTy} {sL : Memref sig .scVector sp1 sh1 e1} {sX : Memref sig .scVector sp2 sh2 e2}
    {w1 w2 w3 w4} {α : Type} {k : PUnit → Prog (TpuEff nD τ sig (Elt F) Λ₀ (.scVector (cV L) (jV L))) α} {Q : α → sProp (Res F)} :
    (iprop(Transfers.MayWaits (thr d L) (default : HIx 1) O ∗ fly d L g gx mL mXb sm bL bX q ch ∗ owes (thr d L) O W) : sProp (Res F))
      ⊢ iprop(((rest d L g gx mL mXb sm q (bL (labC g (bOf L) ch)) (bX (xC gx (bOf L) (c0Of L) ch))
            ∗ (∃ W', ⌜∀ p ∈ W', p ∈ W ∨ p.2 = none⌝ ∗ owes (thr d L) O W'))
          -∗ wp frame (wpE (defs₀ (F := F)) 𝒱₀ (thr d L) none) Set.univ (k ⟨⟩) Q)
        -∗ wp frame (wpE (defs₀ (F := F)) 𝒱₀ (thr d L) none) Set.univ
            (.op (.waitDma2 sm sL mL w1 w2) fun _ =>
              .op (.waitDma2 sm sX mXb w3 w4) k) Q) := by
  unfold rest fly
  iintro ⟨#Hmw, ⟨%S, %T, HB, Hg2, Hx2⟩, Ho⟩ Hk
  ihave Hm1 := (Transfers.MayWaits.elim (SemLoc.dma sm)) $$ Hmw
  ihave Hm2 := (Transfers.MayWaits.elim (SemLoc.dma sm)) $$ Hmw
  iapply (Transfers.wp_waitMixedBatchO (countersEmb (U := UU)) 𝒱₀ (thr d L) none (default : HIx 1) (A := (amts mL mXb))
    (D := deliv d L g gx mL mXb bL bX q S T ch) (j := 2) (u := 0) (J := mL.view.dmaCredit) rfl (by rw [sum_two, Nat.zero_add]; exact Nat.le_add_right _ _)) $$ [HB Ho Hm1]
  · isplitl [HB]; · iexact HB
    isplitl [Ho]; · iexact Ho
    iexact Hm1
  iintro ⟨HB, Ho⟩
  iapply (Transfers.wp_waitMixedBatchAllO (countersEmb (U := UU)) 𝒱₀ (thr d L) none (default : HIx 1) (A := (amts mL mXb))
    (D := deliv d L g gx mL mXb bL bX q S T ch) (u := 0 + mL.view.dmaCredit) (J := mXb.view.dmaCredit) rfl (amts_pos mL mXb) (by rw [sum_two, Nat.zero_add])) $$ [HB Ho Hm2]
  · isplitl [HB]; · iexact HB
    isplitl [Ho]; · iexact Ho
    iexact Hm2
  iintro ⟨HD, Hs, Ho⟩
  ihave HD' := (bigSep_two' (fun t => deliv d L g gx mL mXb bL bX q S T ch t)) $$ HD
  icases HD' with ⟨HD0, HD1⟩
  ihave HD0' := (show deliv d L g gx mL mXb bL bX q S T ch 0 ⊢ iprop((mL.view.loc (thr d L) ↦{fullShare} bL (labC g (bOf L) ch)) ∗ ((mLab).view.loc (thr d L) ↦[S]{q} g)) from .rfl) $$ HD0
  ihave HD1' := (show deliv d L g gx mL mXb bL bX q S T ch 1 ⊢ iprop((mXb.view.loc (thr d L) ↦{fullShare} bX (xC gx (bOf L) (c0Of L) ch)) ∗ ((mX).view.loc (thr d L) ↦[T]{q} gx)) from .rfl) $$ HD1
  icases HD0' with ⟨Hl, Hg1⟩
  icases HD1' with ⟨Hx, Hx1⟩
  iapply Hk
  isplitr [Ho]
  · isplitl [Hs]; · iexact Hs
    isplitl [Hl]; · iexact Hl
    isplitl [Hx]; · iexact Hx
    isplitl [Hg1 Hg2]
    · iapply (pointsTo_split_subset (q := q) (f := g) (S := (Finset.univ : Finset (Idx ((mLab).view.loc (thr d L))))) (Finset.subset_univ S)).2
      isplitl [Hg1]; · iexact Hg1
      iexact Hg2
    · iapply (pointsTo_split_subset (q := q) (f := gx) (S := (Finset.univ : Finset (Idx ((mX).view.loc (thr d L))))) (Finset.subset_univ T)).2
      isplitl [Hx1]; · iexact Hx1
      iexact Hx2
  · iexists (insert (SemLoc.dma sm, (default : HIx 1)) (insert (SemLoc.dma sm, (default : HIx 1)) W))
    isplitr [Ho]
    · ipureintro
      intro p hp
      rcases Finset.mem_insert.mp hp with rfl | hp
      · exact .inr rfl
      rcases Finset.mem_insert.mp hp with rfl | hp
      · exact .inr rfl
      · exact .inl hp
    · iexact Ho

end pairs

/-- The kernel's two pairs. -/
abbrev rest0 := rest (F := F) d L g gx mL0 mX0 cc0_scratch9.sem
abbrev rest1 := rest (F := F) d L g gx mL1 mX1 cc0_scratch10.sem
abbrev fly0 := fly (F := F) d L g gx mL0 mX0 cc0_scratch9.sem (fun w => w) (fun w => w)
abbrev fly1 := fly (F := F) d L g gx mL1 mX1 cc0_scratch10.sem (fun w => w) (fun w => w)

theorem write_L0 (f w : LabC F) : (mL0).view.write (Elt F) f w Finset.univ = w := View.write_whole_univ (Val := Elt F) cc0_scratch1 f w
theorem write_L1 (f w : LabC F) : (mL1).view.write (Elt F) f w Finset.univ = w := View.write_whole_univ (Val := Elt F) cc0_scratch2 f w
theorem write_X0 (f w : XC F) : (mX0).view.write (Elt F) f w Finset.univ = w := View.write_whole_univ (Val := Elt F) cc0_scratch3 f w
theorem write_X1 (f w : XC F) : (mX1).view.write (Elt F) f w Finset.univ = w := View.write_whole_univ (Val := Elt F) cc0_scratch4 f w

/-! ## The chunk loop -/

/-- The sums after the first `n` chunks. -/
def sumN (g : Vec F S4x1x384x384 .i32) (gx : Vec F S4x96x384x384 .f32) (b c0 : Nat) (f : Sums F) : Nat → Sums F
  | 0 => f
  | n + 1 => chunkF (sumN g gx b c0 f n) (labC g b n) (xC gx b c0 n)

/-- The first pair before trip `n`: chunk `2 n` in flight, or after the last trip at rest. -/
def pair0 (q : PosShare TreeShare) (n : Nat) : sProp (Res F) :=
  if n < 24 then fly0 d L g gx q (2 * n) else iprop(∃ fl, ∃ fx, rest0 d L g gx q fl fx)

theorem pair0_fly {q : PosShare TreeShare} {n : Nat} (h : n < 24) : pair0 d L g gx q n = fly0 d L g gx q (2 * n) := if_pos h
theorem pair0_rest {q : PosShare TreeShare} {n : Nat} (h : ¬ n < 24) : pair0 d L g gx q n = iprop(∃ fl, ∃ fx, rest0 d L g gx q fl fx) := if_neg h

/-- What holds before trip `n`. -/
def t2_inv (O : CellTallies nD τ sig (HIx 1)) (W : Waits sig (HIx 1)) (q0 q1 : PosShare TreeShare) (f : Sums F) (n : Nat) : sProp (Res F) :=
  iprop(Transfers.MayWaits (thr d L) (default : HIx 1) O ∗ ((mS).view.loc (thr d L) ↦{fullShare} sumN g gx (bOf L) (c0Of L) f (2 * n)) ∗ pair0 d L g gx q0 n
    ∗ (∃ fl, ∃ fx, rest1 d L g gx q1 fl fx) ∗ (∃ W', ⌜∀ p ∈ W', p ∈ W ∨ p.2 = none⌝ ∗ owes (thr d L) O W'))

/-- The waits a wait adds keep to those allowed. -/
theorem waits_trans {W W' W'' : Waits sig (HIx 1)} (h : ∀ p ∈ W', p ∈ W ∨ p.2 = none) (h' : ∀ p ∈ W'', p ∈ W' ∨ p.2 = none) :
    ∀ p ∈ W'', p ∈ W ∨ p.2 = none := fun p hp => (h' p hp).elim (h p) .inr

set_option maxHeartbeats 4000000 in
theorem t2_step (hl : ∀ i, (g i : BitVec 32).toNat < 1024) (O : CellTallies nD τ sig (HIx 1)) (W : Waits sig (HIx 1)) (q0 q1 : PosShare TreeShare) (f : Sums F)
    (v11 v29 : BitVec 32) (t : Fin k0_t2_loop.trips) :
    t2_inv d L g gx O W q0 q1 f t.val
      ⊢ wp frame (wpE (defs₀ (F := F)) 𝒱₀ (thr d L) none) Set.univ
          (k0_t2_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones t ⟨⟩)
          fun _ => t2_inv d L g gx O W q0 q1 f (t.val + 1) := by
  have ht : t.val < 24 := Nat.lt_of_lt_of_le t.isLt (show k0_t2_loop.trips ≤ 24 by decide)
  have e1 : sumN g gx (bOf L) (c0Of L) f (2 * t.val + 1) = chunkF (sumN g gx (bOf L) (c0Of L) f (2 * t.val)) (labC g (bOf L) (2 * t.val)) (xC gx (bOf L) (c0Of L) (2 * t.val)) := rfl
  have e2 : sumN g gx (bOf L) (c0Of L) f (2 * (t.val + 1)) = chunkF (sumN g gx (bOf L) (c0Of L) f (2 * t.val + 1)) (labC g (bOf L) (2 * t.val + 1)) (xC gx (bOf L) (c0Of L) (2 * t.val + 1)) := rfl
  have hla : ∀ ch i, (labC g (bOf L) ch i : BitVec 32).toNat < 1024 := fun ch i => hl _
  unfold k0_t2_body t2_inv
  rw [pair0_fly d L g gx ht, e2, e1]
  simp only [k0_part9_eq_skeleton]
  unfold k0_part9_skel
  simp only [dif_pos (cond1_true t)]
  by_cases h2 : k0_cond2 t = 1#1
  all_goals simp only [h2, dif_pos, dif_neg, not_false_eq_true, Prog.lift, Prog.bind_op, Prog.bind_ret, Prog.pure_eq_ret, bind_assoc]
  all_goals iintro ⟨#Hmw, Hs, H0, ⟨%fl, %fx, H1⟩, %W1, %hW1, Ho⟩
  all_goals iapply (drain d L g gx mL0 mX0 cc0_scratch9.sem (fun w => w) (fun w => w)) $$ [H0 Ho]
  all_goals first
    | (isplitr; · iexact Hmw
       isplitl [H0]; · iexact H0
       iexact Ho)
    | skip
  all_goals iintro ⟨H0, %W2, %hW2, Ho⟩
  all_goals iapply (start d L g gx mL1 mX1 cc0_scratch10.sem (fun w => w) (fun w => w) write_L1 write_X1 (off6_eq L t) (off7_eq L t)) $$ H1
  all_goals iintro H1
  all_goals unfold rest
  all_goals icases H0 with ⟨Hm0, Hl0, Hx0, Hg0, Hgx0⟩
  all_goals iapply (t3_rows d L _ _ _ (hla (2 * t.val)) _ _ t) $$ [Hs Hl0 Hx0]
  all_goals first
    | (isplitl [Hs]; · iexact Hs
       isplitl [Hl0]; · iexact Hl0
       iexact Hx0)
    | skip
  all_goals iintro %acc ⟨Hs, Hl0, Hx0⟩
  all_goals iapply (drain d L g gx mL1 mX1 cc0_scratch10.sem (fun w => w) (fun w => w)) $$ [H1 Ho]
  all_goals first
    | (isplitr; · iexact Hmw
       isplitl [H1]; · iexact H1
       iexact Ho)
    | skip
  all_goals iintro ⟨H1, %W3, %hW3, Ho⟩
  · have h3 : t.val + 1 < 24 := by have := (cond2_iff t).1 h2; omega
    rw [pair0_fly d L g gx h3]
    iapply (start d L g gx mL0 mX0 cc0_scratch9.sem (fun w => w) (fun w => w) write_L0 write_X0 (off34_eq L t) (off35_eq L t)) $$ [Hm0 Hl0 Hx0 Hg0 Hgx0]
    · unfold rest
      isplitl [Hm0]; · iexact Hm0
      isplitl [Hl0]; · iexact Hl0
      isplitl [Hx0]; · iexact Hx0
      isplitl [Hg0]; · iexact Hg0
      iexact Hgx0
    iintro H0
    unfold rest1 rest
    icases H1 with ⟨Hm1, Hl1, Hx1, Hg1, Hgx1⟩
    iapply (t5_rows d L _ _ _ (hla (2 * t.val + 1)) _ _) $$ [Hs Hl1 Hx1]
    · isplitl [Hs]; · iexact Hs
      isplitl [Hl1]; · iexact Hl1
      iexact Hx1
    iintro %acc ⟨Hs, Hl1, Hx1⟩
    iapply (wp_ret_intro Set.univ _)
    isplitr; · iexact Hmw
    isplitl [Hs]; · iexact Hs
    isplitl [H0]; · iexact H0
    isplitl [Hm1 Hl1 Hx1 Hg1 Hgx1]
    · iexists _, _
      isplitl [Hm1]; · iexact Hm1
      isplitl [Hl1]; · iexact Hl1
      isplitl [Hx1]; · iexact Hx1
      isplitl [Hg1]; · iexact Hg1
      iexact Hgx1
    iexists W3
    isplitr; · ipureintro; exact waits_trans (waits_trans hW1 hW2) hW3
    iexact Ho
  · have h3 : ¬ t.val + 1 < 24 := by have := (cond2_iff t).not.1 h2; omega
    rw [pair0_rest d L g gx h3]
    unfold rest1 rest
    icases H1 with ⟨Hm1, Hl1, Hx1, Hg1, Hgx1⟩
    iapply (t5_rows d L _ _ _ (hla (2 * t.val + 1)) _ _) $$ [Hs Hl1 Hx1]
    · isplitl [Hs]; · iexact Hs
      isplitl [Hl1]; · iexact Hl1
      iexact Hx1
    iintro %acc ⟨Hs, Hl1, Hx1⟩
    iapply (wp_ret_intro Set.univ _)
    isplitr; · iexact Hmw
    isplitl [Hs]; · iexact Hs
    isplitl [Hm0 Hl0 Hx0 Hg0 Hgx0]
    · unfold rest0 rest
      iexists _, _
      isplitl [Hm0]; · iexact Hm0
      isplitl [Hl0]; · iexact Hl0
      isplitl [Hx0]; · iexact Hx0
      isplitl [Hg0]; · iexact Hg0
      iexact Hgx0
    isplitl [Hm1 Hl1 Hx1 Hg1 Hgx1]
    · iexists _, _
      isplitl [Hm1]; · iexact Hm1
      isplitl [Hl1]; · iexact Hl1
      isplitl [Hx1]; · iexact Hx1
      isplitl [Hg1]; · iexact Hg1
      iexact Hgx1
    iexists W3
    isplitr; · ipureintro; exact waits_trans (waits_trans hW1 hW2) hW3
    iexact Ho

set_option maxHeartbeats 4000000 in
/-- The chunk loop, at the head of a program. -/
theorem t2_loop (hl : ∀ i, (g i : BitVec 32).toNat < 1024) (O : CellTallies nD τ sig (HIx 1)) (W : Waits sig (HIx 1)) (q0 q1 : PosShare TreeShare) (f : Sums F)
    (v11 v29 : BitVec 32) {β : Type} {kk : Unit → Prog (TpuEff nD τ sig (Elt F) Λ₀ (.scVector (cV L) (jV L))) β} {Q : β → sProp (Res F)} :
    t2_inv d L g gx O W q0 q1 f 0
      ⊢ iprop((∀ acc, t2_inv d L g gx O W q0 q1 f k0_t2_loop.trips
            -∗ wp frame (wpE (defs₀ (F := F)) 𝒱₀ (thr d L) none) Set.univ (kk acc) Q)
        -∗ wp frame (wpE (defs₀ (F := F)) 𝒱₀ (thr d L) none) Set.univ
            (Scf.Loop.for k0_t2_loop k0_t2_ok ⟨⟩ (k0_t2_body L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3 v11 v29 ones) >>= kk) Q) :=
  Scf.wp_for_bind frame (wpE (defs₀ (F := F)) 𝒱₀ (thr d L) none) Set.univ _ _ _ k0_t2_ok _ _
    (fun n _ => t2_inv d L g gx O W q0 q1 f n) (fun k _ => t2_step d L g gx hl O W q0 q1 f v11 v29 k)

theorem t2_trips : k0_t2_loop.trips = 24 := by decide

end flights

end Cert.Proof.Pool

end
-- ==== Proof.Tile.lean ====
/-
  One tile's task: what it writes to its block of the two outputs, whatever the floats are.
-/
module

public import proofs.«01_k».proof.Proof.Closed
public import proofs.«01_k».proof.Proof.Chunks

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

/-! ## What the outputs hold -/

theorem pos1024 : ∀ a, 0 < S1024.size a := by decide

/-- Image `b`'s edge ends. -/
def edC (e : Vec F S1024 .i32) (b : Nat) : Vec F S256 .i32 := fun i => e (nix S1024 pos1024 ![256 * b + (i 0).val])

/-- The sums and counts of image `b`, channels `c0` to `c0 + 11`. -/
def tableF (g : Vec F S4x1x384x384 .i32) (gx : Vec F S4x96x384x384 .f32) (b c0 : Nat) : Sums F := sumN g gx b c0 (fun _ => zc) 48

/-- An output: 32 blocks, block `8 b + q` for image `b`, channels `12 q` to `12 q + 11`. -/
def outG (g : Vec F S4x1x384x384 .i32) (gx : Vec F S4x96x384x384 .f32) (e : Vec F S1024 .i32) : Vec F S98304 .f32 := fun i =>
  edgeF (tableF g gx ((i 0).val / 24576) (12 * ((i 0).val / 3072 % 8))) (edC e ((i 0).val / 24576)) (nix S3072 pos3072 ![(i 0).val % 3072])

/-- The positions of block `k`. -/
def blk (k : Nat) : Finset S98304.Idx := Finset.univ.filter fun i => (i 0).val / 3072 = k

/-- The number of the block that the tile at `L` writes. -/
def kOf (L : grid0.Coords) : Nat := 8 * bOf L + qOf L

/-- A block of an output and a piece of the edge ends, as the task addresses them. -/
abbrev sliceO (m : Memref sig .scVector .hbm S98304 .f32) (L : grid0.Coords) : Memref sig .scVector .hbm S3072 .f32 :=
  m.slice (Rect.unit (s := S98304) (k0_off89 L) S3072.size (k0_off89_inb L)) (fun _ => rfl)
abbrev sliceE (m : Memref sig .scVector .hbm S1024 .i32) (L : grid0.Coords) : Memref sig .scVector .hbm S256 .i32 :=
  m.slice (Rect.unit (s := S1024) (k0_off63 L) S256.size (k0_off63_inb L)) (fun _ => rfl)

theorem emb_rect (L : grid0.Coords) (j : S3072.Idx) :
    (((Rect.unit (s := S98304) (k0_off89 L) S3072.size (k0_off89_inb L)).idx j) 0).val = 3072 * kOf L + (j 0).val := by
  show k0_off89 L 0 + 1 * (j 0).val = _
  rw [off89_eq L]; show 3072 * (8 * bOf L + qOf L) + 1 * (j 0).val = _
  unfold kOf; omega

theorem set_rect (L : grid0.Coords) : (Rect.unit (s := S98304) (k0_off89 L) S3072.size (k0_off89_inb L)).set = blk (kOf L) := by
  ext i
  have e : (k0_off89 L) 0 = 3072 * kOf L := by rw [off89_eq L]; rfl
  rw [LoadRect.mem_set]
  constructor
  · intro h
    obtain ⟨j, hj, h⟩ := h 0
    refine Finset.mem_filter.mpr ⟨Finset.mem_univ _, ?_⟩
    have h' : (i 0).val = (k0_off89 L) 0 + 1 * j := h
    have hj' : j < 3072 := hj
    omega
  · intro h a
    have h' := (Finset.mem_filter.mp h).2
    match a with
    | ⟨0, _⟩ =>
      refine ⟨(i 0).val % 3072, Nat.mod_lt _ (Nat.succ_pos _), ?_⟩
      show (i 0).val = (k0_off89 L) 0 + 1 * ((i 0).val % 3072)
      omega

theorem set_sliceOa (L : grid0.Coords) : (sliceO mOa L).view.set = blk (kOf L) := by
  refine Eq.trans ?_ (set_rect L)
  show ((View.whole main_v9_0_scv).slice _).set = _
  rw [View.set_slice]; exact Finset.map_refl
theorem set_sliceOb (L : grid0.Coords) : (sliceO mOb L).view.set = blk (kOf L) := by
  refine Eq.trans ?_ (set_rect L)
  show ((View.whole main_v9_1_scv).slice _).set = _
  rw [View.set_slice]; exact Finset.map_refl

/-- The block's part of the output is the tile's own. -/
theorem outG_block (g : Vec F S4x1x384x384 .i32) (gx : Vec F S4x96x384x384 .f32) (e : Vec F S1024 .i32) (L : grid0.Coords) (j : S3072.Idx) :
    outG g gx e ((Rect.unit (s := S98304) (k0_off89 L) S3072.size (k0_off89_inb L)).idx j) = edgeF (tableF g gx (bOf L) (c0Of L)) (edC e (bOf L)) j := by
  unfold outG
  rw [emb_rect L j]
  have hj : (j 0).val < 3072 := (j 0).isLt
  have hq := qOf_lt L
  unfold kOf c0Of
  rw [show (3072 * (8 * bOf L + qOf L) + (j 0).val) / 24576 = bOf L by omega, show (3072 * (8 * bOf L + qOf L) + (j 0).val) / 3072 % 8 = qOf L by omega]
  congr 1
  refine nix_eq pos3072 _ _ fun a => ?_
  match a with
  | ⟨0, _⟩ => show (j 0).val = (3072 * (8 * bOf L + qOf L) + (j 0).val) % 3072; omega

theorem write_sliceOa (L : grid0.Coords) (f : Vec F S98304 .f32) (w : Vec F S3072 .f32) (h : Vec F S98304 .f32)
    (hw : ∀ j, w j = h ((Rect.unit (s := S98304) (k0_off89 L) S3072.size (k0_off89_inb L)).idx j)) :
    ∀ i ∈ (sliceO mOa L).view.set, (sliceO mOa L).view.write (Elt F) f w Finset.univ i = h i := by
  intro i hi
  obtain ⟨j, -, rfl⟩ := Finset.mem_map.mp hi
  exact (View.write_emb_of_mem (v := (sliceO mOa L).view) (Val := Elt F) f w (Finset.mem_univ j)).trans (hw j)
theorem write_sliceOb (L : grid0.Coords) (f : Vec F S98304 .f32) (w : Vec F S3072 .f32) (h : Vec F S98304 .f32)
    (hw : ∀ j, w j = h ((Rect.unit (s := S98304) (k0_off89 L) S3072.size (k0_off89_inb L)).idx j)) :
    ∀ i ∈ (sliceO mOb L).view.set, (sliceO mOb L).view.write (Elt F) f w Finset.univ i = h i := by
  intro i hi
  obtain ⟨j, -, rfl⟩ := Finset.mem_map.mp hi
  exact (View.write_emb_of_mem (v := (sliceO mOb L).view) (Val := Elt F) f w (Finset.mem_univ j)).trans (hw j)

theorem read_sliceE (e : Vec F S1024 .i32) (L : grid0.Coords) (j : S256.Idx) :
    e ((Rect.unit (s := S1024) (k0_off63 L) S256.size (k0_off63_inb L)).idx j) = edC e (bOf L) j := by
  refine congrArg e ((nix_eq pos1024 _ _ fun a => ?_).symm)
  match a with
  | ⟨0, _⟩ =>
    show k0_off63 L 0 + 1 * (j 0).val = _
    rw [off63_eq L]; show 256 * bOf L + 1 * (j 0).val = 256 * bOf L + (j 0).val; omega

theorem read_sliceEa (e : Vec F S1024 .i32) (L : grid0.Coords) : (sliceE mEa L).view.read (Elt F) e = edC e (bOf L) :=
  funext fun j => (cast_eq _ _).trans (read_sliceE e L j)
theorem read_sliceEb (e : Vec F S1024 .i32) (L : grid0.Coords) : (sliceE mEb L).view.read (Elt F) e = edC e (bOf L) :=
  funext fun j => (cast_eq _ _).trans (read_sliceE e L j)

/-! ## A copy and its wait -/

/-- The waits made so far. -/
def owed (thr : Thread nD τ) (O : CellTallies nD τ sig (HIx 1)) (W : Waits sig (HIx 1)) : sProp (Res F) :=
  iprop(∃ W', ⌜∀ p ∈ W', p ∈ W ∨ p.2 = none⌝ ∗ owes thr O W')

/-- A copy waited for at once. -/
theorem copy_wait {thr : Thread nD τ} {sp sp' : Space} {s : Shape} {e : EltTy} {src : Memref sig thr.2.kind sp s e} {dst : Memref sig thr.2.kind sp' s e} {sm : DmaSem sig}
    {w1 w2 w3 w4 w5} {α : Type} {k : PUnit → Prog (TpuEff nD τ sig (Elt F) Λ₀ thr.2) α} {Q : α → sProp (Res F)} {q : PosShare TreeShare}
    {fs : Buf (Elt F) (src.view.loc thr)} {Sd : Finset (Idx (dst.view.loc thr))} {fd : Buf (Elt F) (dst.view.loc thr)}
    {O : CellTallies nD τ sig (HIx 1)} {W : Waits sig (HIx 1)} (h0 : 0 < s.numel) (hSd : dst.view.set ⊆ Sd) :
    (iprop(Transfers.MayWaits thr (default : HIx 1) O ∗ (src.view.loc thr ↦{q} fs) ∗ (dst.view.loc thr ↦[Sd]{fullShare} fd) ∗ semVal (thr, SemLoc.dma sm) 0
        ∗ owed thr O W) : sProp (Res F))
      ⊢ iprop((((src.view.loc thr ↦{q} fs) ∗ (dst.view.loc thr ↦[Sd]{fullShare} dst.view.write (Elt F) fd (src.view.read (Elt F) fs) Finset.univ)
            ∗ semVal (thr, SemLoc.dma sm) 0 ∗ owed thr O W) -∗ wp frame (wpE (defs₀ (F := F)) 𝒱₀ thr none) Set.univ (k ⟨⟩) Q)
        -∗ wp frame (wpE (defs₀ (F := F)) 𝒱₀ thr none) Set.univ
            (.op (.enqueueDma src (.here dst) (.dma sm) w1 w2 w3) fun _ => .op (.waitDma2 sm src dst w4 w5) k) Q) := by
  unfold owed
  iintro ⟨#Hmw, Hs, Hd, Hm, %W1, %hW1, Ho⟩ Hk
  ihave Hm1 := (Transfers.MayWaits.elim (SemLoc.dma sm)) $$ Hmw
  ihave Hs' := (pointsTo_split_subset (q := q) (f := fs) (S := (Finset.univ : Finset (Idx (src.view.loc thr)))) (Finset.subset_univ src.view.set)).1 $$ Hs
  icases Hs' with ⟨Hs1, Hs2⟩
  iapply (Transfers.wp_dmaLocal (countersEmb (U := UU)) 𝒱₀ thr none (src := src) (dst := dst) (Sd := Sd) (fd := fd) (fs := fs) (q := q) (default : HIx 1)
    dst.view.dmaCredit rfl (dst.view.dmaCredit_pos h0) hSd) $$ [Hs1 Hd Hm]
  · isplitl [Hs1]; · iexact Hs1
    isplitl [Hd]; · iexact Hd
    iexact Hm
  iintro Hf
  iapply (Transfers.wp_waitLocalO (countersEmb (U := UU)) 𝒱₀ thr none (default : HIx 1) (N := dst.view.dmaCredit) rfl) $$ [Hf Ho Hm1]
  · isplitl [Hf]; · iexact Hf
    isplitl [Ho]; · iexact Ho
    iexact Hm1
  iintro ⟨⟨Hd, Hs1⟩, Hm, Ho⟩
  iapply Hk
  isplitl [Hs1 Hs2]
  · iapply (pointsTo_split_subset (q := q) (f := fs) (S := (Finset.univ : Finset (Idx (src.view.loc thr)))) (Finset.subset_univ src.view.set)).2
    isplitl [Hs1]; · iexact Hs1
    iexact Hs2
  isplitl [Hd]; · iexact Hd
  isplitl [Hm]; · iexact Hm
  iexists (insert (SemLoc.dma sm, (default : HIx 1)) W1)
  isplitr
  · ipureintro
    intro p hp
    rcases Finset.mem_insert.mp hp with rfl | hp
    · exact .inr rfl
    · exact hW1 p hp
  iexact Ho

/-! ## The task -/

section task

variable (d : Dev nD) (L : grid0.Coords) (g : Vec F S4x1x384x384 .i32) (gx : Vec F S4x96x384x384 .f32) (ea eb : Vec F S1024 .i32)

/-- The inputs as a tile reads them: shares `q0`, `q1` of the labels and features for its two pairs of buffers, `qe` of the edge ends. -/
def ins (q0 q1 qe : PosShare TreeShare) : sProp (Res F) :=
  iprop(((mLab).view.loc (thr d L) ↦{q0} g) ∗ ((mLab).view.loc (thr d L) ↦{q1} g) ∗ ((mX).view.loc (thr d L) ↦{q0} gx) ∗ ((mX).view.loc (thr d L) ↦{q1} gx)
    ∗ ((mEa).view.loc (thr d L) ↦{qe} ea) ∗ ((mEb).view.loc (thr d L) ↦{qe} eb))

/-- The tile's own buffers, at some contents, and its semaphores, at zero. -/
def own : sProp (Res F) :=
  iprop((∃ f, (mS).view.loc (thr d L) ↦{fullShare} f) ∗ (∃ f, (mL0).view.loc (thr d L) ↦{fullShare} f) ∗ (∃ f, (mL1).view.loc (thr d L) ↦{fullShare} f)
    ∗ (∃ f, (mX0).view.loc (thr d L) ↦{fullShare} f) ∗ (∃ f, (mX1).view.loc (thr d L) ↦{fullShare} f) ∗ (∃ f, (mPa).view.loc (thr d L) ↦{fullShare} f)
    ∗ (∃ f, (mPb).view.loc (thr d L) ↦{fullShare} f) ∗ (∃ f, (mQa).view.loc (thr d L) ↦{fullShare} f) ∗ (∃ f, (mQb).view.loc (thr d L) ↦{fullShare} f))
def sems : sProp (Res F) :=
  iprop(semVal (thr d L, SemLoc.dma cc0_scratch9.sem) 0 ∗ semVal (thr d L, SemLoc.dma cc0_scratch10.sem) 0 ∗ semVal (thr d L, SemLoc.dma cc0_scoped0.sem) 0
    ∗ semVal (thr d L, SemLoc.dma cc0_scoped1.sem) 0 ∗ semVal (thr d L, SemLoc.dma cc0_scoped2.sem) 0 ∗ semVal (thr d L, SemLoc.dma cc0_scoped3.sem) 0)

/-- The tile's blocks of the two outputs. -/
def outs (fa fb : Vec F S98304 .f32) : sProp (Res F) :=
  iprop(((mOa).view.loc (thr d L) ↦[blk (kOf L)]{fullShare} fa) ∗ ((mOb).view.loc (thr d L) ↦[blk (kOf L)]{fullShare} fb))

set_option maxHeartbeats 8000000 in
theorem task (hl : ∀ i, (g i : BitVec 32).toNat < 1024) (ha : ∀ i, (ea i : BitVec 32).toNat < 1024) (hb : ∀ i, (eb i : BitVec 32).toNat < 1024)
    (O : CellTallies nD τ sig (HIx 1)) (W : Waits sig (HIx 1)) (q0 q1 qe : PosShare TreeShare) (fa fb : Vec F S98304 .f32) :
    (iprop(Transfers.MayWaits (thr d L) (default : HIx 1) O ∗ ins d L g gx ea eb q0 q1 qe ∗ outs d L fa fb ∗ own d L ∗ sems d L ∗ owes (thr d L) O W) : sProp (Res F))
      ⊢ wp frame (wpE (defs₀ (F := F)) 𝒱₀ (thr d L) none) Set.univ (cc0_run L mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3)
          fun _ => iprop(ins d L g gx ea eb q0 q1 qe ∗ outs d L (outG g gx ea) (outG g gx eb) ∗ own d L ∗ sems d L ∗ owed (thr d L) O W) := by
  rw [cc0_run_eq_skeleton]
  unfold cc0_run_skel
  simp only [k0_part16_eq_skeleton, k0_part17_eq_skeleton]
  unfold k0_part16_skel k0_part17_skel
  simp only [Prog.lift, Prog.bind_op, Prog.bind_ret, Prog.pure_eq_ret, bind_assoc]
  unfold ins outs own sems
  iintro ⟨#Hmw, ⟨Hg0, Hg1, Hx0, Hx1, Hea, Heb⟩, ⟨Hoa, Hob⟩, ⟨⟨%s0, Hs⟩, ⟨%l0, Hl0⟩, ⟨%l1, Hl1⟩, ⟨%x0, Hb0⟩, ⟨%x1, Hb1⟩, ⟨%p0, Hpa⟩, ⟨%p1, Hpb⟩, ⟨%o0, Hqa⟩, ⟨%o1, Hqb⟩⟩,
    ⟨Hm0, Hm1, Hr0, Hr1, Hr2, Hr3⟩, HO⟩
  iapply (t1_loop d L s0) $$ Hs
  iintro %acc Hs
  rw [zeroN_all]
  iapply (start d L g gx mL0 mX0 cc0_scratch9.sem (fun w => w) (fun w => w) write_L0 write_X0 (off2_eq L) (off3_eq L)) $$ [Hm0 Hl0 Hb0 Hg0 Hx0]
  · unfold rest
    isplitl [Hm0]; · iexact Hm0
    isplitl [Hl0]; · iexact Hl0
    isplitl [Hb0]; · iexact Hb0
    isplitl [Hg0]; · iexact Hg0
    iexact Hx0
  iintro Hf0
  iapply (t2_loop d L g gx hl O W q0 q1 (fun _ => zc) _ _) $$ [Hs Hf0 Hm1 Hl1 Hb1 Hg1 Hx1 HO]
  · unfold t2_inv
    rw [pair0_fly d L g gx (show 0 < 24 by decide)]
    isplitr; · iexact Hmw
    isplitl [Hs]; · iexact Hs
    isplitl [Hf0]; · iexact Hf0
    isplitr [HO]
    · iexists l1, x1
      unfold rest1 rest
      isplitl [Hm1]; · iexact Hm1
      isplitl [Hl1]; · iexact Hl1
      isplitl [Hb1]; · iexact Hb1
      isplitl [Hg1]; · iexact Hg1
      iexact Hx1
    iexists W
    isplitr; · ipureintro; exact fun p hp => .inl hp
    iexact HO
  iintro %acc2 HI
  rw [t2_trips]
  unfold t2_inv
  rw [pair0_rest d L g gx (show ¬ 24 < 24 by decide)]
  unfold rest0 rest1 rest
  icases HI with ⟨-, Hs, ⟨%l0', %x0', Hm0, Hl0, Hb0, Hg0, Hx0⟩, ⟨%l1', %x1', Hm1, Hl1, Hb1, Hg1, Hx1⟩, HO⟩
  rw [show sumN g gx (bOf L) (c0Of L) (fun _ => zc) (2 * 24) = tableF g gx (bOf L) (c0Of L) from rfl]
  ihave HO := (show iprop(∃ W', ⌜∀ p ∈ W', p ∈ W ∨ p.2 = none⌝ ∗ owes (thr d L) O W') ⊢ owed (F := F) (thr d L) O W from .rfl) $$ HO
  iapply (t7_loop d L _ _ _) $$ Hs
  iintro %acc3 Hs
  iapply (copy_wait (thr := thr d L) (src := sliceE mEa L) (dst := mPa) (Sd := Finset.univ) (q := qe) (by decide) (Finset.subset_univ _)) $$ [Hea Hpa Hr0 HO]
  · isplitr; · iexact Hmw
    isplitl [Hea]; · iexact Hea
    isplitl [Hpa]; · iexact Hpa
    isplitl [Hr0]; · iexact Hr0
    iexact HO
  iintro ⟨Hea, Hpa, Hr0, HO⟩
  iapply (copy_wait (thr := thr d L) (src := sliceE mEb L) (dst := mPb) (Sd := Finset.univ) (q := qe) (by decide) (Finset.subset_univ _)) $$ [Heb Hpb Hr1 HO]
  · isplitr; · iexact Hmw
    isplitl [Heb]; · iexact Heb
    isplitl [Hpb]; · iexact Hpb
    isplitl [Hr1]; · iexact Hr1
    iexact HO
  iintro ⟨Heb, Hpb, Hr1, HO⟩
  ihave Hpa := (Entails.of_eq (show ((mPa).view.loc (thr d L) ↦{fullShare} (mPa).view.write (Elt F) p0 ((sliceE mEa L).view.read (Elt F) ea) Finset.univ : sProp (Res F))
    = ((mPa).view.loc (thr d L) ↦{fullShare} edC ea (bOf L)) by rw [View.write_whole_univ (Val := Elt F) cc0_scratch5, read_sliceEa])) $$ Hpa
  ihave Hpb := (Entails.of_eq (show ((mPb).view.loc (thr d L) ↦{fullShare} (mPb).view.write (Elt F) p1 ((sliceE mEb L).view.read (Elt F) eb) Finset.univ : sProp (Res F))
    = ((mPb).view.loc (thr d L) ↦{fullShare} edC eb (bOf L)) by rw [View.write_whole_univ (Val := Elt F) cc0_scratch6, read_sliceEb])) $$ Hpb
  iapply (t8_loop d L _ _ _ (edC ea (bOf L)) (edC eb (bOf L)) o0 o1 (fun _ => ha _) (fun _ => hb _)) $$ [Hs Hpa Hpb Hqa Hqb]
  · isplitl [Hs]; · iexact Hs
    isplitl [Hpa]; · iexact Hpa
    isplitl [Hpb]; · iexact Hpb
    isplitl [Hqa]; · iexact Hqa
    iexact Hqb
  iintro %acc4 ⟨Hs, Hpa, Hpb, Hqa, Hqb⟩
  rw [edgeN_mean _ (p := edC ea (bOf L)) (fun _ => ha _), edgeN_mean _ (p := edC eb (bOf L)) (fun _ => hb _)]
  rw [← set_sliceOa L]
  iapply (copy_wait (thr := thr d L) (src := mQa) (dst := sliceO mOa L) (Sd := (sliceO mOa L).view.set) (q := fullShare) (by decide) (Finset.Subset.refl _)) $$ [Hqa Hoa Hr2 HO]
  · isplitr; · iexact Hmw
    isplitl [Hqa]; · iexact Hqa
    isplitl [Hoa]; · iexact Hoa
    isplitl [Hr2]; · iexact Hr2
    iexact HO
  iintro ⟨Hqa, Hoa, Hr2, HO⟩
  rw [set_sliceOa L, ← set_sliceOb L]
  iapply (copy_wait (thr := thr d L) (src := mQb) (dst := sliceO mOb L) (Sd := (sliceO mOb L).view.set) (q := fullShare) (by decide) (Finset.Subset.refl _)) $$ [Hqb Hob Hr3 HO]
  · isplitr; · iexact Hmw
    isplitl [Hqb]; · iexact Hqb
    isplitl [Hob]; · iexact Hob
    isplitl [Hr3]; · iexact Hr3
    iexact HO
  iintro ⟨Hqb, Hob, Hr3, HO⟩
  iapply (wp_ret_intro Set.univ _)
  isplitl [Hg0 Hg1 Hx0 Hx1 Hea Heb]
  · isplitl [Hg0]; · iexact Hg0
    isplitl [Hg1]; · iexact Hg1
    isplitl [Hx0]; · iexact Hx0
    isplitl [Hx1]; · iexact Hx1
    isplitl [Hea]; · iexact Hea
    iexact Heb
  isplitl [Hoa Hob]
  · isplitl [Hoa]
    · iapply (Entails.of_eq (show ((sliceO mOa L).view.loc (thr d L) ↦[(sliceO mOb L).view.set]{fullShare} (sliceO mOa L).view.write (Elt F) fa
          ((mQa).view.read (Elt F) (edgeF (tableF g gx (bOf L) (c0Of L)) (edC ea (bOf L)))) Finset.univ : sProp (Res F))
        = ((mOa).view.loc (thr d L) ↦[(sliceO mOb L).view.set]{fullShare} outG g gx ea) from by
          rw [set_sliceOb L, ← set_sliceOa L]
          exact pointsTo_congr (write_sliceOa L fa _ _ fun j => (outG_block g gx ea L j).symm))) $$ Hoa
    · iapply (Entails.of_eq (show ((sliceO mOb L).view.loc (thr d L) ↦[(sliceO mOb L).view.set]{fullShare} (sliceO mOb L).view.write (Elt F) fb
          ((mQb).view.read (Elt F) (edgeF (tableF g gx (bOf L) (c0Of L)) (edC eb (bOf L)))) Finset.univ : sProp (Res F))
        = ((mOb).view.loc (thr d L) ↦[(sliceO mOb L).view.set]{fullShare} outG g gx eb) from
          pointsTo_congr (write_sliceOb L fb _ _ fun j => (outG_block g gx eb L j).symm))) $$ Hob
  isplitr [Hm0 Hm1 Hr0 Hr1 Hr2 Hr3 HO]
  · isplitl [Hs]; · iexists _; iexact Hs
    isplitl [Hl0]; · iexists _; iexact Hl0
    isplitl [Hl1]; · iexists _; iexact Hl1
    isplitl [Hb0]; · iexists _; iexact Hb0
    isplitl [Hb1]; · iexists _; iexact Hb1
    isplitl [Hpa]; · iexists _; iexact Hpa
    isplitl [Hpb]; · iexists _; iexact Hpb
    isplitl [Hqa]; · iexists _; iexact Hqa
    iexists _; iexact Hqb
  isplitr [HO]
  · isplitl [Hm0]; · iexact Hm0
    isplitl [Hm1]; · iexact Hm1
    isplitl [Hr0]; · iexact Hr0
    isplitl [Hr1]; · iexact Hr1
    isplitl [Hr2]; · iexact Hr2
    iexact Hr3
  iexact HO

end task

end Cert.Proof.Pool

end
-- ==== Proof.Own.lean ====
/-
  The launch: what each SparseCore and each of its tiles is handed and hands back, and the program's run.
-/
module

public import proofs.«01_k».proof.Proof.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## A tile's own buffers and semaphores -/

section OwnState

variable (d : Dev nD) (L : grid0.Coords)

abbrev cell (s : DmaSems sig S_) : GSem nD τ sig := (thr d L, .dma s.sem)

theorem cell_ne {s t : DmaSem sig} (h : s ≠ t) : ((thr d L, SemLoc.dma s) : GSem nD τ sig) ≠ (thr d L, SemLoc.dma t) := fun e => h (SemLoc.dma.inj (congrArg Prod.snd e))

theorem ownSems0_tile :
    (ownSems0 (thr d L) : sProp (Res F)) = iprop(semVal (cell d L cc0_scratch9) 0 ∗ semVal (cell d L cc0_scratch10) 0 ∗ semVal (cell d L cc0_scoped0) 0 ∗ semVal (cell d L cc0_scoped1) 0 ∗ semVal (cell d L cc0_scoped2) 0 ∗ semVal (cell d L cc0_scoped3) 0
      ∗ bigSep (((((((ownCells (thr d L)).erase (cell d L cc0_scratch9)).erase (cell d L cc0_scratch10)).erase (cell d L cc0_scoped0)).erase (cell d L cc0_scoped1)).erase (cell d L cc0_scoped2)).erase (cell d L cc0_scoped3)) fun g => semVal g 0) := by
  unfold SparseCore.Cfg.ownSems0
  rw [SparseCore.bigSep_erase' ((mem_ownCells (g := cell d L cc0_scratch9)).mpr ⟨rfl, by show (SemLoc.dma cc0_scratch9.sem : SemLoc sig).isScoped .scVector = true; decide⟩),
    SparseCore.bigSep_erase' (Finset.mem_erase.mpr ⟨cell_ne d L (show (cc0_scratch10.sem : DmaSem sig) ≠ cc0_scratch9.sem by decide), (mem_ownCells (g := cell d L cc0_scratch10)).mpr ⟨rfl, by show (SemLoc.dma cc0_scratch10.sem : SemLoc sig).isScoped .scVector = true; decide⟩⟩),
    SparseCore.bigSep_erase' (Finset.mem_erase.mpr ⟨cell_ne d L (show (cc0_scoped0.sem : DmaSem sig) ≠ cc0_scratch10.sem by decide), Finset.mem_erase.mpr ⟨cell_ne d L (show (cc0_scoped0.sem : DmaSem sig) ≠ cc0_scratch9.sem by decide), (mem_ownCells (g := cell d L cc0_scoped0)).mpr ⟨rfl, by show (SemLoc.dma cc0_scoped0.sem : SemLoc sig).isScoped .scVector = true; decide⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch10.sem by decide), Finset.mem_erase.mpr ⟨cell_ne d L (show (cc0_scoped1.sem : DmaSem sig) ≠ cc0_scratch9.sem by decide), (mem_ownCells (g := cell d L cc0_scoped1)).mpr ⟨rfl, by show (SemLoc.dma cc0_scoped1.sem : SemLoc sig).isScoped .scVector = true; decide⟩⟩⟩⟩),
    SparseCore.bigSep_erase' (Finset.mem_erase.mpr ⟨cell_ne d L (show (cc0_scoped2.sem : DmaSem sig) ≠ cc0_scoped1.sem by decide), Finset.mem_erase.mpr ⟨cell_ne d L (show (cc0_scoped2.sem : DmaSem sig) ≠ cc0_scoped0.sem by decide), Finset.mem_erase.mpr ⟨cell_ne d L (show (cc0_scoped2.sem : DmaSem sig) ≠ cc0_scratch10.sem by decide), Finset.mem_erase.mpr ⟨cell_ne d L (show (cc0_scoped2.sem : DmaSem sig) ≠ cc0_scratch9.sem by decide), (mem_ownCells (g := cell d L cc0_scoped2)).mpr ⟨rfl, by show (SemLoc.dma cc0_scoped2.sem : SemLoc sig).isScoped .scVector = true; decide⟩⟩⟩⟩⟩),
    SparseCore.bigSep_erase' (Finset.mem_erase.mpr ⟨cell_ne d L (show (cc0_scoped3.sem : DmaSem sig) ≠ cc0_scoped2.sem by decide), Finset.mem_erase.mpr ⟨cell_ne d L (show (cc0_scoped3.sem : DmaSem sig) ≠ cc0_scoped1.sem by decide), Finset.mem_erase.mpr ⟨cell_ne d L (show (cc0_scoped3.sem : DmaSem sig) ≠ cc0_scoped0.sem by decide), Finset.mem_erase.mpr ⟨cell_ne d L (show (cc0_scoped3.sem : DmaSem sig) ≠ cc0_scratch10.sem by decide), Finset.mem_erase.mpr ⟨cell_ne d L (show (cc0_scoped3.sem : DmaSem sig) ≠ cc0_scratch9.sem by decide), (mem_ownCells (g := cell d L cc0_scoped3)).mpr ⟨rfl, by show (SemLoc.dma cc0_scoped3.sem : SemLoc sig).isScoped .scVector = true; decide⟩⟩⟩⟩⟩⟩)]

theorem ownBufs_tile :
    (ownBufs (thr d L) : sProp (Res F)) = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ (∃ f, (thr d L).loc cc0_scratch8 ↦{fullShare} f)
      ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩)]

end OwnState

end Cert.Proof.Pool

end
-- ==== Proof.Launch.lean ====
/-
  The launch: what each SparseCore and each of its tiles is handed and hands back, and the program's run, whatever the
  floats are.
-/
module

public import proofs.«01_k».proof.Proof.Own

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

open Idealize.ShloMosaic.StableHlo (seq after held held_sub_split held_congr wp_seq)

variable [FloatOps F]

local notation "𝕄" => Res F

/-! ## The arrays, cut in 32 -/

abbrev xLoc (d : Dev nD) : Loc nD τ sig := (SparseCore.T d : Thread nD τ).loc main_arg0
abbrev labLoc (d : Dev nD) : Loc nD τ sig := (SparseCore.T d : Thread nD τ).loc main_arg2
abbrev edgeLoc (d : Dev nD) : Loc nD τ sig := (SparseCore.T d : Thread nD τ).loc main_arg3
abbrev eaLoc (d : Dev nD) : Loc nD τ sig := (SparseCore.T d : Thread nD τ).loc main_v2
abbrev ebLoc (d : Dev nD) : Loc nD τ sig := (SparseCore.T d : Thread nD τ).loc main_v5
abbrev oaLoc (d : Dev nD) : Loc nD τ sig := (SparseCore.T d : Thread nD τ).loc main_v9_0
abbrev obLoc (d : Dev nD) : Loc nD τ sig := (SparseCore.T d : Thread nD τ).loc main_v9_1

/-- The block of tile `i` of SparseCore `c`. -/
def kk (c : Fin 2) (i : Fin 16) : Fin 32 := ⟨8 * ((2 * i.val + c.val) % 4) + (2 * i.val + c.val) / 4, by omega⟩

def kkEquiv : Fin 2 × Fin 16 ≃ Fin 32 := Equiv.ofBijective (fun p => kk p.1 p.2) (by decide +kernel)

/-- Tile `k`'s share of an array that every tile reads. -/
def sh (k : Fin 32) : PosShare TreeShare := ShareLeaves.leaf 5 fullShare k

omit [FloatOps F] in
theorem whole_shares {ℓ : Loc nD τ sig} (f : Buf (Elt F) ℓ) : (ℓ ↦{fullShare} f : sProp 𝕄) = bigSep Finset.univ fun k : Fin 32 => ℓ ↦{sh k} f :=
  ShareLeaves.pointsTo_leaves Finset.univ f 5 fullShare

omit [FloatOps F] in
theorem whole_halves {ℓ : Loc nD τ sig} (f : Buf (Elt F) ℓ) :
    (ℓ ↦{fullShare} f : sProp 𝕄) = iprop((bigSep Finset.univ fun k : Fin 32 => ℓ ↦{(sh k).left} f) ∗ bigSep Finset.univ fun k : Fin 32 => ℓ ↦{(sh k).right} f) := by
  rw [whole_shares, ← bigSep_sep']
  exact bigSep_congr fun k _ => BI.Entails.antisymm (pointsTo_share (PosShare.mem_left_op_right (sh k))).1 (pointsTo_share (PosShare.mem_left_op_right (sh k))).2

theorem blk_disjoint : ∀ k ∈ (Finset.univ : Finset (Fin 32)), ∀ k' ∈ (Finset.univ : Finset (Fin 32)), k ≠ k' → Disjoint (blk k.val) (blk k'.val) := fun k _ k' _ h =>
  Finset.disjoint_left.mpr fun i hi hi' => h (Fin.ext ((Finset.mem_filter.mp hi).2.symm.trans (Finset.mem_filter.mp hi').2))

theorem blk_cover : (Finset.univ : Finset (Fin 32)).biUnion (fun k => blk k.val) = Finset.univ := by
  refine Finset.eq_univ_iff_forall.mpr fun i => Finset.mem_biUnion.mpr ?_
  have h : (i 0).val < 98304 := (i 0).isLt
  exact ⟨⟨(i 0).val / 3072, by omega⟩, Finset.mem_univ _, Finset.mem_filter.mpr ⟨Finset.mem_univ _, rfl⟩⟩

omit [FloatOps F] in
theorem oa_blocks (d : Dev nD) (f : Vec F S98304 .f32) : (oaLoc d ↦{fullShare} f : sProp 𝕄) = bigSep Finset.univ fun k : Fin 32 => oaLoc d ↦[blk k.val]{fullShare} f := by
  rw [← pointsTo_biUnion (ℓ := oaLoc d) (q := fullShare) (f := f) Finset.univ (fun k : Fin 32 => blk k.val) blk_disjoint, blk_cover]

omit [FloatOps F] in
theorem ob_blocks (d : Dev nD) (f : Vec F S98304 .f32) : (obLoc d ↦{fullShare} f : sProp 𝕄) = bigSep Finset.univ fun k : Fin 32 => obLoc d ↦[blk k.val]{fullShare} f := by
  rw [← pointsTo_biUnion (ℓ := obLoc d) (q := fullShare) (f := f) Finset.univ (fun k : Fin 32 => blk k.val) blk_disjoint, blk_cover]

section Parts

variable (d : Dev nD) (g : Vec F S4x1x384x384 .i32) (gx : Vec F S4x96x384x384 .f32) (ea eb : Vec F S1024 .i32) (fa fb : Vec F S98304 .f32)

/-- Tile `k`'s part of the six arrays: shares of the four it reads, its blocks of the two it writes. -/
def part (k : Fin 32) : sProp 𝕄 :=
  iprop(((labLoc d ↦{(sh k).left} g) ∗ (labLoc d ↦{(sh k).right} g) ∗ (xLoc d ↦{(sh k).left} gx) ∗ (xLoc d ↦{(sh k).right} gx)
      ∗ (eaLoc d ↦{sh k} ea) ∗ (ebLoc d ↦{sh k} eb))
    ∗ (oaLoc d ↦[blk k.val]{fullShare} fa) ∗ (obLoc d ↦[blk k.val]{fullShare} fb))

/-- The six arrays, whole. -/
def six : sProp 𝕄 :=
  iprop((labLoc d ↦{fullShare} g) ∗ (xLoc d ↦{fullShare} gx) ∗ (eaLoc d ↦{fullShare} ea) ∗ (ebLoc d ↦{fullShare} eb)
    ∗ (oaLoc d ↦{fullShare} fa) ∗ (obLoc d ↦{fullShare} fb))

omit [FloatOps F] in
theorem six_parts : (six d g gx ea eb fa fb : sProp 𝕄) = bigSep Finset.univ fun k : Fin 32 => part d g gx ea eb fa fb k := by
  unfold six part
  rw [bigSep_sep', bigSep_sep', bigSep_sep', bigSep_sep', bigSep_sep', bigSep_sep', bigSep_sep', ← whole_shares, ← whole_shares, ← oa_blocks, ← ob_blocks,
    whole_halves (ℓ := labLoc d) g, whole_halves (ℓ := xLoc d) gx]
  refine BI.Entails.antisymm (show (_ : sProp 𝕄) ⊢ _ from ?_) (show (_ : sProp 𝕄) ⊢ _ from ?_)
  · iintro ⟨⟨Ha, Hb⟩, ⟨Hc, Hd⟩, He, Hf, Hg, Hh⟩
    isplitl [Ha Hb Hc Hd He Hf]
    · isplitl [Ha]; · iexact Ha
      isplitl [Hb]; · iexact Hb
      isplitl [Hc]; · iexact Hc
      isplitl [Hd]; · iexact Hd
      isplitl [He]; · iexact He
      iexact Hf
    isplitl [Hg]; · iexact Hg
    iexact Hh
  · iintro ⟨⟨Ha, Hb, Hc, Hd, He, Hf⟩, Hg, Hh⟩
    isplitl [Ha Hb]
    · isplitl [Ha]; · iexact Ha
      iexact Hb
    isplitl [Hc Hd]
    · isplitl [Hc]; · iexact Hc
      iexact Hd
    isplitl [He]; · iexact He
    isplitl [Hf]; · iexact Hf
    isplitl [Hg]; · iexact Hg
    iexact Hh

omit [FloatOps F] in
/-- The same, by SparseCore and tile. -/
theorem six_cores : (six d g gx ea eb fa fb : sProp 𝕄)
    = bigSep Finset.univ fun c : Fin 2 => bigSep Finset.univ fun i : Fin 16 => part d g gx ea eb fa fb (kk c i) := by
  rw [six_parts, bigSep_univ_equiv kkEquiv, ← Finset.univ_product_univ, SparseCore.bigSep_product]
  rfl

end Parts

/-! ## The host's operations around the call -/

abbrev dr (b : Ref sig .tc) : DevRef τ sig := Proc.devRef .tc b

/-- The operations before the call and after it. -/
def preOps : List (HloOp τ sig (Elt F)) :=
  [StableHlo.unary main_arg3 main_v0 ((extractStridedSlice S4x256x1 ![0, 0, 0] · slices_S4x256x3_S4x256x1_0_0_0) : (⟨S4x256x3, .i32⟩ : BufTy).Contents (Elt F) → (⟨S4x256x1, .i32⟩ : BufTy).Contents (Elt F)),
   StableHlo.reshape main_v0 main_v1 (rfl : (.i32 : EltTy) = .i32) shapeCasts_S4x256x1_S4x256,
   StableHlo.reshape main_v1 main_v2 (rfl : (.i32 : EltTy) = .i32) shapeCasts_S4x256_S1024,
   StableHlo.unary main_arg3 main_v3 ((extractStridedSlice S4x256x1 ![0, 0, 1] · slices_S4x256x3_S4x256x1_0_0_1) : (⟨S4x256x3, .i32⟩ : BufTy).Contents (Elt F) → (⟨S4x256x1, .i32⟩ : BufTy).Contents (Elt F)),
   StableHlo.reshape main_v3 main_v4 (rfl : (.i32 : EltTy) = .i32) shapeCasts_S4x256x1_S4x256,
   StableHlo.reshape main_v4 main_v5 (rfl : (.i32 : EltTy) = .i32) shapeCasts_S4x256_S1024,
   StableHlo.unary main_arg3 main_v6 ((extractStridedSlice S4x256x1 ![0, 0, 2] · slices_S4x256x3_S4x256x1_0_0_2) : (⟨S4x256x3, .i32⟩ : BufTy).Contents (Elt F) → (⟨S4x256x1, .i32⟩ : BufTy).Contents (Elt F)),
   StableHlo.reshape main_v6 main_v7 (rfl : (.i32 : EltTy) = .i32) shapeCasts_S4x256x1_S4x256,
   StableHlo.unary main_v7 main_v8 (sitofp .f32 : (⟨S4x256, .i32⟩ : BufTy).Contents (Elt F) → (⟨S4x256, .f32⟩ : BufTy).Contents (Elt F))]

def postOps : List (HloOp τ sig (Elt F)) :=
  [StableHlo.reshape main_v9_0 main_v10 (rfl : (.f32 : EltTy) = .f32) shapeCasts_S98304_S4x96x256,
   StableHlo.unary main_v10 main_v11 ((transpose S4x256x96 [0, 2, 1] · transposes_S4x96x256_S4x256x96_0_2_1) : (⟨S4x96x256, .f32⟩ : BufTy).Contents (Elt F) → (⟨S4x256x96, .f32⟩ : BufTy).Contents (Elt F)),
   StableHlo.reshape main_v9_1 main_v12 (rfl : (.f32 : EltTy) = .f32) shapeCasts_S98304_S4x96x256,
   StableHlo.unary main_v12 main_v13 ((transpose S4x256x96 [0, 2, 1] · transposes_S4x96x256_S4x256x96_0_2_1) : (⟨S4x96x256, .f32⟩ : BufTy).Contents (Elt F) → (⟨S4x256x96, .f32⟩ : BufTy).Contents (Elt F))]

theorem main_eq (d : Dev nD) : main (F := F) d = (seq preOps >>= fun _ => (K (F := F)).run d 0 >>= fun _ => (seq postOps >>= fun u => pure u)) := by
  simp only [main, preOps, postOps, seq, bind_assoc, pure_bind]

/-- The unscoped arrays of the host's thread. -/
def SU : Finset (DevRef τ sig) := (Finset.univ.filter fun b : Ref sig .tc => ¬ b.isScoped).map ⟨fun b => dr b, Proc.devRef_injective (sig := sig) (.tc : Proc τ)⟩

theorem mem_SU (b : Ref sig .tc) (h : ¬ b.isScoped) : dr b ∈ SU :=
  Finset.mem_map_of_mem (⟨fun b => dr b, Proc.devRef_injective (sig := sig) (.tc : Proc τ)⟩ : Ref sig .tc ↪ DevRef τ sig)
    ((Finset.mem_filter (s := Finset.univ) (p := fun b : Ref sig .tc => ¬ b.isScoped) (a := b)).mpr ⟨Finset.mem_univ b, h⟩)

theorem pre_bufs : ∀ op ∈ preOps (F := F), op.bufs ⊆ SU := by
  intro op h
  simp only [preOps, List.mem_cons, List.not_mem_nil, or_false] at h
  rcases h with rfl | rfl | rfl | rfl | rfl | rfl | rfl | rfl | rfl <;>
    (refine Finset.insert_subset_iff.mpr ⟨mem_SU _ (by decide), Finset.singleton_subset_iff.mpr (mem_SU _ (by decide))⟩)

theorem post_bufs : ∀ op ∈ postOps (F := F), op.bufs ⊆ SU := by
  intro op h
  simp only [postOps, List.mem_cons, List.not_mem_nil, or_false] at h
  rcases h with rfl | rfl | rfl | rfl <;>
    (refine Finset.insert_subset_iff.mpr ⟨mem_SU _ (by decide), Finset.singleton_subset_iff.mpr (mem_SU _ (by decide))⟩)

theorem pre_fresh : ∀ op ∈ preOps (F := F), op.fresh = ∅ := by
  intro op h
  simp only [preOps, List.mem_cons, List.not_mem_nil, or_false] at h
  rcases h with rfl | rfl | rfl | rfl | rfl | rfl | rfl | rfl | rfl <;> rfl

theorem post_fresh : ∀ op ∈ postOps (F := F), op.fresh = ∅ := by
  intro op h
  simp only [postOps, List.mem_cons, List.not_mem_nil, or_false] at h
  rcases h with rfl | rfl | rfl | rfl <;> rfl

variable (m : (ℓ : Loc nD τ sig) → Buf (Elt F) ℓ) (ρ : Dev nD → PrngReg)

/-- The arrays when the program starts, at the call, after the call and at the end. -/
def Vstart (d : Dev nD) : Valuation τ sig (Elt F) := fun b => m (d, b)
def Vcall (d : Dev nD) : Valuation τ sig (Elt F) := after preOps (Vstart m d)
def outA (d : Dev nD) : Vec F S98304 .f32 := outG (Vcall m d (dr main_arg2)) (Vcall m d (dr main_arg0)) (Vcall m d (dr main_v2))
def outB (d : Dev nD) : Vec F S98304 .f32 := outG (Vcall m d (dr main_arg2)) (Vcall m d (dr main_arg0)) (Vcall m d (dr main_v5))
def Vback (d : Dev nD) : Valuation τ sig (Elt F) := Function.update (Function.update (Vcall m d) (dr main_v9_0) (outA m d)) (dr main_v9_1) (outB m d)
def Vend (d : Dev nD) : Valuation τ sig (Elt F) := after postOps (Vback m d)

omit [FloatOps F] in
theorem unscoped_held (d : Dev nD) : (unscopedBufs d (fun b => m ((SparseCore.T d).loc b)) : sProp 𝕄) = held (SparseCore.T d) SU (Vstart m d) := by
  unfold unscopedBufs held SU
  rw [BI.bigSep_map]; rfl

/-- The six arrays of the call. -/
def S6 : Finset (DevRef τ sig) := {dr main_arg2, dr main_arg0, dr main_v2, dr main_v5, dr main_v9_0, dr main_v9_1}

theorem S6_sub : S6 ⊆ SU := by
  intro b hb
  simp only [S6, Finset.mem_insert, Finset.mem_singleton] at hb
  rcases hb with rfl | rfl | rfl | rfl | rfl | rfl <;> exact mem_SU _ (by decide)

omit [FloatOps F] in
theorem held_six (d : Dev nD) (V : Valuation τ sig (Elt F)) : (held (SparseCore.T d) S6 V : sProp 𝕄)
    = six d (V (dr main_arg2)) (V (dr main_arg0)) (V (dr main_v2)) (V (dr main_v5)) (V (dr main_v9_0)) (V (dr main_v9_1)) := by
  unfold held S6 six
  rw [SparseCore.bigSep_insert' (by decide), SparseCore.bigSep_insert' (by decide), SparseCore.bigSep_insert' (by decide), SparseCore.bigSep_insert' (by decide),
    SparseCore.bigSep_insert' (by decide), bigSep_singleton]

/-! ## What is handed over -/

/-- What tile `i` of SparseCore `c` takes, and what it brings back. -/
def take (d : Dev nD) (c : Fin 2) (i : Fin 16) : sProp 𝕄 :=
  part d (Vcall m d (dr main_arg2)) (Vcall m d (dr main_arg0)) (Vcall m d (dr main_v2)) (Vcall m d (dr main_v5)) (Vcall m d (dr main_v9_0)) (Vcall m d (dr main_v9_1)) (kk c i)
def bring (d : Dev nD) (c : Fin 2) (i : Fin 16) : sProp 𝕄 :=
  part d (Vcall m d (dr main_arg2)) (Vcall m d (dr main_arg0)) (Vcall m d (dr main_v2)) (Vcall m d (dr main_v5)) (outA m d) (outB m d) (kk c i)

instance part_storable (d : Dev nD) (g : Vec F S4x1x384x384 .i32) (gx : Vec F S4x96x384x384 .f32) (ea eb : Vec F S1024 .i32) (fa fb : Vec F S98304 .f32) (k : Fin 32) :
    BI.Storable (upEmb : UEmb _ 𝕄) (part d g gx ea eb fa fb k) := by unfold part; infer_instance
instance take_storable (d : Dev nD) (c : Fin 2) (i : Fin 16) : BI.Storable (upEmb : UEmb _ 𝕄) (take m d c i) := by unfold take; infer_instance
instance bring_storable (d : Dev nD) (c : Fin 2) (i : Fin 16) : BI.Storable (upEmb : UEmb _ 𝕄) (bring m d c i) := by unfold bring; infer_instance

def P : (K (F := F)).Pay (nD := nD) (Val := Elt F) (Name := ℕ) (U := UU) where
  st := fun q d c => match q with | 0 => bigSep Finset.univ fun i : Fin 16 => take m d (Fin.cast nCore_zero c) i
  dn := fun q d c => match q with | 0 => bigSep Finset.univ fun i : Fin 16 => bring m d (Fin.cast nCore_zero c) i
  go := fun q d c i => match q with | 0 => take m d (Fin.cast nCore_zero c) (Fin.cast nSub_zero i)
  td := fun q d c i => match q with | 0 => bring m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun i : Fin 16 => take m d (Fin.cast nCore_zero c) i))
  dn q d c := match q with | 0 => (inferInstance : BI.Storable (upEmb : UEmb _ 𝕄) (bigSep Finset.univ fun i : Fin 16 => bring m d (Fin.cast nCore_zero c) i))
  go q d c i := match q with | 0 => (inferInstance : BI.Storable (upEmb : UEmb _ 𝕄) (take m d (Fin.cast nCore_zero c) (Fin.cast nSub_zero i)))
  td q d c i := match q with | 0 => (inferInstance : BI.Storable (upEmb : UEmb _ 𝕄) (bring m d (Fin.cast nCore_zero c) (Fin.cast nSub_zero i)))

/-- What the launch memory must satisfy at the call: every label and every edge end of the two lists is below 1024. -/
def InRange : Prop := ∀ d : Dev nD, (∀ i, (Vcall m d (dr main_arg2) i : BitVec 32).toNat < 1024) ∧ (∀ i, (Vcall m d (dr main_v2) i : BitVec 32).toNat < 1024)
  ∧ ∀ i, (Vcall m d (dr main_v5) i : BitVec 32).toNat < 1024

/-! ## The task's obligation -/

theorem tile_body (hF : (K (F := F)).Facts) (hR : InRange m) (d : Dev nD) (L : grid0.Coords) (c : Fin 2) (i : Fin 16) (hk : (kk c i).val = kOf L)
    (O : CellTallies nD τ sig (HIx 1)) (W : Waits sig (HIx 1)) (hO : ∀ g, O g none = 0) :
    (iprop(levAts (K (F := F)).L (K (F := F)).lev ∗ emp ∗ take m d c i
        ∗ scopedBufs (thr d L) ∗ scopedSems0 (thr d L) ∗ owes (thr d L) O W) : sProp 𝕄)
      ⊢ wp frame (wpE (defs₀ (F := F)) 𝒱₀ (thr d L) none) Set.univ (cc0_run (L) mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3)
          fun _ => iprop(bring m d c i ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  unfold take bring part
  rw [hk]
  iintro ⟨#Hlv, -, ⟨Hin, Hout⟩, ⟨B0, B1, B2, B3, B4, B5, B6, B7, B8, Hbufs⟩, ⟨S0, S1, S2, S3, S4, S5, Hsems⟩, HO⟩
  ihave Hmw := (show levAts (K (F := F)).L (K (F := F)).lev ⊢ Transfers.MayWaits (thr d L) (default : HIx 1) O from
    (K (F := F)).mayWaits_none (thr := thr d L) hO) $$ Hlv
  iapply wp_wand_r
  isplitl [Hin Hout B0 B1 B2 B3 B4 B5 B6 B7 B8 S0 S1 S2 S3 S4 S5 Hmw HO]
  · iapply (task d L (Vcall m d (dr main_arg2)) (Vcall m d (dr main_arg0)) (Vcall m d (dr main_v2)) (Vcall m d (dr main_v5)) (hR d).1 (hR d).2.1 (hR d).2.2 O W
      (sh (kk c i)).left (sh (kk c i)).right (sh (kk c i)) (Vcall m d (dr main_v9_0)) (Vcall m d (dr main_v9_1)))
    unfold ins outs own sems
    isplitl [Hmw]; · iexact Hmw
    isplitl [Hin]; · iexact Hin
    isplitl [Hout]; · iexact Hout
    isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitl [S0 S1 S2 S3 S4 S5]
    · isplitl [S0]; · iexact S0
      isplitl [S1]; · iexact S1
      isplitl [S2]; · iexact S2
      isplitl [S3]; · iexact S3
      isplitl [S4]; · iexact S4
      iexact S5
    iexact HO
  iintro %u H
  unfold ins outs own sems owed
  icases H with ⟨Hin, Hout, ⟨B0, B1, B2, B3, B4, B5, B6, B7, B8⟩, ⟨S0, S1, S2, S3, S4, S5⟩, HO⟩
  isplitl [Hin Hout]
  · isplitl [Hin]; · iexact Hin
    iexact Hout
  isplitl [B0 B1 B2 B3 B4 B5 B6 B7 B8 Hbufs]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact Hbufs
  isplitl [S0 S1 S2 S3 S4 S5 Hsems]
  · isplitl [S0]; · iexact S0
    isplitl [S1]; · iexact S1
    isplitl [S2]; · iexact S2
    isplitl [S3]; · iexact S3
    isplitl [S4]; · iexact S4
    isplitl [S5]; · iexact S5
    iexact Hsems
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0_run (coordsV c s) mX (Memref.isWhole_whole _) mLab (Memref.isWhole_whole _) mEa (Memref.isWhole_whole _) mEb (Memref.isWhole_whole _) mOa (Memref.isWhole_whole _) mOb (Memref.isWhole_whole _) mS (Memref.isWhole_whole _) mL0 (Memref.isWhole_whole _) mL1 (Memref.isWhole_whole _) mX0 (Memref.isWhole_whole _) mX1 (Memref.isWhole_whole _) mPa (Memref.isWhole_whole _) mPb (Memref.isWhole_whole _) mQa (Memref.isWhole_whole _) mQb (Memref.isWhole_whole _) cc0_scratch9 cc0_scratch10 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hR : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hR d (coordsV ⟨_, hci.1⟩ ⟨_, hci.2⟩) (Fin.cast nCore_zero c) (Fin.cast nSub_zero i) rfl O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => take m d (Fin.cast nCore_zero c) i) ⊢ |={Set.univ}=> iprop(
      (bigSep Finset.univ fun i : Fin ((K (F := F)).nSub 0) => take m d (Fin.cast nCore_zero c) (Fin.cast nSub_zero i))
      ∗ ((bigSep Finset.univ fun i : Fin ((K (F := F)).nSub 0) => bring m d (Fin.cast nCore_zero c) (Fin.cast nSub_zero i))
          -∗ bigSep Finset.univ fun i : Fin 16 => bring m d (Fin.cast nCore_zero c) i))
  rw [bigSep_tasks (F := F) (take m d (Fin.cast nCore_zero c)), bigSep_tasks (F := F) (bring m d (Fin.cast nCore_zero c))]
  iintro H; imodintro
  isplitl [H]; · iexact H
  iintro H; iexact H

/-! ## The launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem st0_eq (d : Dev nD) : (bigSep Finset.univ fun c : Fin ((K (F := F)).nCore 0) => (P m).st 0 d c) = held (SparseCore.T d) S6 (Vcall m d) := by
  rw [held_six, six_cores]
  exact bigSep_cores (F := F) fun c => bigSep Finset.univ fun i : Fin 16 => take m d c i

theorem dn0_eq (d : Dev nD) : (bigSep Finset.univ fun c : Fin ((K (F := F)).nCore 0) => (P m).dn 0 d c) = held (SparseCore.T d) S6 (Vback m d) := by
  rw [held_six, six_cores]
  refine (bigSep_cores (F := F) fun c => bigSep Finset.univ fun i : Fin 16 => bring m d c i).trans ?_
  rw [show Vback m d (dr main_v9_1) = outB m d from Function.update_self _ _ _,
    show Vback m d (dr main_v9_0) = outA m d from (Function.update_of_ne (show dr main_v9_0 ≠ dr main_v9_1 by decide) _ _).trans (Function.update_self _ _ _),
    show Vback m d (dr main_arg2) = Vcall m d (dr main_arg2) from (Function.update_of_ne (show dr main_arg2 ≠ dr main_v9_1 by decide) _ _).trans (Function.update_of_ne (show dr main_arg2 ≠ dr main_v9_0 by decide) _ _),
    show Vback m d (dr main_arg0) = Vcall m d (dr main_arg0) from (Function.update_of_ne (show dr main_arg0 ≠ dr main_v9_1 by decide) _ _).trans (Function.update_of_ne (show dr main_arg0 ≠ dr main_v9_0 by decide) _ _),
    show Vback m d (dr main_v2) = Vcall m d (dr main_v2) from (Function.update_of_ne (show dr main_v2 ≠ dr main_v9_1 by decide) _ _).trans (Function.update_of_ne (show dr main_v2 ≠ dr main_v9_0 by decide) _ _),
    show Vback m d (dr main_v5) = Vcall m d (dr main_v5) from (Function.update_of_ne (show dr main_v5 ≠ dr main_v9_1 by decide) _ _).trans (Function.update_of_ne (show dr main_v5 ≠ dr main_v9_0 by decide) _ _)]
  rfl

theorem rest_eq (d : Dev nD) : (held (SparseCore.T d) (SU \ S6) (Vcall m d) : sProp 𝕄) = held (SparseCore.T d) (SU \ S6) (Vback m d) := by
  refine held_congr (SparseCore.T d) fun b hb => ?_
  have h := (Finset.mem_sdiff.mp hb).2
  simp only [S6, Finset.mem_insert, Finset.mem_singleton, not_or] at h
  exact ((Function.update_of_ne h.2.2.2.2.2 _ _).trans (Function.update_of_ne h.2.2.2.2.1 _ _)).symm

/-- What the program's end leaves the claim. -/
def FIN (d : Dev nD) : sProp 𝕄 := held (SparseCore.T d) SU (Vend m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d SU _ preOps pre_bufs pre_fresh (Vstart m d)) $$ [Hb Hheld]
  · isplitl [Hb]; · iexact Hb
    iexact Hheld
  iintro ⟨Hb, Hheld⟩
  ihave Hh := (Entails.of_eq (show (held (d.tc : Thread nD τ) SU (after preOps (Vstart m d)) : sProp 𝕄)
    = iprop(held (SparseCore.T d) S6 (Vcall m d) ∗ held (SparseCore.T d) (SU \ S6) (Vcall m d)) from held_sub_split (SparseCore.T d) S6_sub (Vcall m d))) $$ Hheld
  icases Hh with ⟨H6, Hrest⟩
  rw [wp_bind]
  iapply ((K (F := F)).wp_run (D (F := F)) 𝒱 (EH := EH) (P := P m) κ d 0) $$ [Hst H6 Hrest Hb Hts]
  isplitr; · iexact Hctx
  isplitl [Hst]; · iexact Hst
  isplitl [H6]
  · rw [st0_eq]; iexact H6
  iintro ⟨Hst, Hdn⟩
  ihave H6 := (Entails.of_eq (dn0_eq m d)) $$ Hdn
  ihave Hrest := (Entails.of_eq (rest_eq m d)) $$ Hrest
  iapply (wp_seq 𝒱 none Set.univ d SU _ postOps post_bufs post_fresh (Vback m d)) $$ [Hb H6 Hrest]
  · isplitl [Hb]; · iexact Hb
    rw [held_sub_split (SparseCore.T d) S6_sub (Vback m d)]
    isplitl [H6]; · iexact H6
    iexact Hrest
  iintro ⟨Hb, Hheld⟩
  rw [wp_pure]; imodintro
  isplitl [Hst]; · iexact Hst
  isplitl [Hheld]
  · rw [show (FIN m d : sProp 𝕄) = held (d.tc : Thread nD τ) SU (after postOps (Vback m d)) from rfl]; iexact Hheld
  isplitl [Hb] <;> iassumption

def fq (d : Dev nD) (s' : Phys nD τ sig (Elt F)) : Prop := ∀ b ∈ SU, s'.mem.mem (d, b) = Vend m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := Vend m d) SU) $$ [HSI H]
  isplitl [HSI]; · iexact HSI
  iexact H

def QC : PUnit × MemSt nD τ sig (Elt F) → Prop := fun r => (∀ d : Dev nD, ∀ b ∈ SU, r.2.mem (d, b) = Vend m d b) ∧ r.2.sem = fun _ => 0

theorem run_main [∀ e, Nonempty (Elt F e)] (hR : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hR)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool

end
-- ==== Proof.Frames.lean ====
/-
  The index ranges the call needs, out of the precondition, and the frames.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_in_range
public import proofs.«01_k».proof.Proof.Gen.Pre_in_range_and_met
public import Idealize.ShloMosaic.Lib.ReduceAll

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

open Idealize.ShloMosaic.StableHlo (after)

variable [FloatOps F]

/-! ## The arrays at the call and at the end -/

section Arrays

variable (m : (ℓ : Loc nD τ sig) → Buf (Elt F) ℓ) (d : Dev nD)

theorem Vcall_arg0 : Vcall m d (dr main_arg0) = m (d, dr main_arg0) := by
  unfold Vcall preOps; after_results; rfl
theorem Vcall_arg1 : Vcall m d (dr main_arg1) = m (d, dr main_arg1) := by
  unfold Vcall preOps; after_results; rfl
theorem Vcall_arg2 : Vcall m d (dr main_arg2) = m (d, dr main_arg2) := by
  unfold Vcall preOps; after_results; rfl
theorem Vcall_arg3 : Vcall m d (dr main_arg3) = m (d, dr main_arg3) := by
  unfold Vcall preOps; after_results; rfl

/-- Column `c` of the edge lists, the four lists one after the other. -/
theorem Vcall_v2 : Vcall m d (dr main_v2)
    = shapeCast S1024 (shapeCast S4x256 (extractStridedSlice S4x256x1 ![0, 0, 0] (m (d, dr main_arg3) : Vec F S4x256x3 .i32)
        slices_S4x256x3_S4x256x1_0_0_0) shapeCasts_S4x256x1_S4x256) shapeCasts_S4x256_S1024 := by
  unfold Vcall preOps; after_results; rfl
theorem Vcall_v5 : Vcall m d (dr main_v5)
    = shapeCast S1024 (shapeCast S4x256 (extractStridedSlice S4x256x1 ![0, 0, 1] (m (d, dr main_arg3) : Vec F S4x256x3 .i32)
        slices_S4x256x3_S4x256x1_0_0_1) shapeCasts_S4x256x1_S4x256) shapeCasts_S4x256_S1024 := by
  unfold Vcall preOps; after_results; rfl
theorem Vcall_v8 : Vcall m d (dr main_v8)
    = sitofp .f32 (shapeCast S4x256 (extractStridedSlice S4x256x1 ![0, 0, 2] (m (d, dr main_arg3) : Vec F S4x256x3 .i32)
        slices_S4x256x3_S4x256x1_0_0_2) shapeCasts_S4x256x1_S4x256) := by
  unfold Vcall preOps; after_results; rfl

theorem Vback_ne {b : Ref sig .tc} (h0 : b ≠ main_v9_0) (h1 : b ≠ main_v9_1) : Vback m d (dr b) = Vcall m d (dr b) := by
  have hi := Proc.devRef_injective (sig := sig) (.tc : Proc τ)
  unfold Vback
  rw [Function.update_of_ne (hi.ne h1), Function.update_of_ne (hi.ne h0)]

theorem Vend_arg0 : Vend m d (dr main_arg0) = m (d, dr main_arg0) := by
  refine Eq.trans ?_ ((Vback_ne m d (by decide) (by decide)).trans (Vcall_arg0 m d))
  unfold Vend postOps; after_results
theorem Vend_arg1 : Vend m d (dr main_arg1) = m (d, dr main_arg1) := by
  refine Eq.trans ?_ ((Vback_ne m d (by decide) (by decide)).trans (Vcall_arg1 m d))
  unfold Vend postOps; after_results
theorem Vend_arg2 : Vend m d (dr main_arg2) = m (d, dr main_arg2) := by
  refine Eq.trans ?_ ((Vback_ne m d (by decide) (by decide)).trans (Vcall_arg2 m d))
  unfold Vend postOps; after_results
theorem Vend_arg3 : Vend m d (dr main_arg3) = m (d, dr main_arg3) := by
  refine Eq.trans ?_ ((Vback_ne m d (by decide) (by decide)).trans (Vcall_arg3 m d))
  unfold Vend postOps; after_results

theorem Vend_v8 : Vend m d (dr main_v8) = Vcall m d (dr main_v8) := by
  refine Eq.trans ?_ (Vback_ne m d (by decide) (by decide))
  unfold Vend postOps; after_results

theorem Vend_v11 : Vend m d (dr main_v11)
    = transpose S4x256x96 [0, 2, 1] (shapeCast S4x96x256 (outA m d) shapeCasts_S98304_S4x96x256) transposes_S4x96x256_S4x256x96_0_2_1 := by
  have hi := Proc.devRef_injective (sig := sig) (.tc : Proc τ)
  have h : Vback m d (dr main_v9_0) = outA m d := by
    unfold Vback
    rw [Function.update_of_ne (hi.ne (by decide)), Function.update_self]
  rw [← h]
  unfold Vend postOps; after_results; rfl
theorem Vend_v13 : Vend m d (dr main_v13)
    = transpose S4x256x96 [0, 2, 1] (shapeCast S4x96x256 (outB m d) shapeCasts_S98304_S4x96x256) transposes_S4x96x256_S4x256x96_0_2_1 := by
  have h : Vback m d (dr main_v9_1) = outB m d := by
    unfold Vback
    rw [Function.update_self]
  rw [← h]
  unfold Vend postOps; after_results; rfl

end Arrays

/-! ## The precondition -/

theorem andi_ofBool (a b : Bool) : IntOp.andi (BitVec.ofBool a) (BitVec.ofBool b) = BitVec.ofBool (a && b) := by
  cases a <;> cases b <;> decide

theorem ofBool_eq_one (a : Bool) : BitVec.ofBool a = 1#1 ↔ a = true := by
  cases a <;> decide

theorem lt_of_range (v : BitVec 32) (e : IntOp.andi (IntOp.cmpi .sge v 0#32) (IntOp.cmpi .slt v 1024#32) = 1#1) : v.toNat < 1024 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton S_.Idx := ⟨fun i j => funext fun k => k.elim0⟩

/-- Every label and every edge entry is a segment. -/
def Ranges (a2 : IVec S4x1x384x384 32) (a3 : IVec S4x256x3 32) : Prop :=
  (∀ i, (a2 i).toNat < 1024) ∧ ∀ i, (a3 i).toNat < 1024

theorem ranges_of_reduce {a2 : IVec S4x1x384x384 32} {a3 : IVec S4x256x3 32}
    {h2 : S4x1x384x384.ReducesTo [0, 1, 2, 3] S_} {h3 : S4x256x3.ReducesTo [0, 1, 2] S_} {hu : 0 < S_.numel}
    {b2 : S_.BroadcastsInDim S4x1x384x384 (![] : Fin 0 → Fin S4x1x384x384.rank)} {b3 : S_.BroadcastsInDim S4x256x3 (![] : Fin 0 → Fin S4x256x3.rank)}
    (e : IntOp.andi
      (Host.reduce IntOp.andi (andi (cmpi .sge a2 (broadcastInDim S4x1x384x384 ![] b2 (constantI S_ 32 0#32)))
        (cmpi .slt a2 (broadcastInDim S4x1x384x384 ![] b2 (constantI S_ 32 1024#32)))) (constantI S_ 1 1#1) h2 hu (fun a => a.elim0))
      (Host.reduce IntOp.andi (andi (cmpi .sge a3 (broadcastInDim S4x256x3 ![] b3 (constantI S_ 32 0#32)))
        (cmpi .slt a3 (broadcastInDim S4x256x3 ![] b3 (constantI S_ 32 1024#32)))) (constantI S_ 1 1#1) h3 hu (fun a => a.elim0)) = 1#1) :
    Ranges a2 a3 := by
  obtain ⟨e2, e3⟩ := IntOp.andi_eq_one.1 e
  exact ⟨fun i => lt_of_range _ (Host.reduce_andi_all _ _ _ _ _ e2 i), fun i => lt_of_range _ (Host.reduce_andi_all _ _ _ _ _ e3 i)⟩

theorem ranges_of_pre {a0 : FVec F S4x96x384x384 .f32} {a1 : IVec S4x1 32} {a2 : IVec S4x1x384x384 32} {a3 : IVec S4x256x3 32}
    (e : Cert.Pre_in_range.fn (F := F) a0 a1 a2 a3 = fun _ => 1#1) : Ranges a2 a3 :=
  ranges_of_reduce (congrFun e fun a => a.elim0)

theorem ranges_of_met {a0 : FVec F S4x96x384x384 .f32} {a1 : IVec S4x1 32} {a2 : IVec S4x1x384x384 32} {a3 : IVec S4x256x3 32}
    (e : Cert.Pre_in_range_and_met.fn (F := F) a0 a1 a2 a3 = fun _ => 1#1) : Ranges a2 a3 :=
  ranges_of_reduce (IntOp.andi_eq_one.1 (congrFun e fun a => a.elim0)).1

theorem inRange_of_ranges (m : (ℓ : Loc nD τ sig) → Buf (Elt F) ℓ)
    (h : ∀ d : Dev nD, Ranges (m (d, dr main_arg2)) (m (d, dr main_arg3))) : InRange m := by
  intro d
  refine ⟨?_, ?_, ?_⟩
  · rw [Vcall_arg2]; exact (h d).1
  · rw [Vcall_v2]; exact fun i => (h d).2 _
  · rw [Vcall_v5]; exact fun i => (h d).2 _

/-! ## The frames -/

theorem args_of_QC {m : (ℓ : Loc nD τ sig) → Buf (Elt F) ℓ} {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3) :=
  ⟨(h.1 d _ (mem_SU main_arg0 (by decide))).trans (Vend_arg0 m d), (h.1 d _ (mem_SU main_arg1 (by decide))).trans (Vend_arg1 m d),
    (h.1 d _ (mem_SU main_arg2 (by decide))).trans (Vend_arg2 m d), (h.1 d _ (mem_SU main_arg3 (by decide))).trans (Vend_arg3 m d)⟩

theorem frame_kernel : Cert.quiescent_Kernel := fun m ρ hpre =>
  (θ_run (Cert.KernelIdeal.defs (F := Bits)) _ _).mono (fun _ h => ⟨fun d => args_of_QC h d, h.2⟩)
    (run_main (F := Bits) m ρ (inRange_of_ranges m fun d => ranges_of_pre (hpre d)))

theorem frame_ideal : Cert.quiescent_KernelIdeal := fun m ρ hpre =>
  (θ_run (Cert.KernelIdeal.defs (F := Ideal)) _ _).mono (fun _ h => ⟨fun d => args_of_QC h d, h.2⟩)
    (run_main (F := Ideal) m ρ (inRange_of_ranges m fun d => ranges_of_pre (hpre d)))

theorem frame_ideal_met : Cert.quiescent_KernelIdeal_pre_in_range_and_met := fun m ρ hpre =>
  (θ_run (Cert.KernelIdeal.defs (F := Ideal)) _ _).mono (fun _ h => ⟨fun d => args_of_QC h d, h.2⟩)
    (run_main (F := Ideal) m ρ (inRange_of_ranges m fun d => ranges_of_met (hpre d)))

theorem frame_reference : Cert.quiescent_ReferenceIdeal := fun m ρ _ =>
  (θ_run (Cert.ReferenceIdeal.defs (F := Ideal)) _ _).mono
    (fun r h => ⟨fun c => (h c).2.2.2, sem_eq_zero_of_no_sems (by decide) r.2⟩) (Cert.ReferenceIdeal.Value.run m ρ)

theorem frame_reference_met : Cert.quiescent_ReferenceIdeal_pre_in_range_and_met := fun m ρ _ => frame_reference m ρ trivial

end Cert.Proof.Pool

end
-- ==== Proof.Sums.lean ====
/-
  The sums a tile makes, over the extended reals: row `j` of its table holds, at segment `s`, the sum of channel `c0 + j` over
  the pixels of the segment, and row 12 the number of those pixels.
-/
module

public import proofs.«01_k».proof.Proof.Tile
public import Idealize.ShloMosaic.Lib.IdealHost

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

/-! ## Sums over the positions of a label -/

/-- The sum of `X p` over the positions `p < n` labelled `s`. -/
def hit (L : Nat → Nat) (X : Nat → EReal) (s n : Nat) : EReal := ∑ p ∈ Finset.range n, if L p = s then X p else 0

theorem hit_add (L : Nat → Nat) (X : Nat → EReal) (s n k : Nat) :
    hit L X s (n + k) = hit L X s n + hit (fun p => L (n + p)) (fun p => X (n + p)) s k := Finset.sum_range_add _ _ _

theorem hit_congr {L L' : Nat → Nat} {X X' : Nat → EReal} {s n : Nat} (h : ∀ p, p < n → L p = L' p ∧ X p = X' p) : hit L X s n = hit L' X' s n :=
  Finset.sum_congr rfl fun p hp => by
    obtain ⟨h1, h2⟩ := h p (Finset.mem_range.mp hp)
    rw [h1, h2]

theorem hit_zero (L : Nat → Nat) (X : Nat → EReal) (s : Nat) : hit L X s 0 = 0 := rfl

/-- A count is not zero when some position has the label. -/
theorem hit_one_ne_zero {L : Nat → Nat} {s n p : Nat} (hp : p < n) (h : L p = s) : hit L (fun _ => 1) s n ≠ 0 := by
  have h1 : (1 : EReal) ≤ hit L (fun _ => 1) s n := by
    refine (if_pos h : (if L p = s then (1 : EReal) else 0) = 1).symm.le.trans ?_
    exact Finset.single_le_sum (f := fun p => if L p = s then (1 : EReal) else 0) (s := Finset.range n)
      (fun i _ => by show (0 : EReal) ≤ if L i = s then 1 else 0; split; exacts [zero_le_one, le_rfl]) (Finset.mem_range.mpr hp)
  intro e
  rw [e] at h1
  exact absurd h1 (not_le.mpr zero_lt_one)

/-! ## One scatter-add -/

theorem fAt_foldl {α : Type} (st : Sums Ideal → α → Sums Ideal) (w : α → EReal) {n : Nat} (h : ∀ f k, fAt (st f k) n = (fAt f n : EReal) + w k) :
    ∀ (l : List α) (f : Sums Ideal), fAt (l.foldl st f) n = (fAt f n : EReal) + (l.map w).sum
  | [], f => by simp
  | k :: l, f => by rw [List.foldl_cons, fAt_foldl st w h l, List.map_cons, List.sum_cons, ← add_assoc, h]

/-- A scatter-add adds, at each position, the lanes that name it. -/
theorem fAt_sidx (f : Sums Ideal) (idx : Lab16 Ideal) (v : V16 Ideal) (hb : ∀ a x, ((![idx] : Fin 1 → IVec S16 32) a x).toNat < S13312.size a)
    {n : Nat} (hn : n < 13312) :
    fAt (sidx f idx v) n = (fAt f n : EReal) + hit (fun k => (idx (lane k) : BitVec 32).toNat) (fun k => v (lane k)) n 16 := by
  unfold sidx
  rw [dif_pos hb]
  unfold storeIdx
  refine (fAt_foldl _ (fun k : Fin ((![16] : Fin 1 → Nat) 0) => if (idx (lane k.val) : BitVec 32).toNat = n then (v (lane k.val) : EReal) else 0) (fun g k => ?_) _ f).trans ?_
  · have hk : (Shape.ofLane (d := ![16]) k : S16.Idx) = lane k.val := by
      funext a
      match a with
      | ⟨0, _⟩ => exact Fin.ext (Nat.mod_eq_of_lt (show k.val < 16 from k.isLt)).symm
    have e : ((nix S13312 pos13312 ![n]) 0).val = n := Nat.mod_eq_of_lt hn
    dsimp only
    rw [if_pos rfl, if_pos (show (1#1 : BitVec 1) = 1 from rfl), hk]
    by_cases h : (idx (lane k.val) : BitVec 32).toNat = n
    · have hi : idxAt ![idx] hb (lane k.val) = nix S13312 pos13312 ![n] := by
        funext a
        match a with
        | ⟨0, _⟩ => exact Fin.ext (h.trans e.symm)
      rw [hi, if_pos h]
      unfold fAt
      exact if_pos fun _ => rfl
    · rw [if_neg h, add_zero]
      unfold fAt
      exact if_neg fun hc => h ((hc 0).symm.trans e)
  · unfold hit
    rw [Finset.sum_range]
    exact congrArg _ (Fin.sum_univ_def (n := 16) _).symm

/-- A scatter-add into row `r`, read in row `j`. -/
theorem fAt_shift (f : Sums Ideal) {l : Lab16 Ideal} (hl : ∀ x, (l x : BitVec 32).toNat < 1024) {c : BitVec 32} {r j s : Nat} (hc : c.toNat = 1024 * r)
    (v : V16 Ideal) (hj : j < 13) (hs : s < 1024) (hr : r ≤ 12) :
    fAt (sidx f (shifted l c) v) (1024 * j + s)
      = (fAt f (1024 * j + s) : EReal) + if r = j then hit (fun k => (l (lane k) : BitVec 32).toNat) (fun k => v (lane k)) s 16 else 0 := by
  rw [fAt_sidx f _ v (shifted_inb hl (by omega)) (by omega)]
  congr 1
  have e : ∀ k, (shifted l c (lane k) : BitVec 32).toNat = 1024 * r + (l (lane k) : BitVec 32).toNat := fun k => by
    have := hl (lane k)
    show ((l (lane k) : BitVec 32) + c).toNat = _
    rw [BitVec.toNat_add]; omega
  simp only [e]
  unfold hit
  by_cases h : r = j
  · rw [if_pos h]
    exact Finset.sum_congr rfl fun k _ => if_congr (by dsimp only; subst h; omega) rfl rfl
  · rw [if_neg h]
    refine Finset.sum_eq_zero fun k _ => if_neg fun hk => h ?_
    have := hl (lane k)
    dsimp only at hk
    omega

/-! ## A group -/

/-- What a group adds to row `j`. -/
def rowOf (t : Grp Ideal) : Nat → V16 Ideal
  | 0 => t.2.1
  | 1 => t.2.2.1
  | 2 => t.2.2.2.1
  | 3 => t.2.2.2.2.1
  | 4 => t.2.2.2.2.2.1
  | 5 => t.2.2.2.2.2.2.1
  | 6 => t.2.2.2.2.2.2.2.1
  | 7 => t.2.2.2.2.2.2.2.2.1
  | 8 => t.2.2.2.2.2.2.2.2.2.1
  | 9 => t.2.2.2.2.2.2.2.2.2.2.1
  | 10 => t.2.2.2.2.2.2.2.2.2.2.2.1
  | 11 => t.2.2.2.2.2.2.2.2.2.2.2.2
  | _ => ones

theorem fAt_scatT (f : Sums Ideal) {t : Grp Ideal} (hl : ∀ x, (t.1 x : BitVec 32).toNat < 1024) {j s : Nat} (hj : j < 13) (hs : s < 1024) :
    fAt (scatT f t) (1024 * j + s)
      = (fAt f (1024 * j + s) : EReal) + hit (fun k => (t.1 (lane k) : BitVec 32).toNat) (fun k => rowOf t j (lane k)) s 16 := by
  unfold scatT
  rw [fAt_shift _ hl (show (11264#32).toNat = 1024 * 11 from rfl) _ hj hs (by decide), fAt_shift _ hl (show (10240#32).toNat = 1024 * 10 from rfl) _ hj hs (by decide), fAt_shift _ hl (show (9216#32).toNat = 1024 * 9 from rfl) _ hj hs (by decide), fAt_shift _ hl (show (8192#32).toNat = 1024 * 8 from rfl) _ hj hs (by decide), fAt_shift _ hl (show (7168#32).toNat = 1024 * 7 from rfl) _ hj hs (by decide), fAt_shift _ hl (show (6144#32).toNat = 1024 * 6 from rfl) _ hj hs (by decide), fAt_shift _ hl (show (5120#32).toNat = 1024 * 5 from rfl) _ hj hs (by decide), fAt_shift _ hl (show (4096#32).toNat = 1024 * 4 from rfl) _ hj hs (by decide), fAt_shift _ hl (show (3072#32).toNat = 1024 * 3 from rfl) _ hj hs (by decide), fAt_shift _ hl (show (2048#32).toNat = 1024 * 2 from rfl) _ hj hs (by decide), fAt_shift _ hl (show (1024#32).toNat = 1024 * 1 from rfl) _ hj hs (by decide), fAt_shift _ hl (show (0#32).toNat = 1024 * 0 from rfl) _ hj hs (by decide), fAt_shift _ hl (show (12288#32).toNat = 1024 * 12 from rfl) _ hj hs (by decide)]
  generalize (fAt f (1024 * j + s) : EReal) = y
  interval_cases j <;> simp [rowOf]

theorem rowOf_grp (fl : LabC Ideal) (fx : XC Ideal) (r c : Nat) {j : Nat} (hj : j < 12) : rowOf (grp fl fx r c) j = x16 fx j r c := by
  interval_cases j <;> rfl

theorem ones_ideal (x : S16.Idx) : ((ones : V16 Ideal) x : EReal) = 1 := by
  show (Ideal.ofBits .f32 0x3F800000#32 : EReal) = 1
  exact Ideal.ofBits_one_f32

/-! ## A chunk -/

/-- The label and the features of pixel `p` of a chunk, and 1 in the place of a thirteenth feature. -/
def labP (fl : LabC Ideal) (p : Nat) : Nat := (fl (nix S8x384 pos8x384 ![p / 384, p % 384]) : BitVec 32).toNat
def xP (fx : XC Ideal) (j p : Nat) : EReal := if j < 12 then fx (nix S12x8x384 pos12x8x384 ![j, p / 384, p % 384]) else 1

theorem fAt_accN (f : Sums Ideal) {fl : LabC Ideal} (fx : XC Ideal) (hl : ∀ i, (fl i : BitVec 32).toNat < 1024) {j s : Nat} (hj : j < 13) (hs : s < 1024) :
    ∀ n, fAt (accN f fl fx n) (1024 * j + s) = (fAt f (1024 * j + s) : EReal) + hit (labP fl) (xP fx j) s (16 * n)
  | 0 => by rw [Nat.mul_zero, hit_zero, add_zero]; rfl
  | n + 1 => by
    show fAt (scatT (accN f fl fx n) (grp fl fx (n / 24) (16 * (n % 24)))) (1024 * j + s) = _
    rw [fAt_scatT _ (t := grp fl fx (n / 24) (16 * (n % 24))) (fun x => hl _) hj hs, fAt_accN f fx hl hj hs n, show 16 * (n + 1) = 16 * n + 16 by omega, hit_add, add_assoc]
    congr 2
    refine hit_congr fun k hk => ⟨?_, ?_⟩
    · show (fl (nix S8x384 pos8x384 ![n / 24, 16 * (n % 24) + ((lane k) 0).val]) : BitVec 32).toNat = _
      unfold labP
      rw [lane_val hk, show (16 * n + k) / 384 = n / 24 by omega, show (16 * n + k) % 384 = 16 * (n % 24) + k by omega]
    · unfold xP
      by_cases h : j < 12
      · rw [if_pos h, rowOf_grp _ _ _ _ h]
        show fx (nix S12x8x384 pos12x8x384 ![j, n / 24, 16 * (n % 24) + ((lane k) 0).val]) = _
        rw [lane_val hk, show (16 * n + k) / 384 = n / 24 by omega, show (16 * n + k) % 384 = 16 * (n % 24) + k by omega]
      · rw [if_neg h, show j = 12 by omega]
        exact ones_ideal _

/-! ## An image -/

/-- The label of pixel `p` of image `b`, and its feature in channel `c`. -/
def labG (g : Vec Ideal S4x1x384x384 .i32) (b p : Nat) : Nat := (g (nix S4x1x384x384 posLab ![b, 0, p / 384, p % 384]) : BitVec 32).toNat
def xG (gx : Vec Ideal S4x96x384x384 .f32) (b c p : Nat) : EReal := gx (nix S4x96x384x384 posX ![b, c, p / 384, p % 384])

/-- The sum of channel `c` over segment `s` of image `b`, and the number of pixels of the segment. -/
def segSum (g : Vec Ideal S4x1x384x384 .i32) (gx : Vec Ideal S4x96x384x384 .f32) (b c s : Nat) : EReal := hit (labG g b) (xG gx b c) s 147456
def segCount (g : Vec Ideal S4x1x384x384 .i32) (b s : Nat) : EReal := hit (labG g b) (fun _ => 1) s 147456

theorem fAt_sumN {g : Vec Ideal S4x1x384x384 .i32} (gx : Vec Ideal S4x96x384x384 .f32) (hg : ∀ i, (g i : BitVec 32).toNat < 1024) (b c0 : Nat) (f : Sums Ideal)
    {j s : Nat} (hj : j < 13) (hs : s < 1024) :
    ∀ n, fAt (sumN g gx b c0 f n) (1024 * j + s)
      = (fAt f (1024 * j + s) : EReal) + hit (labG g b) (fun p => if j < 12 then xG gx b (c0 + j) p else 1) s (3072 * n)
  | 0 => by rw [Nat.mul_zero, hit_zero, add_zero]; rfl
  | n + 1 => by
    show fAt (accN (sumN g gx b c0 f n) (labC g b n) (xC gx b c0 n) 192) (1024 * j + s) = _
    rw [fAt_accN _ (fl := labC g b n) (xC gx b c0 n) (fun i => hg _) hj hs, fAt_sumN gx hg b c0 f hj hs n, show 3072 * (n + 1) = 3072 * n + 16 * 192 by omega, hit_add, add_assoc]
    congr 2
    refine hit_congr fun p hp => ⟨?_, ?_⟩
    · show (g (nix S4x1x384x384 posLab ![b, 0, 8 * n + (p / 384) % 8, (p % 384) % 384]) : BitVec 32).toNat = _
      unfold labG
      rw [show (3072 * n + p) / 384 = 8 * n + (p / 384) % 8 by omega, show (3072 * n + p) % 384 = (p % 384) % 384 by omega]
    · unfold xP
      by_cases h : j < 12
      · rw [if_pos h, if_pos h]
        show gx (nix S4x96x384x384 posX ![b, c0 + j % 12, 8 * n + (p / 384) % 8, (p % 384) % 384]) = _
        unfold xG
        rw [show (3072 * n + p) / 384 = 8 * n + (p / 384) % 8 by omega, show (3072 * n + p) % 384 = (p % 384) % 384 by omega, Nat.mod_eq_of_lt h]
      · rw [if_neg h, if_neg h]

theorem zc_ideal : ((zc : Ideal .f32) : EReal) = 0 := Ideal.ofBits_zero_f32
theorem oc_ideal : ((oc : Ideal .f32) : EReal) = 1 := Ideal.ofBits_one_f32

/-- A mean of the table is the quotient of a segment's sum by its count, where the segment has a pixel. -/
theorem meanAt_table {g : Vec Ideal S4x1x384x384 .i32} (gx : Vec Ideal S4x96x384x384 .f32) (hg : ∀ i, (g i : BitVec 32).toNat < 1024) (b c0 : Nat)
    {j s : Nat} (hj : j < 12) (hs : s < 1024) (h0 : segCount g b s ≠ 0) :
    (meanAt (tableF g gx b c0) j s : EReal) = Ideal.div (segSum g gx b (c0 + j) s) (segCount g b s) := by
  have e1 : (fAt (tableF g gx b c0) (1024 * j + s) : EReal) = segSum g gx b (c0 + j) s := by
    unfold tableF
    rw [fAt_sumN gx hg b c0 _ (by omega) hs 48]
    show ((zc : Ideal .f32) : EReal) + _ = _
    rw [zc_ideal, zero_add]
    exact hit_congr fun p _ => ⟨rfl, if_pos hj⟩
  have e2 : (fAt (tableF g gx b c0) (12288 + s) : EReal) = segCount g b s := by
    unfold tableF
    rw [show 12288 + s = 1024 * 12 + s by omega, fAt_sumN gx hg b c0 _ (by omega) hs 48]
    show ((zc : Ideal .f32) : EReal) + _ = _
    rw [zc_ideal, zero_add]
    rfl
  show (fAt (tableF g gx b c0) (1024 * j + s) : EReal) * Ideal.div ((oc : Ideal .f32) : EReal) (fAt (tableF g gx b c0) (12288 + s)) = _
  rw [e1, e2, oc_ideal, Ideal.mul_one_div h0]

/-- A segment without a pixel: the kernel's product with 1/0 and the reference's 0/0 differ. -/
theorem quotients_differ : (0 : EReal) * Ideal.div 1 0 ≠ Ideal.div 0 0 := by
  rw [zero_mul]
  unfold Ideal.div
  simp

end Cert.Proof.Pool

end
-- ==== Proof.RefOps.lean ====
/-
  The reference's operations, read at an index: a scatter-add into rows or into entries is a sum over the updates,
  four pieces one after the other, a checked look-up in a table of 1024 rows.
-/
module

public import proofs.«01_k».proof.Proof.Sums
public import proofs.«01_k».proof.Proof.Gen.ReferenceIdeal
public import Idealize.ShloMosaic.Lib.ReduceAll
public import Idealize.ShloMosaic.Lib.IdealHost
public import Idealize.ShloMosaic.Lib.Routing.Ops
public import Idealize.ShloMosaic.Lib.Routing.OpsPair
public import Idealize.ShloMosaic.Lib.Pipeline.Value

@[expose] public section

noncomputable section

namespace Cert.Proof.Pool

open Cert.ReferenceIdeal Cert.ReferenceIdeal.Gen

open Idealize.ShloMosaic Idealize.ShloMosaic.ValueIdx Idealize.ShloMosaic.Routing

/-! ## Scatter-adds -/

/-- The start of an update of a scatter by one index word each, on the axis the word names. -/
theorem start_word {s u : Shape} {N : Nat} {a0 : Fin s.rank} (d : ScatterDims s (shape2 N 1) u) (hsd : d.scatterDimsToOperandDims = [a0]) (hivd : d.indexVectorDim = 1)
    (idx : IVec (shape2 N 1) 32) (j : u.Idx) (p : Fin N)
    (hp : ∀ hb, (d.siCoord j (0 : Fin 2) hb).val = p.val) : d.start j idx a0 = (idx (ix2 p (0 : Fin 1))).toInt := by
  have hm : a0 ∈ d.scatterDimsToOperandDims := by rw [hsd]; exact List.mem_singleton.2 rfl
  unfold ScatterDims.start
  rw [dif_pos hm]
  have hsi : d.siIdx j ⟨d.scatterDimsToOperandDims.idxOf a0, List.idxOf_lt_length_iff.2 hm⟩ = ix2 p (0 : Fin 1) := by
    funext b'
    apply Fin.ext
    match b' with
    | ⟨0, _⟩ =>
      unfold ScatterDims.siIdx
      rw [dif_neg (by rw [hivd]; exact Nat.zero_ne_one)]
      exact hp _
    | ⟨1, _⟩ =>
      unfold ScatterDims.siIdx
      rw [dif_pos (by rw [hivd])]
      show List.idxOf a0 d.scatterDimsToOperandDims = 0
      rw [hsd]; simp
  rw [hsi]

/-- Update `(p, q)` of a scatter of rows lands at `(r, c)` exactly when the word of `p` is `r` and `q` is `c`. -/
theorem lands_rows {R C N : Nat} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) 32) (p : Fin N) (q : Fin C) (r : Fin R) (c : Fin C) :
    d.resultIdx? (ix2 p q) idx = some (ix2 r c) ↔ (idx (ix2 p (0 : Fin 1))).toInt = (r.val : Int) ∧ q = c := by
  have hk : d.sKept = [1] := by
    show (shape2 R C).kept d.insertedWindowDims = _
    rw [hiw]
    rfl
  have hu : d.uScatter = [0] := by
    show (shape2 N C).kept d.updateWindowDims = _
    rw [huw]
    rfl
  have hwin0 : d.window (ix2 p q) 0 = 0 := by
    unfold ScatterDims.window
    rw [dif_neg fun h => (of_decide_eq_true (List.mem_filter.1 h).2) (by rw [hiw]; exact List.mem_singleton.2 rfl)]
  have hwin1 : d.window (ix2 p q) 1 = q.val := by
    unfold ScatterDims.window
    rw [dif_pos (by rw [hk]; exact List.mem_singleton.2 rfl)]
    have q1 : ∀ (X : Fin 2), X = 1 → (ix2 p q X).val = q.val := fun X hX => by subst hX; rfl
    exact q1 _ (by simp [huw])
  have hstart1 : d.start (ix2 p q) idx 1 = 0 := by
    unfold ScatterDims.start
    rw [dif_neg fun h => by rw [hsd] at h; exact absurd (List.mem_singleton.1 h) (by decide : (1 : Fin 2) ≠ 0)]
  have hstart0 := start_word d hsd hivd idx (ix2 p q) p fun hb => by
    unfold ScatterDims.siCoord
    simp only [Fin.val_cast]
    have q0 : ∀ (X : Fin 2), X = 0 → (ix2 p q X).val = p.val := fun X hX => by subst hX; rfl
    exact q0 _ (by simp [hu])
  rw [Fin.ext_iff, resultIdx?_ix2, hstart0, hwin0, hstart1, hwin1]
  omega

/-- Update `p` of a scatter of entries lands at `r` exactly when its word is `r`. -/
theorem lands_entries {R N : Nat} (d : ScatterDims (shape1 R) (shape2 N 1) (shape1 N)) (hiw : d.insertedWindowDims = [0])
    (hsd : d.scatterDimsToOperandDims = [0]) (hivd : d.indexVectorDim = 1) (idx : IVec (shape2 N 1) 32) (p : Fin N) (r : Fin R) :
    d.resultIdx? (ix1 p) idx = some (ix1 r) ↔ (idx (ix2 p (0 : Fin 1))).toInt = (r.val : Int) := by
  have hwin0 : d.window (ix1 p) 0 = 0 := by
    unfold ScatterDims.window
    rw [dif_neg fun h => (of_decide_eq_true (List.mem_filter.1 h).2) (by rw [hiw]; exact List.mem_singleton.2 rfl)]
  have hstart0 := start_word d hsd hivd idx (ix1 p) p fun hb => by
    unfold ScatterDims.siCoord
    simp only [Fin.val_cast]
    exact congrArg (fun t => ((ix1 p : (shape1 N).Idx) t).val) (Subsingleton.elim (α := Fin 1) _ 0)
  rw [resultIdx?_ix1, hstart0, hwin0]
  omega

theorem scatter_rows {R C N : Nat} (d : ScatterDims (shape2 R C) (shape2 N 1) (shape2 N C)) (huw : d.updateWindowDims = [1]) (hiw : d.insertedWindowDims = [0])
    (hsd : d.scatterDimsToOperandDims = [0]) (hivd : d.indexVectorDim = 1) (x : (shape2 R C).Idx → EReal) (idx : IVec (shape2 N 1) 32) (upd : (shape2 N C).Idx → EReal)
    (r : Fin R) (c : Fin C) (L : Nat → Nat) (X : Nat → EReal) (hL : ∀ p : Fin N, (idx (ix2 p (0 : Fin 1))).toInt = (L p.val : Int))
    (hX : ∀ p : Fin N, upd (ix2 p c) = X p.val) (hx : x (ix2 r c) = 0) : Ideal.hostScatterAdd d x idx upd (ix2 r c) = hit L X r.val N := by
  unfold Ideal.hostScatterAdd hit
  rw [hx, zero_add, Finset.sum_range, ← Finset.sum_filter]
  have key : ∀ (p : Fin N) (q : Fin C), d.resultIdx? (ix2 p q) idx = some (ix2 r c) ↔ L p.val = r.val ∧ q = c := fun p q => by
    rw [lands_rows d huw hiw hsd hivd, hL]; omega
  refine Finset.sum_nbij' (fun j => (j 0 : Fin N)) (fun p => ix2 p c) (fun j hj => ?_) (fun p hp => ?_) (fun j hj => ?_) (fun p _ => rfl) (fun j hj => ?_)
  · obtain ⟨p, q, rfl⟩ : ∃ (p : Fin N) (q : Fin C), j = ix2 p q := ⟨_, _, eq_ix2 j⟩
    exact Finset.mem_filter.2 ⟨Finset.mem_univ _, ((key p q).1 (Finset.mem_filter.1 hj).2).1⟩
  · exact Finset.mem_filter.2 ⟨Finset.mem_univ _, (key p c).2 ⟨(Finset.mem_filter.1 hp).2, rfl⟩⟩
  · obtain ⟨p, q, rfl⟩ : ∃ (p : Fin N) (q : Fin C), j = ix2 p q := ⟨_, _, eq_ix2 j⟩
    obtain rfl := ((key p q).1 (Finset.mem_filter.1 hj).2).2
    rfl
  · obtain ⟨p, q, rfl⟩ : ∃ (p : Fin N) (q : Fin C), j = ix2 p q := ⟨_, _, eq_ix2 j⟩
    obtain rfl := ((key p q).1 (Finset.mem_filter.1 hj).2).2
    exact hX p

theorem scatter_entries {R N : Nat} (d : ScatterDims (shape1 R) (shape2 N 1) (shape1 N)) (hiw : d.insertedWindowDims = [0])
    (hsd : d.scatterDimsToOperandDims = [0]) (hivd : d.indexVectorDim = 1) (x : (shape1 R).Idx → EReal) (idx : IVec (shape2 N 1) 32) (upd : (shape1 N).Idx → EReal)
    (r : Fin R) (L : Nat → Nat) (X : Nat → EReal) (hL : ∀ p : Fin N, (idx (ix2 p (0 : Fin 1))).toInt = (L p.val : Int))
    (hX : ∀ p : Fin N, upd (ix1 p) = X p.val) (hx : x (ix1 r) = 0) : Ideal.hostScatterAdd d x idx upd (ix1 r) = hit L X r.val N := by
  unfold Ideal.hostScatterAdd hit
  rw [hx, zero_add, Finset.sum_range, ← Finset.sum_filter]
  have key : ∀ p : Fin N, d.resultIdx? (ix1 p) idx = some (ix1 r) ↔ L p.val = r.val := fun p => by
    rw [lands_entries d hiw hsd hivd, hL]; omega
  refine Finset.sum_nbij' (fun j => (j 0 : Fin N)) (fun p => ix1 p) (fun j hj => ?_) (fun p hp => ?_) (fun j hj => (eq_ix1 j).symm) (fun p _ => rfl) (fun j hj => ?_)
  · obtain ⟨p, rfl⟩ : ∃ p : Fin N, j = ix1 p := ⟨_, eq_ix1 j⟩
    exact Finset.mem_filter.2 ⟨Finset.mem_univ _, (key p).1 (Finset.mem_filter.1 hj).2⟩
  · exact Finset.mem_filter.2 ⟨Finset.mem_univ _, (key p).2 (Finset.mem_filter.1 hp).2⟩
  · obtain ⟨p, rfl⟩ : ∃ p : Fin N, j = ix1 p := ⟨_, eq_ix1 j⟩
    exact hX p

/-! ## Pieces one after the other -/

theorem four_pieces {α : Type} (f0 f1 f2 f3 : S1x256x96.Idx → α) (h) (b : Fin 4) (k : Fin 256) (c : Fin 96) :
    concatenate S4x256x96 0 [⟨S1x256x96, f0⟩, ⟨S1x256x96, f1⟩, ⟨S1x256x96, f2⟩, ⟨S1x256x96, f3⟩] h (ix3 b k c) = (![f0, f1, f2, f3] b) (ix3 (0 : Fin 1) k c) := by
  have off : ∀ a : Fin 3, a ≠ 0 → ((ix3 (0 : Fin 1) k c : S1x256x96.Idx) a).val = ((ix3 b k c : S4x256x96.Idx) a).val := fun a ha => by
    match a with
    | ⟨0, _⟩ => exact absurd rfl ha
    | ⟨1, _⟩ => rfl
    | ⟨2, _⟩ => rfl
  match b with
  | ⟨0, _⟩ => exact concatenate_apply_piece (t := S4x256x96) 0 _ h _ 0 (show 0 < 4 by decide) S1x256x96 f0 rfl rfl 0 rfl (ix3 (0 : Fin 1) k c) off rfl
  | ⟨1, _⟩ => exact concatenate_apply_piece (t := S4x256x96) 0 _ h _ 1 (show 1 < 4 by decide) S1x256x96 f1 rfl rfl 1 rfl (ix3 (0 : Fin 1) k c) off rfl
  | ⟨2, _⟩ => exact concatenate_apply_piece (t := S4x256x96) 0 _ h _ 2 (show 2 < 4 by decide) S1x256x96 f2 rfl rfl 2 rfl (ix3 (0 : Fin 1) k c) off rfl
  | ⟨3, _⟩ => exact concatenate_apply_piece (t := S4x256x96) 0 _ h _ 3 (show 3 < 4 by decide) S1x256x96 f3 rfl rfl 3 rfl (ix3 (0 : Fin 1) k c) off rfl

theorem four_rows {α : Type} (f0 f1 f2 f3 : S1x256.Idx → α) (h) (b : Fin 4) (k : Fin 256) :
    concatenate S4x256 0 [⟨S1x256, f0⟩, ⟨S1x256, f1⟩, ⟨S1x256, f2⟩, ⟨S1x256, f3⟩] h (ix2 b k) = (![f0, f1, f2, f3] b) (ix2 (0 : Fin 1) k) := by
  have off : ∀ a : Fin 2, a ≠ 0 → ((ix2 (0 : Fin 1) k : S1x256.Idx) a).val = ((ix2 b k : S4x256.Idx) a).val := fun a ha => by
    match a with
    | ⟨0, _⟩ => exact absurd rfl ha
    | ⟨1, _⟩ => rfl
  match b with
  | ⟨0, _⟩ => exact concatenate_apply_piece (t := S4x256) 0 _ h _ 0 (show 0 < 4 by decide) S1x256 f0 rfl rfl 0 rfl (ix2 (0 : Fin 1) k) off rfl
  | ⟨1, _⟩ => exact concatenate_apply_piece (t := S4x256) 0 _ h _ 1 (show 1 < 4 by decide) S1x256 f1 rfl rfl 1 rfl (ix2 (0 : Fin 1) k) off rfl
  | ⟨2, _⟩ => exact concatenate_apply_piece (t := S4x256) 0 _ h _ 2 (show 2 < 4 by decide) S1x256 f2 rfl rfl 2 rfl (ix2 (0 : Fin 1) k) off rfl
  | ⟨3, _⟩ => exact concatenate_apply_piece (t := S4x256) 0 _ h _ 3 (show 3 < 4 by decide) S1x256 f3 rfl rfl 3 rfl (ix2 (0 : Fin 1) k) off rfl

/-! ## The look-up -/

/-- A segment below 1024 is between 0 and 1023, read signed. -/
theorem range_of_lt (v : BitVec 32) (h : v.toNat < 1024) : IntOp.andi (IntOp.cmpi .sge v 0#32) (IntOp.cmpi .sle v 1023#32) = 1#1 := by
  have e : ∀ a b : Bool, IntOp.andi (BitVec.ofBool a) (BitVec.ofBool b) = BitVec.ofBool (a && b) := fun a b => by cases a <;> cases b <;> decide
  have t : ∀ a : Bool, BitVec.ofBool a = 1#1 ↔ a = true := fun a => by cases a <;> decide
  simp only [IntOp.cmpi, e, t, Bool.and_eq_true, BitVec.sle_eq_decide, decide_eq_true_eq, BitVec.toInt_eq_toNat_cond, BitVec.toNat_ofNat, Nat.reducePow, Nat.reduceMod]
  omega

/-- The rows of a table that a list of segments names, with the check that they are rows. -/
def takeRows (M : FVec Ideal S1024x96 .f32) (C : IVec S256x1 32) : FVec Ideal S1x256x96 .f32 :=
  broadcastInDim S1x256x96 ![1, 2] bcast_S256x96_S1x256x96_1_2 (select (broadcastInDim S256x96 ![0] bcast_S256_S256x96_0 (Host.reduce IntOp.andi (andi (cmpi .sge C (broadcastInDim S256x1 ![] bcast_S_S256x1 (constantI S_ 32 0#32))) (cmpi .sle C (broadcastInDim S256x1 ![0, 1] bcast_S1x1_S256x1_0_1 (broadcastInDim S1x1 ![1] bcast_S1_S1x1_1 (constantI S1 32 1023#32))))) (constantI S_ 1 1#1) reducesTo_S256x1_S256_d1 h_S_)) (Host.gather gather_S1024x96_S256x1_S256x96_1_0_n_n_0_1_196 M C) (broadcastInDim S256x96 ![] bcast_S_S256x96 (constant S_ .f32 0x7FC00000#32)))

theorem takeRows_at (M : FVec Ideal S1024x96 .f32) (C : IVec S256x1 32) (hC : ∀ i, (C i).toNat < 1024) (k : Fin 256) (c : Fin 96) :
    takeRows M C (ix3 (0 : Fin 1) k c) = M (ix2 ⟨(C (ix2 k (0 : Fin 1))).toNat, hC _⟩ c) := by
  unfold takeRows
  refine (broadcastInDim_apply (s := S256x96) (t := S1x256x96) _ _ _ _ (ix2 k c) fun a => ?_).trans ?_
  · match a with
    | ⟨0, _⟩ => rfl
    | ⟨1, _⟩ => rfl
  show (if _ = 1#1 then _ else _) = _
  rw [if_pos]
  · exact gather_row gather_S1024x96_S256x1_S256x96_1_0_n_n_0_1_196 rfl rfl rfl rfl rfl M C k c ⟨(C (ix2 k (0 : Fin 1))).toNat, hC _⟩ (BitVec.ofNat_toNat _ _ ▸ by simp) (by decide)
  · exact Host.reduce_andi_one _ _ _ _ _ rfl fun i => range_of_lt _ (hC i)

end Cert.Proof.Pool

end
-- ==== Proof.RefValue.lean ====
/-
  The reference's results, index by index: the mean of a segment, in the row of each edge end.
-/
module

public import proofs.«01_k».proof.Proof.RefOps
public import proofs.«01_k».proof.Proof.Gen.ReferenceIdeal.Run

@[expose] public section

noncomputable section

namespace Cert.Proof.Pool

open Cert.ReferenceIdeal Cert.ReferenceIdeal.Gen

open Idealize.ShloMosaic Idealize.ShloMosaic.ValueIdx Idealize.ShloMosaic.Routing

/-! ## What both programs compute -/

/-- The mean of channel `c` over the segment that column `col` of edge `k` of image `b` names. -/
def pooled (a0 : FVec Ideal S4x96x384x384 .f32) (a2 : IVec S4x1x384x384 32) (a3 : IVec S4x256x3 32) (col : Fin 3) : FVec Ideal S4x256x96 .f32 :=
  fun i => Ideal.div (segSum a2 a0 (i 0).val (i 2).val (a3 (ix3 (i 0) (i 1) col) : BitVec 32).toNat)
    (segCount a2 (i 0).val (a3 (ix3 (i 0) (i 1) col) : BitVec 32).toNat)

/-! ## An image's slices -/

def labRow (a2 : IVec S4x1x384x384 32) (b : Nat) (h : S4x147456.Slices ![b, 0] S1x147456) : IVec S147456 32 :=
  shapeCast S147456 (extractStridedSlice S1x147456 ![b, 0] (shapeCast S4x147456 a2 shapeCasts_S4x1x384x384_S4x147456) h) shapeCasts_S1x147456_S147456

theorem labRow_at (a2 : IVec S4x1x384x384 32) {b : Nat} (hb : b < 4) (h : S4x147456.Slices ![b, 0] S1x147456) (p : Fin 147456) :
    labRow a2 b h (ix1 p) = a2 (nix S4x1x384x384 posLab ![b, 0, p.val / 384, p.val % 384]) := by
  have hp := p.isLt
  unfold labRow
  refine (shapeCast_apply _ _ _ (ix2 (0 : Fin 1) p) ?_).trans ((extractStridedSlice_apply _ _ _ _ (ix2 (⟨b, hb⟩ : Fin 4) p) fun a => ?_).trans (shapeCast_apply _ _ _ _ ?_))
  · rw [Shape.rowMajor_val_two, Shape.rowMajor_val_one]
    show 0 * 147456 + p.val = p.val
    omega
  · match a with
    | ⟨0, _⟩ => rfl
    | ⟨1, _⟩ => exact (Nat.zero_add _).symm
  · rw [Shape.rowMajor_val_two, Shape.rowMajor_val_four]
    show ((b % 4 * 1 + 0 % 1) * 384 + (p.val / 384) % 384) * 384 + (p.val % 384) % 384 = b * 147456 + p.val
    omega

def featCol (a0 : FVec Ideal S4x96x384x384 .f32) (b : Nat) (h : S4x96x147456.Slices ![b, 0, 0] S1x96x147456) : FVec Ideal S147456x96 .f32 :=
  transpose S147456x96 [1, 0] (shapeCast S96x147456 (extractStridedSlice S1x96x147456 ![b, 0, 0] (shapeCast S4x96x147456 a0 shapeCasts_S4x96x384x384_S4x96x147456) h)
    shapeCasts_S1x96x147456_S96x147456) transposes_S96x147456_S147456x96_1_0

theorem featCol_at (a0 : FVec Ideal S4x96x384x384 .f32) {b : Nat} (hb : b < 4) (h : S4x96x147456.Slices ![b, 0, 0] S1x96x147456) (p : Fin 147456) (c : Fin 96) :
    featCol a0 b h (ix2 p c) = xG a0 b c.val p.val := by
  have hp := p.isLt
  have hc := c.isLt
  unfold featCol xG
  refine (transpose_apply (s := S96x147456) (t := S147456x96) _ _ _ _ (ix2 c p) fun a => ?_).trans ((shapeCast_apply _ _ _ (ix3 (0 : Fin 1) c p) ?_).trans
    ((extractStridedSlice_apply _ _ _ _ (ix3 (⟨b, hb⟩ : Fin 4) c p) fun a => ?_).trans (shapeCast_apply _ _ _ _ ?_)))
  · match a with
    | ⟨0, _⟩ => rfl
    | ⟨1, _⟩ => rfl
  · rw [Shape.rowMajor_val_two, Shape.rowMajor_val_three]
    show (0 * 96 + c.val) * 147456 + p.val = c.val * 147456 + p.val
    omega
  · match a with
    | ⟨0, _⟩ => rfl
    | ⟨1, _⟩ => exact (Nat.zero_add _).symm
    | ⟨2, _⟩ => exact (Nat.zero_add _).symm
  · rw [Shape.rowMajor_val_three, Shape.rowMajor_val_four]
    show ((b % 4 * 96 + c.val % 96) * 384 + (p.val / 384) % 384) * 384 + (p.val % 384) % 384 = (b * 96 + c.val) * 147456 + p.val
    omega

def edgeRow (a3 : IVec S4x256x3 32) (b : Nat) (h : S4x256x3.Slices ![b, 0, 0] S1x256x3) : IVec S256x3 32 :=
  shapeCast S256x3 (extractStridedSlice S1x256x3 ![b, 0, 0] a3 h) shapeCasts_S1x256x3_S256x3

theorem edgeRow_at (a3 : IVec S4x256x3 32) (b : Fin 4) (h : S4x256x3.Slices ![b.val, 0, 0] S1x256x3) (k : Fin 256) (col : Fin 3) :
    edgeRow a3 b.val h (ix2 k col) = a3 (ix3 b k col) := by
  unfold edgeRow
  refine (shapeCast_apply _ _ _ (ix3 (0 : Fin 1) k col) ?_).trans (extractStridedSlice_apply _ _ _ _ (ix3 b k col) fun a => ?_)
  · rw [Shape.rowMajor_val_two, Shape.rowMajor_val_three]
    show (0 * 256 + k.val) * 3 + col.val = k.val * 3 + col.val
    omega
  · match a with
    | ⟨0, _⟩ => rfl
    | ⟨1, _⟩ => exact (Nat.zero_add _).symm
    | ⟨2, _⟩ => exact (Nat.zero_add _).symm

def edgeCol (E : IVec S256x3 32) (col : Nat) (h : S256x3.Slices ![0, col] S256x1) : IVec S256 32 :=
  shapeCast S256 (extractStridedSlice S256x1 ![0, col] E h) shapeCasts_S256x1_S256

theorem edgeCol_at (E : IVec S256x3 32) (col : Fin 3) (h : S256x3.Slices ![0, col.val] S256x1) (k : Fin 256) : edgeCol E col.val h (ix1 k) = E (ix2 k col) := by
  unfold edgeCol
  refine (shapeCast_apply _ _ _ (ix2 k (0 : Fin 1)) ?_).trans (extractStridedSlice_apply _ _ _ _ (ix2 k col) fun a => ?_)
  · rw [Shape.rowMajor_val_two, Shape.rowMajor_val_one]
    show k.val * 1 + 0 = k.val
    omega
  · match a with
    | ⟨0, _⟩ => exact (Nat.zero_add _).symm
    | ⟨1, _⟩ => rfl

/-- A list of rows as one column, a negative row counted from the end. -/
def wrapCol (v : IVec S256 32) : IVec S256x1 32 :=
  broadcastInDim S256x1 ![0] bcast_S256_S256x1_0 (select (cmpi .slt v (broadcastInDim S256 ![] bcast_S_S256 (constantI S_ 32 0#32)))
    (addi v (broadcastInDim S256 ![] bcast_S_S256 (constantI S_ 32 1024#32))) v)

theorem wrapCol_at (v : IVec S256 32) (k : Fin 256) (h : (v (ix1 k)).toNat < 1024) : wrapCol v (ix2 k (0 : Fin 1)) = v (ix1 k) := by
  unfold wrapCol
  refine (bcCol _ _ k).trans ?_
  exact wrap_of_lt (v (ix1 k)) _ (by omega)

/-! ## The means of an image -/

def meansOf (lab : IVec S147456 32) (feat : FVec Ideal S147456x96 .f32) : FVec Ideal S1024x96 .f32 :=
  Host.divf (Host.scatterAdd scatter_S1024x96_S147456x1_S147456x96_1_0_0_1 (broadcastInDim S1024x96 ![] bcast_S_S1024x96 (constant S_ .f32 0x00000000#32))
      (broadcastInDim S147456x1 ![0] bcast_S147456_S147456x1_0 lab) feat)
    (broadcastInDim S1024x96 ![0, 1] bcast_S1024x1_S1024x96_0_1 (broadcastInDim S1024x1 ![0] bcast_S1024_S1024x1_0
      (Host.scatterAdd scatter_S1024_S147456x1_S147456_n_0_0_1 (broadcastInDim S1024 ![] bcast_S_S1024 (constant S_ .f32 0x00000000#32))
        (broadcastInDim S147456x1 ![0] bcast_S147456_S147456x1_0 lab) (broadcastInDim S147456 ![] bcast_S_S147456 (constant S_ .f32 0x3F800000#32)))))

theorem meansOf_at (lab : IVec S147456 32) (feat : FVec Ideal S147456x96 .f32) (hlab : ∀ i, (lab i).toNat < 1024) (l : Fin 1024) (c : Fin 96) (L : Nat → Nat) (X : Nat → EReal)
    (hL : ∀ p : Fin 147456, (lab (ix1 p)).toNat = L p.val) (hX : ∀ p : Fin 147456, feat (ix2 p c) = X p.val) :
    meansOf lab feat (ix2 l c) = Ideal.div (hit L X l.val 147456) (hit L (fun _ => 1) l.val 147456) := by
  have hw : ∀ p : Fin 147456, (broadcastInDim S147456x1 ![0] bcast_S147456_S147456x1_0 lab (ix2 p (0 : Fin 1)) : BitVec 32).toInt = (L p.val : Int) := fun p => by
    rw [show broadcastInDim S147456x1 ![0] bcast_S147456_S147456x1_0 lab (ix2 p (0 : Fin 1)) = lab (ix1 p) from bcCol _ lab p, ← hL, BitVec.toInt_eq_toNat_cond]
    have := hlab (ix1 p)
    rw [if_pos (by omega)]
  have e1 : Ideal.hostScatterAdd scatter_S1024x96_S147456x1_S147456x96_1_0_0_1 (broadcastInDim S1024x96 ![] bcast_S_S1024x96 (constant (F := Ideal) S_ .f32 0x00000000#32))
      (broadcastInDim S147456x1 ![0] bcast_S147456_S147456x1_0 lab) feat (ix2 l c) = hit L X l.val 147456 :=
    scatter_rows scatter_S1024x96_S147456x1_S147456x96_1_0_0_1 rfl rfl rfl rfl _ _ _ l c L X hw hX Ideal.ofBits_zero_f32
  have e2 : Ideal.hostScatterAdd scatter_S1024_S147456x1_S147456_n_0_0_1 (broadcastInDim S1024 ![] bcast_S_S1024 (constant (F := Ideal) S_ .f32 0x00000000#32))
      (broadcastInDim S147456x1 ![0] bcast_S147456_S147456x1_0 lab) (broadcastInDim S147456 ![] bcast_S_S147456 (constant (F := Ideal) S_ .f32 0x3F800000#32)) (ix1 l)
        = hit L (fun _ => 1) l.val 147456 :=
    scatter_entries scatter_S1024_S147456x1_S147456_n_0_0_1 rfl rfl rfl _ _ _ l L (fun _ => 1) hw (fun _ => Ideal.ofBits_one_f32) Ideal.ofBits_zero_f32
  unfold meansOf
  rw [hostDivf_apply]
  exact congrArg₂ Ideal.div e1 ((bcRows _ _ _ l c).trans e2)

/-- One image's part of a result. -/
def imageOf (a0 : FVec Ideal S4x96x384x384 .f32) (a2 : IVec S4x1x384x384 32) (a3 : IVec S4x256x3 32) (b col : Nat) (h1 : S4x147456.Slices ![b, 0] S1x147456)
    (h2 : S4x96x147456.Slices ![b, 0, 0] S1x96x147456) (h3 : S4x256x3.Slices ![b, 0, 0] S1x256x3) (h4 : S256x3.Slices ![0, col] S256x1) : FVec Ideal S1x256x96 .f32 :=
  takeRows (meansOf (labRow a2 b h1) (featCol a0 b h2)) (wrapCol (edgeCol (edgeRow a3 b h3) col h4))

theorem imageOf_at (a0 : FVec Ideal S4x96x384x384 .f32) {a2 : IVec S4x1x384x384 32} {a3 : IVec S4x256x3 32} (r2 : ∀ i, (a2 i).toNat < 1024) (r3 : ∀ i, (a3 i).toNat < 1024)
    (b : Fin 4) (col : Fin 3) (h1 : S4x147456.Slices ![b.val, 0] S1x147456) (h2 : S4x96x147456.Slices ![b.val, 0, 0] S1x96x147456)
    (h3 : S4x256x3.Slices ![b.val, 0, 0] S1x256x3) (h4 : S256x3.Slices ![0, col.val] S256x1) (k : Fin 256) (c : Fin 96) :
    imageOf a0 a2 a3 b.val col.val h1 h2 h3 h4 (ix3 (0 : Fin 1) k c) = pooled a0 a2 a3 col (ix3 b k c) := by
  have hE : ∀ k : Fin 256, edgeCol (edgeRow a3 b.val h3) col.val h4 (ix1 k) = a3 (ix3 b k col) := fun k => (edgeCol_at _ col h4 k).trans (edgeRow_at a3 b h3 k col)
  have hC : ∀ k : Fin 256, wrapCol (edgeCol (edgeRow a3 b.val h3) col.val h4) (ix2 k (0 : Fin 1)) = a3 (ix3 b k col) := fun k =>
    (wrapCol_at _ k (by rw [hE]; exact r3 _)).trans (hE k)
  have hC' : ∀ i, (wrapCol (edgeCol (edgeRow a3 b.val h3) col.val h4) i).toNat < 1024 := fun i => by
    obtain ⟨k, z, rfl⟩ : ∃ (k : Fin 256) (z : Fin 1), i = ix2 k z := ⟨_, _, eq_ix2 i⟩
    obtain rfl : z = 0 := Subsingleton.elim _ _
    rw [hC]; exact r3 _
  unfold imageOf
  rw [takeRows_at _ _ hC' k c, meansOf_at (labRow a2 b.val h1) (featCol a0 b.val h2) (fun i => r2 _) _ c (labG a2 b.val) (xG a0 b.val c.val)
    (fun p => by rw [labRow_at a2 b.isLt h1 p]; rfl) (fun p => featCol_at a0 b.isLt h2 p c)]
  show Ideal.div (segSum a2 a0 b.val c.val (wrapCol (edgeCol (edgeRow a3 b.val h3) col.val h4) (ix2 k (0 : Fin 1))).toNat)
    (segCount a2 b.val (wrapCol (edgeCol (edgeRow a3 b.val h3) col.val h4) (ix2 k (0 : Fin 1))).toNat) = _
  rw [hC]
  rfl

/-! ## The results -/

theorem images_eq (a0 : FVec Ideal S4x96x384x384 .f32) {a2 : IVec S4x1x384x384 32} {a3 : IVec S4x256x3 32} (r2 : ∀ i, (a2 i).toNat < 1024) (r3 : ∀ i, (a3 i).toNat < 1024)
    (col : Fin 3) (h4 : S256x3.Slices ![0, col.val] S256x1) (h) :
    concatenate S4x256x96 0 [
      ⟨S1x256x96, imageOf a0 a2 a3 0 col.val slices_S4x147456_S1x147456_0_0 slices_S4x96x147456_S1x96x147456_0_0_0 slices_S4x256x3_S1x256x3_0_0_0 h4⟩,
      ⟨S1x256x96, imageOf a0 a2 a3 1 col.val slices_S4x147456_S1x147456_1_0 slices_S4x96x147456_S1x96x147456_1_0_0 slices_S4x256x3_S1x256x3_1_0_0 h4⟩,
      ⟨S1x256x96, imageOf a0 a2 a3 2 col.val slices_S4x147456_S1x147456_2_0 slices_S4x96x147456_S1x96x147456_2_0_0 slices_S4x256x3_S1x256x3_2_0_0 h4⟩,
      ⟨S1x256x96, imageOf a0 a2 a3 3 col.val slices_S4x147456_S1x147456_3_0 slices_S4x96x147456_S1x96x147456_3_0_0 slices_S4x256x3_S1x256x3_3_0_0 h4⟩] h
      = pooled a0 a2 a3 col := by
  funext i
  obtain ⟨b, k, c, rfl⟩ : ∃ (b : Fin 4) (k : Fin 256) (c : Fin 96), i = ix3 b k c := ⟨_, _, _, eq_ix3 i⟩
  rw [four_pieces]
  match b with
  | ⟨0, _⟩ => exact imageOf_at a0 r2 r3 0 col _ _ _ h4 k c
  | ⟨1, _⟩ => exact imageOf_at a0 r2 r3 1 col _ _ _ h4 k c
  | ⟨2, _⟩ => exact imageOf_at a0 r2 r3 2 col _ _ _ h4 k c
  | ⟨3, _⟩ => exact imageOf_at a0 r2 r3 3 col _ _ _ h4 k c

/-- The third column of the edges, as floats. -/
def kinds (a3 : IVec S4x256x3 32) : FVec Ideal S4x256 .f32 := sitofp .f32 (fun i : S4x256.Idx => a3 (ix3 (i 0) (i 1) (2 : Fin 3)))

def kindsOf (a3 : IVec S4x256x3 32) (b : Nat) (h3 : S4x256x3.Slices ![b, 0, 0] S1x256x3) : FVec Ideal S1x256 .f32 :=
  broadcastInDim S1x256 ![1] bcast_S256_S1x256_1 (sitofp .f32 (edgeCol (edgeRow a3 b h3) 2 slices_S256x3_S256x1_0_2))

theorem kindsOf_at (a3 : IVec S4x256x3 32) (b : Fin 4) (h3 : S4x256x3.Slices ![b.val, 0, 0] S1x256x3) (k : Fin 256) :
    kindsOf a3 b.val h3 (ix2 (0 : Fin 1) k) = kinds a3 (ix2 b k) := by
  unfold kindsOf
  refine (broadcastInDim_apply (s := S256) (t := S1x256) _ _ _ _ (ix1 k) fun a => ?_).trans ?_
  · match a with
    | ⟨0, _⟩ => rfl
  · show FloatOps.sitofp (F := Ideal) .f32 (edgeCol (edgeRow a3 b.val h3) 2 slices_S256x3_S256x1_0_2 (ix1 k)) = _
    rw [show edgeCol (edgeRow a3 b.val h3) 2 slices_S256x3_S256x1_0_2 (ix1 k) = a3 (ix3 b k 2) from (edgeCol_at _ 2 slices_S256x3_S256x1_0_2 k).trans (edgeRow_at a3 b h3 k 2)]
    rfl

theorem kinds_eq (a3 : IVec S4x256x3 32) (h) :
    concatenate S4x256 0 [⟨S1x256, kindsOf a3 0 slices_S4x256x3_S1x256x3_0_0_0⟩, ⟨S1x256, kindsOf a3 1 slices_S4x256x3_S1x256x3_1_0_0⟩,
      ⟨S1x256, kindsOf a3 2 slices_S4x256x3_S1x256x3_2_0_0⟩, ⟨S1x256, kindsOf a3 3 slices_S4x256x3_S1x256x3_3_0_0⟩] h = kinds a3 := by
  funext i
  obtain ⟨b, k, rfl⟩ : ∃ (b : Fin 4) (k : Fin 256), i = ix2 b k := ⟨_, _, eq_ix2 i⟩
  rw [four_rows]
  match b with
  | ⟨0, _⟩ => exact kindsOf_at a3 0 _ k
  | ⟨1, _⟩ => exact kindsOf_at a3 1 _ k
  | ⟨2, _⟩ => exact kindsOf_at a3 2 _ k
  | ⟨3, _⟩ => exact kindsOf_at a3 3 _ k

end Cert.Proof.Pool

end
-- ==== Proof.Algebraic.lean ====
/-
  The kernel's results index by index, and the equality of the two programs' results.
-/
module

public import proofs.«01_k».proof.Proof.Frames
public import proofs.«01_k».proof.Proof.RefValue

@[expose] public section

noncomputable section

namespace Cert.Proof.Pool

open Cert.KernelIdeal Cert.KernelIdeal.Gen

open Idealize.ShloMosaic Idealize.ShloMosaic.ValueIdx Idealize.ShloMosaic.Routing Idealize.SL.Sem

/-! ## Every edge end has a pixel -/

/-- A left fold by `or` over `i1` words that came out 1 started at 1 or met a 1. -/
theorem foldl_ori_one {ι : Type} (f : ι → BitVec 1) :
    ∀ (l : List ι) (init : BitVec 1), l.foldl (fun r n => IntOp.ori r (f n)) init = 1#1 → init = 1#1 ∨ ∃ n ∈ l, f n = 1#1
  | [], _, h => .inl h
  | a :: l, init, h => by
    rcases foldl_ori_one f l _ h with h1 | ⟨n, hn, h1⟩
    · have key : ∀ x y : BitVec 1, IntOp.ori x y = 1#1 → x = 1#1 ∨ y = 1#1 := by decide
      rcases key _ _ h1 with h2 | h2
      · exact .inl h2
      · exact .inr ⟨a, List.mem_cons_self .., h2⟩
    · exact .inr ⟨n, List.mem_cons_of_mem _ hn, h1⟩

/-- A reduction by `or`, from 0, that is 1 at `j` met a 1 at an index that reduces into `j`. -/
theorem reduce_ori_one {s t u : Shape} {axes : List (Fin s.rank)} (x : s.Idx → BitVec 1) (init : u.Idx → BitVec 1) (h : s.ReducesTo axes t) (hu : 0 < u.numel)
    (j : t.Idx) (hi : init (Shape.Idx.first hu) = 0#1) (e : Host.reduce IntOp.ori x init h hu j = 1#1) : ∃ i, h.drop i = j ∧ x i = 1#1 := by
  rw [Host.reduce_eq_foldl] at e
  rcases foldl_ori_one x _ _ e with h1 | ⟨n, hn, h1⟩
  · rw [hi] at h1; exact absurd h1 (by decide)
  · exact ⟨n, by simpa using (List.mem_filter.1 hn).2, h1⟩

/-- Every edge end of an image names a segment that has a pixel in it. -/
def Met (a2 : IVec S4x1x384x384 32) (a3 : IVec S4x256x3 32) : Prop :=
  ∀ (b : Fin 4) (k : Fin 256) (col : Fin 3), col.val < 2 → ∃ p, p < 147456 ∧ labG a2 b.val p = (a3 (ix3 b k col)).toNat

theorem met_of_pre {a0 : FVec Ideal S4x96x384x384 .f32} {a1 : IVec S4x1 32} {a2 : IVec S4x1x384x384 32} {a3 : IVec S4x256x3 32}
    (e : Cert.Pre_in_range_and_met.fn (F := Ideal) a0 a1 a2 a3 = fun _ => 1#1) : Met a2 a3 := by
  intro b k col hcol
  have hk := k.isLt
  have e2 := Host.reduce_andi_all _ _ _ _ _ (IntOp.andi_eq_one.1 (congrFun e fun a => a.elim0)).2 (ix2 b (⟨2 * k.val + col.val, by omega⟩ : Fin 512))
  obtain ⟨i, hd, hx⟩ := reduce_ori_one _ _ _ _ _ rfl e2
  obtain ⟨b', e', p, rfl⟩ : ∃ (b' : Fin 4) (e' : Fin 512) (p : Fin 147456), i = ix3 b' e' p := ⟨_, _, _, eq_ix3 i⟩
  have hb : b' = b := congrFun hd 0
  have he : e' = ⟨2 * k.val + col.val, by omega⟩ := congrFun hd 1
  subst hb he
  have hp := p.isLt
  refine ⟨p.val, hp, ?_⟩
  have hx' := eq_of_beq ((ofBool_eq_one _).1 hx)
  unfold labG
  refine congrArg BitVec.toNat (Eq.trans ?_ (hx'.symm.trans ?_))
  · refine ((broadcastInDim_apply _ _ _ _ (ix3 b' (0 : Fin 1) p) fun a => ?_).trans (shapeCast_apply _ _ _ _ ?_)).symm
    · match a with
      | ⟨0, _⟩ => rfl
      | ⟨1, _⟩ => rfl
      | ⟨2, _⟩ => rfl
    · rw [Shape.rowMajor_val_three, Shape.rowMajor_val_four]
      have := b'.isLt
      show ((b'.val % 4 * 1 + 0 % 1) * 384 + (p.val / 384) % 384) * 384 + (p.val % 384) % 384 = (b'.val * 1 + 0) * 147456 + p.val
      omega
  · refine (broadcastInDim_apply _ _ _ _ (ix3 b' (⟨2 * k.val + col.val, by omega⟩ : Fin 512) (0 : Fin 1)) fun a => ?_).trans
      ((shapeCast_apply _ _ _ (ix3 b' k (⟨col.val, hcol⟩ : Fin 2)) ?_).trans (extractStridedSlice_apply _ _ _ _ (ix3 b' k col) fun a => ?_))
    · match a with
      | ⟨0, _⟩ => rfl
      | ⟨1, _⟩ => rfl
      | ⟨2, _⟩ => rfl
    · rw [Shape.rowMajor_val_three, Shape.rowMajor_val_three]
      show (b'.val * 256 + k.val) * 2 + col.val = (b'.val * 512 + (2 * k.val + col.val)) * 1 + 0
      omega
    · match a with
      | ⟨0, _⟩ => exact (Nat.zero_add _).symm
      | ⟨1, _⟩ => exact (Nat.zero_add _).symm
      | ⟨2, _⟩ => exact (Nat.zero_add _).symm

theorem count_ne_zero {a2 : IVec S4x1x384x384 32} {a3 : IVec S4x256x3 32} (hm : Met a2 a3) (b : Fin 4) (k : Fin 256) (col : Fin 3) (hcol : col.val < 2) :
    segCount a2 b.val (a3 (ix3 b k col)).toNat ≠ 0 := by
  obtain ⟨p, hp, h⟩ := hm b k col hcol
  exact hit_one_ne_zero hp h

/-! ## The kernel's results -/

/-- A column of the edges in line, as the kernel's program lays it out. -/
theorem line_at (a3 : IVec S4x256x3 32) (col : Fin 3) (h : S4x256x3.Slices ![0, 0, col.val] S4x256x1) (b : Fin 4) (k : Fin 256) (n : S1024.Idx) (hn : (n 0).val = 256 * b.val + k.val) :
    shapeCast S1024 (shapeCast S4x256 (extractStridedSlice S4x256x1 ![0, 0, col.val] a3 h) shapeCasts_S4x256x1_S4x256) shapeCasts_S4x256_S1024 n = a3 (ix3 b k col) := by
  refine (shapeCast_apply _ _ _ (ix2 b k) ?_).trans ((shapeCast_apply _ _ _ (ix3 b k (0 : Fin 1)) ?_).trans (extractStridedSlice_apply _ _ _ _ (ix3 b k col) fun a => ?_))
  · rw [Shape.rowMajor_val_two, Shape.rowMajor_val_one, hn]
    show b.val * 256 + k.val = 256 * b.val + k.val
    omega
  · rw [Shape.rowMajor_val_two, Shape.rowMajor_val_three]
    show (b.val * 256 + k.val) * 1 + 0 = b.val * 256 + k.val
    omega
  · match a with
    | ⟨0, _⟩ => exact (Nat.zero_add _).symm
    | ⟨1, _⟩ => exact (Nat.zero_add _).symm
    | ⟨2, _⟩ => rfl

theorem outG_ix (g : Vec Ideal S4x1x384x384 .i32) (gx : Vec Ideal S4x96x384x384 .f32) (ln : Vec Ideal S1024 .i32) (n : Fin 98304) {b q r k : Nat}
    (hb : n.val / 24576 = b) (hq : n.val / 3072 % 8 = q) (hr : n.val % 3072 / 256 = r) (hk : n.val % 3072 % 256 = k) :
    outG g gx ln (ix1 n) = meanAt (tableF g gx b (12 * q)) r (ln (nix S1024 pos1024 ![256 * b + k]) : BitVec 32).toNat := by
  have e0 : ((ix1 n : S98304.Idx) 0).val = n.val := rfl
  have e1 : ∀ x, ((nix S3072 pos3072 ![x]) 0).val = x % 3072 := fun _ => rfl
  have e2 : ∀ x, ((nix S256 pos256 ![x]) 0).val = x % 256 := fun _ => rfl
  unfold outG edgeF edC pAt
  dsimp only
  rw [e0, e1, e2, Nat.mod_mod, Nat.mod_mod, hb, hq, hr, hk]

theorem outG_at {a0 : FVec Ideal S4x96x384x384 .f32} {a2 : IVec S4x1x384x384 32} {a3 : IVec S4x256x3 32} (hr : Ranges a2 a3) (hm : Met a2 a3) (col : Fin 3) (hcol : col.val < 2)
    (h : S4x256x3.Slices ![0, 0, col.val] S4x256x1) :
    transpose S4x256x96 [0, 2, 1] (shapeCast S4x96x256 (outG (F := Ideal) a2 a0 (shapeCast S1024 (shapeCast S4x256 (extractStridedSlice S4x256x1 ![0, 0, col.val] a3 h)
      shapeCasts_S4x256x1_S4x256) shapeCasts_S4x256_S1024)) shapeCasts_S98304_S4x96x256) transposes_S4x96x256_S4x256x96_0_2_1 = pooled a0 a2 a3 col := by
  funext i
  obtain ⟨b, k, c, rfl⟩ : ∃ (b : Fin 4) (k : Fin 256) (c : Fin 96), i = ix3 b k c := ⟨_, _, _, eq_ix3 i⟩
  have hb := b.isLt
  have hk := k.isLt
  have hc := c.isLt
  refine (transpose_apply (s := S4x96x256) (t := S4x256x96) _ _ _ _ (ix3 b c k) fun a => ?_).trans
    ((shapeCast_apply _ _ _ (ix1 (⟨(b.val * 96 + c.val) * 256 + k.val, by omega⟩ : Fin 98304)) ?_).trans ?_)
  · match a with
    | ⟨0, _⟩ => rfl
    | ⟨1, _⟩ => rfl
    | ⟨2, _⟩ => rfl
  · rw [Shape.rowMajor_val_three, Shape.rowMajor_val_one]
    rfl
  generalize hL : shapeCast S1024 (shapeCast S4x256 (extractStridedSlice S4x256x1 ![0, 0, col.val] a3 h) shapeCasts_S4x256x1_S4x256) shapeCasts_S4x256_S1024 = ln
  rw [outG_ix a2 a0 ln _ (show ((b.val * 96 + c.val) * 256 + k.val) / 24576 = b.val by omega) (show ((b.val * 96 + c.val) * 256 + k.val) / 3072 % 8 = c.val / 12 by omega)
    (show ((b.val * 96 + c.val) * 256 + k.val) % 3072 / 256 = c.val % 12 by omega) (show ((b.val * 96 + c.val) * 256 + k.val) % 3072 % 256 = k.val by omega)]
  have hl : ln (nix S1024 pos1024 ![256 * b.val + k.val]) = a3 (ix3 b k col) := by
    rw [← hL]
    exact line_at a3 col h b k _ (Nat.mod_eq_of_lt (show 256 * b.val + k.val < 1024 by omega))
  rw [hl]
  refine (meanAt_table a0 hr.1 b.val (12 * (c.val / 12)) (Nat.mod_lt _ (by decide)) (hr.2 _) (count_ne_zero hm b k col hcol)).trans ?_
  rw [show 12 * (c.val / 12) + c.val % 12 = c.val by omega]
  rfl

theorem kinds_kernel (a3 : IVec S4x256x3 32) :
    sitofp (F := Ideal) .f32 (shapeCast S4x256 (extractStridedSlice S4x256x1 ![0, 0, 2] a3 slices_S4x256x3_S4x256x1_0_0_2) shapeCasts_S4x256x1_S4x256) = kinds a3 := by
  funext i
  obtain ⟨b, k, rfl⟩ : ∃ (b : Fin 4) (k : Fin 256), i = ix2 b k := ⟨_, _, eq_ix2 i⟩
  refine congrArg (FloatOps.sitofp (F := Ideal) .f32) ((shapeCast_apply _ _ _ (ix3 b k (0 : Fin 1)) ?_).trans (extractStridedSlice_apply _ _ _ _ (ix3 b k (2 : Fin 3)) fun a => ?_))
  · rw [Shape.rowMajor_val_two, Shape.rowMajor_val_three]
    show (b.val * 256 + k.val) * 1 + 0 = b.val * 256 + k.val
    omega
  · match a with
    | ⟨0, _⟩ => exact (Nat.zero_add _).symm
    | ⟨1, _⟩ => exact (Nat.zero_add _).symm
    | ⟨2, _⟩ => rfl

section Ends

variable {m : (ℓ : Loc nD τ sig) → Buf (Elt Ideal) ℓ} (d : Dev nD)

theorem end_v11 (hr : Ranges (m (d, dr main_arg2)) (m (d, dr main_arg3))) (hm : Met (m (d, dr main_arg2)) (m (d, dr main_arg3))) :
    Vend m d (dr main_v11) = pooled (m (d, dr main_arg0)) (m (d, dr main_arg2)) (m (d, dr main_arg3)) 0 := by
  rw [Vend_v11]
  unfold outA
  rw [Vcall_arg2, Vcall_arg0, Vcall_v2]
  exact outG_at hr hm 0 (by decide) slices_S4x256x3_S4x256x1_0_0_0

theorem end_v13 (hr : Ranges (m (d, dr main_arg2)) (m (d, dr main_arg3))) (hm : Met (m (d, dr main_arg2)) (m (d, dr main_arg3))) :
    Vend m d (dr main_v13) = pooled (m (d, dr main_arg0)) (m (d, dr main_arg2)) (m (d, dr main_arg3)) 1 := by
  rw [Vend_v13]
  unfold outB
  rw [Vcall_arg2, Vcall_arg0, Vcall_v5]
  exact outG_at hr hm 1 (by decide) slices_S4x256x3_S4x256x1_0_0_1

theorem end_v8 : Vend m d (dr main_v8) = kinds (m (d, dr main_arg3)) := by
  rw [Vend_v8, Vcall_v8]
  exact kinds_kernel _

end Ends

/-! ## The two programs -/

theorem algebraic : Cert.algebraic_KernelIdeal_ReferenceIdeal_pre_in_range_and_met := by
  intro m g m' g' hpre hagree
  have hr : ∀ d : Dev nD, Ranges (m (d, dr main_arg2)) (m (d, dr main_arg3)) := fun d => ranges_of_met (hpre d)
  have hm : ∀ d : Dev nD, Met (m (d, dr main_arg2)) (m (d, dr main_arg3)) := fun d => met_of_pre (hpre d)
  refine ⟨fun d => pooled (m (d, dr main_arg0)) (m (d, dr main_arg2)) (m (d, dr main_arg3)) 0, fun d => pooled (m (d, dr main_arg0)) (m (d, dr main_arg2)) (m (d, dr main_arg3)) 1,
    fun d => kinds (m (d, dr main_arg3)), ?_, ?_⟩
  · refine (θ_run (Cert.KernelIdeal.defs (F := Ideal)) _ _).mono (fun r h d => ?_) (run_main (F := Ideal) m g (inRange_of_ranges m hr))
    exact ⟨(h.1 d _ (mem_SU main_v11 (by decide))).trans (end_v11 d (hr d) (hm d)), (h.1 d _ (mem_SU main_v13 (by decide))).trans (end_v13 d (hr d) (hm d)),
      (h.1 d _ (mem_SU main_v8 (by decide))).trans (end_v8 d), args_of_QC h d⟩
  · refine (θ_run (Cert.ReferenceIdeal.defs (F := Ideal)) _ _).mono (fun r h d => ?_) (Cert.ReferenceIdeal.Value.run m' g')
    obtain ⟨h0, h1, h2, ha⟩ := h d
    obtain ⟨e0, -, e2, e3⟩ := hagree d
    have pe : ∀ col, pooled (m' ((d.tc : Thread nD τ).loc Cert.ReferenceIdeal.main_arg0)) (m' ((d.tc : Thread nD τ).loc Cert.ReferenceIdeal.main_arg2))
        (m' ((d.tc : Thread nD τ).loc Cert.ReferenceIdeal.main_arg3)) col = pooled (m (d, dr main_arg0)) (m (d, dr main_arg2)) (m (d, dr main_arg3)) col :=
      fun col => congrFun (congr (congrArg₂ pooled e0 e2) e3) col
    have r2 : ∀ i, (m' ((d.tc : Thread nD τ).loc Cert.ReferenceIdeal.main_arg2) i : BitVec 32).toNat < 1024 := fun i =>
      lt_of_eq_of_lt (congrArg BitVec.toNat (congrFun e2 i)) ((hr d).1 i)
    have r3 : ∀ i, (m' ((d.tc : Thread nD τ).loc Cert.ReferenceIdeal.main_arg3) i : BitVec 32).toNat < 1024 := fun i =>
      lt_of_eq_of_lt (congrArg BitVec.toNat (congrFun e3 i)) ((hr d).2 i)
    exact ⟨h0.trans ((images_eq _ r2 r3 0 Cert.ReferenceIdeal.Gen.slices_S256x3_S256x1_0_0 _).trans (pe 0)),
      h1.trans ((images_eq _ r2 r3 1 Cert.ReferenceIdeal.Gen.slices_S256x3_S256x1_0_1 _).trans (pe 1)), h2.trans ((kinds_eq _ _).trans (congrArg kinds e3)), ha⟩

end Cert.Proof.Pool

end
-- ==== Proof.lean ====
/-
  The claim: the frames of the three programs, that the two kernel programs are the same, and that the kernel's
  results are the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_and_met
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_in_range_and_met.Gen.facts,
  Pool.frame_kernel, Pool.frame_ideal, Pool.frame_ideal_met, Pool.frame_reference, Pool.frame_reference_met, trivial, Pool.algebraic⟩

end Cert.Proof

end
